-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S4096x7168 : Shape := ⟨2, ![4096, 7168]⟩
abbrev S256x14336 : Shape := ⟨2, ![256, 14336]⟩
abbrev S_ : Shape := ⟨0, ![]⟩
abbrev S1x1 : Shape := ⟨2, ![1, 1]⟩
abbrev S128x4096 : Shape := ⟨2, ![128, 4096]⟩
abbrev S128x14336 : Shape := ⟨2, ![128, 14336]⟩
abbrev S128x2048 : Shape := ⟨2, ![128, 2048]⟩
abbrev S128x256 : Shape := ⟨2, ![128, 256]⟩
abbrev S28x4096x256 : Shape := ⟨3, ![28, 4096, 256]⟩
abbrev S28x256x512 : Shape := ⟨3, ![28, 256, 512]⟩
abbrev S2x256x256 : Shape := ⟨3, ![2, 256, 256]⟩
abbrev S28x128x512 : Shape := ⟨3, ![28, 128, 512]⟩
abbrev S28 : Shape := ⟨1, ![28]⟩
abbrev S1 : Shape := ⟨1, ![1]⟩
abbrev S1x4096x256 : Shape := ⟨3, ![1, 4096, 256]⟩
abbrev S4096x256 : Shape := ⟨2, ![4096, 256]⟩
abbrev S1x256x512 : Shape := ⟨3, ![1, 256, 512]⟩
abbrev S256x512 : Shape := ⟨2, ![256, 512]⟩
abbrev S128x128 : Shape := ⟨2, ![128, 128]⟩
abbrev S1x128x128 : Shape := ⟨3, ![1, 128, 128]⟩
abbrev S1x1x1 : Shape := ⟨3, ![1, 1, 1]⟩
abbrev S128x128x1 : Shape := ⟨3, ![128, 128, 1]⟩
abbrev S32x256 : Shape := ⟨2, ![32, 256]⟩
abbrev S32x128 : Shape := ⟨2, ![32, 128]⟩
abbrev S32x128x1 : Shape := ⟨3, ![32, 128, 1]⟩
abbrev S256x128 : Shape := ⟨2, ![256, 128]⟩
abbrev S256x128x1 : Shape := ⟨3, ![256, 128, 1]⟩
abbrev S256x256 : Shape := ⟨2, ![256, 256]⟩
abbrev S1x256x256 : Shape := ⟨3, ![1, 256, 256]⟩
abbrev S64x256 : Shape := ⟨2, ![64, 256]⟩
abbrev S1x1x256 : Shape := ⟨3, ![1, 1, 256]⟩
abbrev S1x256 : Shape := ⟨2, ![1, 256]⟩
abbrev S16x256 : Shape := ⟨2, ![16, 256]⟩
abbrev S128x512 : Shape := ⟨2, ![128, 512]⟩
abbrev S1x128x512 : Shape := ⟨3, ![1, 128, 512]⟩

abbrev nBuf : Space → Nat
  | .hbm => 10
  | .vmem => 9
  | .smem => 2
  | _ => 0

abbrev bufTy : (tb : Table) → Fin (tcTables nBuf tb) → BufTy
  | .hbm, ⟨0, _⟩ => ⟨S1x128x4096, .bf16⟩
  | .hbm, ⟨1, _⟩ => ⟨S4096x7168, .i8⟩
  | .hbm, ⟨2, _⟩ => ⟨S256x14336, .fp8e4m3⟩
  | .hbm, ⟨3, _⟩ => ⟨S_, .f32⟩
  | .hbm, ⟨4, _⟩ => ⟨S1x1, .f32⟩
  | .hbm, ⟨5, _⟩ => ⟨S128x4096, .bf16⟩
  | .hbm, ⟨6, _⟩ => ⟨S128x14336, .bf16⟩
  | .hbm, ⟨7, _⟩ => ⟨S128x2048, .i8⟩
  | .hbm, ⟨8, _⟩ => ⟨S128x256, .fp8e4m3⟩
  | .hbm, ⟨9, _⟩ => ⟨S1x1, .f32⟩
  | .local _ .vmem, ⟨0, _⟩ => ⟨S128x4096, .bf16⟩
  | .local _ .vmem, ⟨1, _⟩ => ⟨S28x4096x256, .i8⟩
  | .local _ .vmem, ⟨2, _⟩ => ⟨S28x256x512, .fp8e4m3⟩
  | .local _ .vmem, ⟨3, _⟩ => ⟨S128x4096, .bf16⟩
  | .local _ .vmem, ⟨4, _⟩ => ⟨S128x4096, .i8⟩
  | .local _ .vmem, ⟨5, _⟩ => ⟨S128x2048, .i8⟩
  | .local _ .vmem, ⟨6, _⟩ => ⟨S128x256, .fp8e4m3⟩
  | .local _ .vmem, ⟨7, _⟩ => ⟨S2x256x256, .f32⟩
  | .local _ .vmem, ⟨8, _⟩ => ⟨S28x128x512, .bf16⟩
  | .local _ .smem, ⟨0, _⟩ => ⟨S1x1, .f32⟩
  | .local _ .smem, ⟨1, _⟩ => ⟨S1x1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_5 : BitVec 32 := 0#32
  c0_i32_5
def k0_mult3 : BitVec 32 :=
  let c256_i32 : BitVec 32 := 256#32
  c256_i32
def k0_mult4 : BitVec 32 :=
  let c512_i32 : BitVec 32 := 512#32
  c512_i32
def k0_mult5 : BitVec 32 :=
  let c512_i32_20 : BitVec 32 := 512#32
  c512_i32_20
def k0_mult6 : BitVec 32 :=
  let c1024_i32 : BitVec 32 := 1024#32
  c1024_i32
def k0_mult7 : BitVec 32 :=
  let c768_i32 : BitVec 32 := 768#32
  c768_i32
def k0_mult8 : BitVec 32 :=
  let c1536_i32 : BitVec 32 := 1536#32
  c1536_i32
def k0_mult9 : BitVec 32 :=
  let c1024_i32_39 : BitVec 32 := 1024#32
  c1024_i32_39
def k0_mult10 : BitVec 32 :=
  let c2048_i32 : BitVec 32 := 2048#32
  c2048_i32
def k0_mult11 : BitVec 32 :=
  let c1280_i32 : BitVec 32 := 1280#32
  c1280_i32
def k0_mult12 : BitVec 32 :=
  let c2560_i32 : BitVec 32 := 2560#32
  c2560_i32
def k0_mult13 : BitVec 32 :=
  let c1536_i32_58 : BitVec 32 := 1536#32
  c1536_i32_58
def k0_mult14 : BitVec 32 :=
  let c3072_i32 : BitVec 32 := 3072#32
  c3072_i32
def k0_mult15 : BitVec 32 :=
  let c1792_i32 : BitVec 32 := 1792#32
  c1792_i32
def k0_mult16 : BitVec 32 :=
  let c3584_i32 : BitVec 32 := 3584#32
  c3584_i32
def k0_mult17 : BitVec 32 :=
  let c2048_i32_77 : BitVec 32 := 2048#32
  c2048_i32_77
def k0_mult18 : BitVec 32 :=
  let c4096_i32 : BitVec 32 := 4096#32
  c4096_i32
def k0_mult19 : BitVec 32 :=
  let c2304_i32 : BitVec 32 := 2304#32
  c2304_i32
def k0_mult20 : BitVec 32 :=
  let c4608_i32 : BitVec 32 := 4608#32
  c4608_i32
def k0_mult21 : BitVec 32 :=
  let c2560_i32_96 : BitVec 32 := 2560#32
  c2560_i32_96
def k0_mult22 : BitVec 32 :=
  let c5120_i32 : BitVec 32 := 5120#32
  c5120_i32
def k0_mult23 : BitVec 32 :=
  let c2816_i32 : BitVec 32 := 2816#32
  c2816_i32
def k0_mult24 : BitVec 32 :=
  let c5632_i32 : BitVec 32 := 5632#32
  c5632_i32
def k0_mult25 : BitVec 32 :=
  let c3072_i32_115 : BitVec 32 := 3072#32
  c3072_i32_115
def k0_mult26 : BitVec 32 :=
  let c6144_i32 : BitVec 32 := 6144#32
  c6144_i32
def k0_mult27 : BitVec 32 :=
  let c3328_i32 : BitVec 32 := 3328#32
  c3328_i32
def k0_mult28 : BitVec 32 :=
  let c6656_i32 : BitVec 32 := 6656#32
  c6656_i32
def k0_mult29 : BitVec 32 :=
  let c3584_i32_134 : BitVec 32 := 3584#32
  c3584_i32_134
def k0_mult30 : BitVec 32 :=
  let c7168_i32 : BitVec 32 := 7168#32
  c7168_i32
def k0_mult31 : BitVec 32 :=
  let c3840_i32 : BitVec 32 := 3840#32
  c3840_i32
def k0_mult32 : BitVec 32 :=
  let c7680_i32 : BitVec 32 := 7680#32
  c7680_i32
def k0_mult33 : BitVec 32 :=
  let c4096_i32_153 : BitVec 32 := 4096#32
  c4096_i32_153
def k0_mult34 : BitVec 32 :=
  let c8192_i32 : BitVec 32 := 8192#32
  c8192_i32
def k0_mult35 : BitVec 32 :=
  let c4352_i32 : BitVec 32 := 4352#32
  c4352_i32
def k0_mult36 : BitVec 32 :=
  let c8704_i32 : BitVec 32 := 8704#32
  c8704_i32
def k0_mult37 : BitVec 32 :=
  let c4608_i32_172 : BitVec 32 := 4608#32
  c4608_i32_172
def k0_mult38 : BitVec 32 :=
  let c9216_i32 : BitVec 32 := 9216#32
  c9216_i32
def k0_mult39 : BitVec 32 :=
  let c4864_i32 : BitVec 32 := 4864#32
  c4864_i32
def k0_mult40 : BitVec 32 :=
  let c9728_i32 : BitVec 32 := 9728#32
  c9728_i32
def k0_mult41 : BitVec 32 :=
  let c5120_i32_191 : BitVec 32 := 5120#32
  c5120_i32_191
def k0_mult42 : BitVec 32 :=
  let c10240_i32 : BitVec 32 := 10240#32
  c10240_i32
def k0_mult43 : BitVec 32 :=
  let c5376_i32 : BitVec 32 := 5376#32
  c5376_i32
def k0_mult44 : BitVec 32 :=
  let c10752_i32 : BitVec 32 := 10752#32
  c10752_i32
def k0_mult45 : BitVec 32 :=
  let c5632_i32_210 : BitVec 32 := 5632#32
  c5632_i32_210
def k0_mult46 : BitVec 32 :=
  let c11264_i32 : BitVec 32 := 11264#32
  c11264_i32
def k0_mult47 : BitVec 32 :=
  let c5888_i32 : BitVec 32 := 5888#32
  c5888_i32
def k0_mult48 : BitVec 32 :=
  let c11776_i32 : BitVec 32 := 11776#32
  c11776_i32
def k0_mult49 : BitVec 32 :=
  let c6144_i32_229 : BitVec 32 := 6144#32
  c6144_i32_229
def k0_mult50 : BitVec 32 :=
  let c12288_i32 : BitVec 32 := 12288#32
  c12288_i32
def k0_mult51 : BitVec 32 :=
  let c6400_i32 : BitVec 32 := 6400#32
  c6400_i32
def k0_mult52 : BitVec 32 :=
  let c12800_i32 : BitVec 32 := 12800#32
  c12800_i32
def k0_mult53 : BitVec 32 :=
  let c6656_i32_248 : BitVec 32 := 6656#32
  c6656_i32_248
def k0_mult54 : BitVec 32 :=
  let c13312_i32 : BitVec 32 := 13312#32
  c13312_i32
def k0_mult55 : BitVec 32 :=
  let c6912_i32 : BitVec 32 := 6912#32
  c6912_i32
def k0_mult56 : BitVec 32 :=
  let c13824_i32 : BitVec 32 := 13824#32
  c13824_i32
@[reducible] def k0_t1_loop : Scf.Loop 32 :=
  let c0_i32_3567_r0 : BitVec 32 := 0#32
  let c14_i32_3568_r0 : BitVec 32 := 14#32
  let v9412_r0 : BitVec 32 := Scalar.addi c0_i32_3567_r0 c14_i32_3568_r0
  let c1_i32_3569_r0 : BitVec 32 := 1#32
  ⟨c0_i32_3567_r0, v9412_r0, c1_i32_3569_r0⟩
def k0_mult57 (k0_t1 : Fin k0_t1_loop.trips) : BitVec 32 :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let c0_i32_3574_r0 : BitVec 32 := 0#32
  let v9416_r0 : BitVec 32 := Scalar.addi v9415_r0 c0_i32_3574_r0
  let c256_i32_3575_r0 : BitVec 32 := 256#32
  let v9417_r0 : BitVec 32 := Scalar.muli v9416_r0 c256_i32_3575_r0
  v9417_r0
def k0_off1 (k0_t1 : Fin k0_t1_loop.trips) (c0_i32_3574_r0 : BitVec 32) : Fin 1 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  ![v9416_r0.toNat]
def k0_off2 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let c0_i32_3576_r0 : BitVec 32 := 0#32
  let c0_i32_3577_r0 : BitVec 32 := 0#32
  ![v9416_r0.toNat, 0, 0]
def k0_off3 (k0_t1 : Fin k0_t1_loop.trips) (c0_i32_3574_r0 : BitVec 32) : Fin 2 → Nat :=
  let c0_i32_3578_r0 : BitVec 32 := 0#32
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let c256_i32_3575_r0 : BitVec 32 := 256#32
  let v9417_r0 : BitVec 32 := Scalar.muli v9416_r0 c256_i32_3575_r0
  let v9418_r0 : BitVec 32 := v9417_r0
  ![0, v9418_r0.toNat]
def k0_mult58 (k0_t1 : Fin k0_t1_loop.trips) : BitVec 32 :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let c0_i32_3574_r0 : BitVec 32 := 0#32
  let v9416_r0 : BitVec 32 := Scalar.addi v9415_r0 c0_i32_3574_r0
  let c2_i32_3579_r0 : BitVec 32 := 2#32
  let v9424_r0 : BitVec 32 := Scalar.muli v9416_r0 c2_i32_3579_r0
  let c256_i32_3580_r0 : BitVec 32 := 256#32
  let v9425_r0 : BitVec 32 := Scalar.muli v9424_r0 c256_i32_3580_r0
  v9425_r0
def k0_off4 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let c0_i32_3581_r0 : BitVec 32 := 0#32
  let c0_i32_3582_r0 : BitVec 32 := 0#32
  ![v9416_r0.toNat, 0, 0]
def k0_off5 (k0_t1 : Fin k0_t1_loop.trips) (c0_i32_3574_r0 : BitVec 32) : Fin 2 → Nat :=
  let c0_i32_3583_r0 : BitVec 32 := 0#32
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let c2_i32_3579_r0 : BitVec 32 := 2#32
  let v9424_r0 : BitVec 32 := Scalar.muli v9416_r0 c2_i32_3579_r0
  let c256_i32_3580_r0 : BitVec 32 := 256#32
  let v9425_r0 : BitVec 32 := Scalar.muli v9424_r0 c256_i32_3580_r0
  let v9426_r0 : BitVec 32 := v9425_r0
  ![0, v9426_r0.toNat]
def k0_off6 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v9432_r0 : Index := Scalar.indexCast v9416_r0
  let c0_3584_r0 : Index := 0#32
  let c0_3585_r0 : Index := 0#32
  ![v9432_r0.toNat, 0, 0]
def k0_off7 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v9542_r0 : Index := Scalar.indexCast v9416_r0
  let c0_3617_r0 : Index := 0#32
  let c0_3618_r0 : Index := 0#32
  ![v9542_r0.toNat, 0, 0]
def k0_off8 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v9848_r0 : Index := Scalar.indexCast v9416_r0
  let c256_3738_r0 : Index := 256#32
  let c0_3739_r0 : Index := 0#32
  ![v9848_r0.toNat, 256, 0]
def k0_off9 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v10154_r0 : Index := Scalar.indexCast v9416_r0
  let c512_3857_r0 : Index := 512#32
  let c0_3858_r0 : Index := 0#32
  ![v10154_r0.toNat, 512, 0]
def k0_off10 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v10460_r0 : Index := Scalar.indexCast v9416_r0
  let c768_3976_r0 : Index := 768#32
  let c0_3977_r0 : Index := 0#32
  ![v10460_r0.toNat, 768, 0]
def k0_off11 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v10766_r0 : Index := Scalar.indexCast v9416_r0
  let c1024_4095_r0 : Index := 1024#32
  let c0_4096_r0 : Index := 0#32
  ![v10766_r0.toNat, 1024, 0]
def k0_off12 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v11072_r0 : Index := Scalar.indexCast v9416_r0
  let c1280_4214_r0 : Index := 1280#32
  let c0_4215_r0 : Index := 0#32
  ![v11072_r0.toNat, 1280, 0]
def k0_off13 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v11378_r0 : Index := Scalar.indexCast v9416_r0
  let c1536_4333_r0 : Index := 1536#32
  let c0_4334_r0 : Index := 0#32
  ![v11378_r0.toNat, 1536, 0]
def k0_off14 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v11684_r0 : Index := Scalar.indexCast v9416_r0
  let c1792_4452_r0 : Index := 1792#32
  let c0_4453_r0 : Index := 0#32
  ![v11684_r0.toNat, 1792, 0]
def k0_off15 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v11990_r0 : Index := Scalar.indexCast v9416_r0
  let c2048_4571_r0 : Index := 2048#32
  let c0_4572_r0 : Index := 0#32
  ![v11990_r0.toNat, 2048, 0]
def k0_off16 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v12296_r0 : Index := Scalar.indexCast v9416_r0
  let c2304_4691_r0 : Index := 2304#32
  let c0_4692_r0 : Index := 0#32
  ![v12296_r0.toNat, 2304, 0]
def k0_off17 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v12602_r0 : Index := Scalar.indexCast v9416_r0
  let c2560_4810_r0 : Index := 2560#32
  let c0_4811_r0 : Index := 0#32
  ![v12602_r0.toNat, 2560, 0]
def k0_off18 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v12908_r0 : Index := Scalar.indexCast v9416_r0
  let c2816_4929_r0 : Index := 2816#32
  let c0_4930_r0 : Index := 0#32
  ![v12908_r0.toNat, 2816, 0]
def k0_off19 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v13214_r0 : Index := Scalar.indexCast v9416_r0
  let c3072_5048_r0 : Index := 3072#32
  let c0_5049_r0 : Index := 0#32
  ![v13214_r0.toNat, 3072, 0]
def k0_off20 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v13520_r0 : Index := Scalar.indexCast v9416_r0
  let c3328_5167_r0 : Index := 3328#32
  let c0_5168_r0 : Index := 0#32
  ![v13520_r0.toNat, 3328, 0]
def k0_off21 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v13826_r0 : Index := Scalar.indexCast v9416_r0
  let c3584_5286_r0 : Index := 3584#32
  let c0_5287_r0 : Index := 0#32
  ![v13826_r0.toNat, 3584, 0]
def k0_off22 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v14132_r0 : Index := Scalar.indexCast v9416_r0
  let c3840_5405_r0 : Index := 3840#32
  let c0_5406_r0 : Index := 0#32
  ![v14132_r0.toNat, 3840, 0]
def k0_off23 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let v14563_r0 : Index := Scalar.indexCast v9416_r0
  let c0_5556_r0 : Index := 0#32
  let c0_5557_r0 : Index := 0#32
  ![v14563_r0.toNat, 0, 0]
def k0_mult59 (k0_t1 : Fin k0_t1_loop.trips) : BitVec 32 :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let c0_i32_3574_r0 : BitVec 32 := 0#32
  let v9416_r0 : BitVec 32 := Scalar.addi v9415_r0 c0_i32_3574_r0
  let c2_i32_5558_r0 : BitVec 32 := 2#32
  let v14567_r0 : BitVec 32 := Scalar.muli v9416_r0 c2_i32_5558_r0
  let c256_i32_5559_r0 : BitVec 32 := 256#32
  let v14568_r0 : BitVec 32 := Scalar.muli v14567_r0 c256_i32_5559_r0
  v14568_r0
def k0_off24 (k0_t1 : Fin k0_t1_loop.trips) (c0_i32_3574_r0 : BitVec 32) : Fin 2 → Nat :=
  let c0_i32_5560_r0 : BitVec 32 := 0#32
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let c2_i32_5558_r0 : BitVec 32 := 2#32
  let v14567_r0 : BitVec 32 := Scalar.muli v9416_r0 c2_i32_5558_r0
  let c256_i32_5559_r0 : BitVec 32 := 256#32
  let v14568_r0 : BitVec 32 := Scalar.muli v14567_r0 c256_i32_5559_r0
  let v14569_r0 : BitVec 32 := v14568_r0
  ![0, v14569_r0.toNat]
def k0_off25 (k0_t1 : Fin k0_t1_loop.trips) (c0_i32_3574_r0 : BitVec 32) : Fin 3 → Nat :=
  let c2_i32_3573_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v9415_r0 : BitVec 32 := Scalar.muli c2_i32_3573_r0 v9414_r0
  let v9416_r0 : BitVec 32 := Scalar.addi v9415_r0 c0_i32_3574_r0
  let c0_i32_5561_r0 : BitVec 32 := 0#32
  let c0_i32_5562_r0 : BitVec 32 := 0#32
  ![v9416_r0.toNat, 0, 0]
def k0_mult60 (k0_t1 : Fin k0_t1_loop.trips) : BitVec 32 :=
  let c2_i32_5563_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v14575_r0 : BitVec 32 := Scalar.muli c2_i32_5563_r0 v9414_r0
  let c1_i32_5564_r0 : BitVec 32 := 1#32
  let v14576_r0 : BitVec 32 := Scalar.addi v14575_r0 c1_i32_5564_r0
  let c256_i32_5565_r0 : BitVec 32 := 256#32
  let v14577_r0 : BitVec 32 := Scalar.muli v14576_r0 c256_i32_5565_r0
  v14577_r0
def k0_mult61 (k0_t1 : Fin k0_t1_loop.trips) : BitVec 32 :=
  let c2_i32_5563_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v14575_r0 : BitVec 32 := Scalar.muli c2_i32_5563_r0 v9414_r0
  let c1_i32_5564_r0 : BitVec 32 := 1#32
  let v14576_r0 : BitVec 32 := Scalar.addi v14575_r0 c1_i32_5564_r0
  let c2_i32_5569_r0 : BitVec 32 := 2#32
  let v14584_r0 : BitVec 32 := Scalar.muli v14576_r0 c2_i32_5569_r0
  let c256_i32_5570_r0 : BitVec 32 := 256#32
  let v14585_r0 : BitVec 32 := Scalar.muli v14584_r0 c256_i32_5570_r0
  v14585_r0
def k0_mult62 (k0_t1 : Fin k0_t1_loop.trips) : BitVec 32 :=
  let c2_i32_5563_r0 : BitVec 32 := 2#32
  let c0_i32_3572_r0 : BitVec 32 := 0#32
  let c0_i32_3567_r0 : BitVec 32 := 0#32
  let c1_i32_3569_r0 : BitVec 32 := 1#32
  let arg23_r0 : BitVec 32 := Scf.iv c0_i32_3567_r0 c1_i32_3569_r0 k0_t1
  let c1_i32_3571_r0 : BitVec 32 := 1#32
  let v9413_r0 : BitVec 32 := Scalar.muli arg23_r0 c1_i32_3571_r0
  let v9414_r0 : BitVec 32 := Scalar.addi c0_i32_3572_r0 v9413_r0
  let v14575_r0 : BitVec 32 := Scalar.muli c2_i32_5563_r0 v9414_r0
  let c1_i32_5564_r0 : BitVec 32 := 1#32
  let v14576_r0 : BitVec 32 := Scalar.addi v14575_r0 c1_i32_5564_r0
  let c2_i32_7802_r0 : BitVec 32 := 2#32
  let v19727_r0 : BitVec 32 := Scalar.muli v14576_r0 c2_i32_7802_r0
  let c256_i32_7803_r0 : BitVec 32 := 256#32
  let v19728_r0 : BitVec 32 := Scalar.muli v19727_r0 c256_i32_7803_r0
  v19728_r0
def k0_mult63 : BitVec 32 :=
  let c0_i32_3399 : BitVec 32 := 0#32
  c0_i32_3399
def k0_mult64 : BitVec 32 :=
  let c512_i32_3405 : BitVec 32 := 512#32
  c512_i32_3405
def k0_mult65 : BitVec 32 :=
  let c1024_i32_3411 : BitVec 32 := 1024#32
  c1024_i32_3411
def k0_mult66 : BitVec 32 :=
  let c1536_i32_3417 : BitVec 32 := 1536#32
  c1536_i32_3417
def k0_mult67 : BitVec 32 :=
  let c2048_i32_3423 : BitVec 32 := 2048#32
  c2048_i32_3423
def k0_mult68 : BitVec 32 :=
  let c2560_i32_3429 : BitVec 32 := 2560#32
  c2560_i32_3429
def k0_mult69 : BitVec 32 :=
  let c3072_i32_3435 : BitVec 32 := 3072#32
  c3072_i32_3435
def k0_mult70 : BitVec 32 :=
  let c3584_i32_3441 : BitVec 32 := 3584#32
  c3584_i32_3441
def k0_mult71 : BitVec 32 :=
  let c4096_i32_3447 : BitVec 32 := 4096#32
  c4096_i32_3447
def k0_mult72 : BitVec 32 :=
  let c4608_i32_3453 : BitVec 32 := 4608#32
  c4608_i32_3453
def k0_mult73 : BitVec 32 :=
  let c5120_i32_3459 : BitVec 32 := 5120#32
  c5120_i32_3459
def k0_mult74 : BitVec 32 :=
  let c5632_i32_3465 : BitVec 32 := 5632#32
  c5632_i32_3465
def k0_mult75 : BitVec 32 :=
  let c6144_i32_3471 : BitVec 32 := 6144#32
  c6144_i32_3471
def k0_mult76 : BitVec 32 :=
  let c6656_i32_3477 : BitVec 32 := 6656#32
  c6656_i32_3477
def k0_mult77 : BitVec 32 :=
  let c7168_i32_3483 : BitVec 32 := 7168#32
  c7168_i32_3483
def k0_mult78 : BitVec 32 :=
  let c7680_i32_3489 : BitVec 32 := 7680#32
  c7680_i32_3489
def k0_mult79 : BitVec 32 :=
  let c8192_i32_3495 : BitVec 32 := 8192#32
  c8192_i32_3495
def k0_mult80 : BitVec 32 :=
  let c8704_i32_3501 : BitVec 32 := 8704#32
  c8704_i32_3501
def k0_mult81 : BitVec 32 :=
  let c9216_i32_3507 : BitVec 32 := 9216#32
  c9216_i32_3507
def k0_mult82 : BitVec 32 :=
  let c9728_i32_3513 : BitVec 32 := 9728#32
  c9728_i32_3513
def k0_mult83 : BitVec 32 :=
  let c10240_i32_3519 : BitVec 32 := 10240#32
  c10240_i32_3519
def k0_mult84 : BitVec 32 :=
  let c10752_i32_3525 : BitVec 32 := 10752#32
  c10752_i32_3525
def k0_mult85 : BitVec 32 :=
  let c11264_i32_3531 : BitVec 32 := 11264#32
  c11264_i32_3531
def k0_mult86 : BitVec 32 :=
  let c11776_i32_3537 : BitVec 32 := 11776#32
  c11776_i32_3537
def k0_mult87 : BitVec 32 :=
  let c12288_i32_3543 : BitVec 32 := 12288#32
  c12288_i32_3543
def k0_mult88 : BitVec 32 :=
  let c12800_i32_3549 : BitVec 32 := 12800#32
  c12800_i32_3549
def k0_mult89 : BitVec 32 :=
  let c13312_i32_3555 : BitVec 32 := 13312#32
  c13312_i32_3555
def k0_mult90 : BitVec 32 :=
  let c13824_i32_3561 : BitVec 32 := 13824#32
  c13824_i32_3561
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x128x4096 : Shape := ⟨3, ![1, 128, 4096]⟩
abbrev S4096x7168 : Shape := ⟨2, ![4096, 7168]⟩
abbrev S256x14336 : Shape := ⟨2, ![256, 14336]⟩
abbrev S_ : Shape := ⟨0, ![]⟩
abbrev S128x4096 : Shape := ⟨2, ![128, 4096]⟩
abbrev S1x1 : Shape := ⟨2, ![1, 1]⟩
abbrev S128x14336 : Shape := ⟨2, ![128, 14336]⟩
abbrev S128x2048 : Shape := ⟨2, ![128, 2048]⟩
abbrev S128x256 : Shape := ⟨2, ![128, 256]⟩
abbrev S1 : Shape := ⟨1, ![1]⟩
abbrev S1x1x1 : Shape := ⟨3, ![1, 1, 1]⟩
abbrev S128x256x16 : Shape := ⟨3, ![128, 256, 16]⟩
abbrev S128x256x1 : Shape := ⟨3, ![128, 256, 1]⟩
abbrev S128x2048x2 : Shape := ⟨3, ![128, 2048, 2]⟩
abbrev S128x2048x1 : Shape := ⟨3, ![128, 2048, 1]⟩
abbrev S256x7168x2 : Shape := ⟨3, ![256, 7168, 2]⟩
abbrev S256x7168x1 : Shape := ⟨3, ![256, 7168, 1]⟩
abbrev S256x7168 : Shape := ⟨2, ![256, 7168]⟩
abbrev S256x16x7168 : Shape := ⟨3, ![256, 16, 7168]⟩
abbrev S256x1x7168 : Shape := ⟨3, ![256, 1, 7168]⟩
abbrev S128x7168 : Shape := ⟨2, ![128, 7168]⟩
abbrev S128x7168x1 : Shape := ⟨3, ![128, 7168, 1]⟩
abbrev S128x7168x2 : Shape := ⟨3, ![128, 7168, 2]⟩

abbrev nBuf : Space → Nat
  | .hbm => 10
  | .vmem => 6
  | .smem => 2
  | _ => 0

abbrev bufTy : (tb : Table) → Fin (tcTables nBuf tb) → BufTy
  | .hbm, ⟨0, _⟩ => ⟨S1x128x4096, .bf16⟩
  | .hbm, ⟨1, _⟩ => ⟨S4096x7168, .i8⟩
  | .hbm, ⟨2, _⟩ => ⟨S256x14336, .fp8e4m3⟩
  | .hbm, ⟨3, _⟩ => ⟨S_, .f32⟩
  | .hbm, ⟨4, _⟩ => ⟨S128x4096, .bf16⟩
  | .hbm, ⟨5, _⟩ => ⟨S1x1, .f32⟩
  | .hbm, ⟨6, _⟩ => ⟨S128x14336, .bf16⟩
  | .hbm, ⟨7, _⟩ => ⟨S128x2048, .i8⟩
  | .hbm, ⟨8, _⟩ => ⟨S128x256, .fp8e4m3⟩
  | .hbm, ⟨9, _⟩ => ⟨S1x1, .f32⟩
  | .local _ .vmem, ⟨0, _⟩ => ⟨S128x4096, .bf16⟩
  | .local _ .vmem, ⟨1, _⟩ => ⟨S4096x7168, .i8⟩
  | .local _ .vmem, ⟨2, _⟩ => ⟨S256x14336, .fp8e4m3⟩
  | .local _ .vmem, ⟨3, _⟩ => ⟨S128x14336, .bf16⟩
  | .local _ .vmem, ⟨4, _⟩ => ⟨S128x2048, .i8⟩
  | .local _ .vmem, ⟨5, _⟩ => ⟨S128x256, .fp8e4m3⟩
  | .local _ .smem, ⟨0, _⟩ => ⟨S1x1, .f32⟩
  | .local _ .smem, ⟨1, _⟩ => ⟨S1x1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg3_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pure.lean ====
/- The values the kernel computes between its memory accesses, each written once over its chunk, group or block. -/
module

public import proofs.«01_k».proof.Proof.Gen.KernelIdeal

@[expose] public section

noncomputable section

namespace Cert.Proof.KernelIdeal

open Cert.KernelIdeal
open Idealize.ShloMosaic Idealize.ShloMosaic.TcCoe Idealize.SL.Sem
open Shapes1.Facts₀ Shapes2.Facts₀ K0.Facts₀ Facts₀ Facts

variable {F : FTy → Type} [FloatOps F]

/-- Entry `n` of a list, with a value for past its end. -/
def nth {α : Type} (d : α) : List α → Nat → α
  | [], _ => d
  | a :: _, 0 => a
  | _ :: l, n + 1 => nth d l n

/-! ## Lane gathers -/

/-- The index a gather reads at: a negative index counts from the end. -/
def wrapIdx {s : Shape} (s' : Shape) (h : s.ShapeCasts s') (h' : s'.ShapeCasts s) (idx : IVec s 32) : IVec s 32 :=
  shapeCast s (shapeCast s' (select (cmpi .slt idx (broadcast s 0#32)) (addi idx (broadcast s 128#32)) idx) h) h'

/-- Lanes of a 128-row tile gathered. -/
def gather128 {α : Type} (v : S128x128.Idx → α) (idx : IVec S128x128 32) : S128x128.Idx → α :=
  dynamicGather 1 v (wrapIdx S128x128x1 shapeCasts_S128x128_S128x128x1 shapeCasts_S128x128x1_S128x128 idx)

/-- Lanes of a 256-row tile gathered. -/
def gather256 {α : Type} (v : S256x128.Idx → α) (idx : IVec S256x128 32) : S256x128.Idx → α :=
  dynamicGather 1 v (wrapIdx S256x128x1 shapeCasts_S256x128_S256x128x1 shapeCasts_S256x128x1_S256x128 idx)

/-- Lanes of a 32-row tile gathered. -/
def gather32 {α : Type} (v : S32x128.Idx → α) (idx : IVec S32x128 32) : S32x128.Idx → α :=
  dynamicGather 1 v (wrapIdx S32x128x1 shapeCasts_S32x128_S32x128x1 shapeCasts_S32x128x1_S32x128 idx)

/-- The lane numbers. -/
def lane128 : IVec S128x128 32 := iota .tc S128x128 32 [1] iota_S128x128_d1_w32
def lane256 : IVec S256x128 32 := iota .tc S256x128 32 [1] iota_S256x128_d1_w32
def lane32 : IVec S32x128 32 := iota .tc S32x128 32 [1] iota_S32x128_d1_w32

/-! ## The four-bit format -/

/-- The code of each entry. -/
def code (v : FVec F S128x128 .f32) : IVec S128x128 32 :=
  let av := absf v
  let step (c : IVec S128x128 1) : IVec S128x128 32 := select c (broadcast S128x128 1#32) (broadcast S128x128 0#32)
  let idx := addi (addi (addi (addi (addi (addi (addi (broadcast S128x128 0#32)
    (step (cmpf .ogt av (broadcast S128x128 (Scalar.ofBits .f32 0x3E800000#32)))))
    (step (cmpf .oge av (broadcast S128x128 (Scalar.ofBits .f32 0x3F400000#32)))))
    (step (cmpf .ogt av (broadcast S128x128 (Scalar.ofBits .f32 0x3FA00000#32)))))
    (step (cmpf .oge av (broadcast S128x128 (Scalar.ofBits .f32 0x3FE00000#32)))))
    (step (cmpf .ogt av (broadcast S128x128 (Scalar.ofBits .f32 0x40200000#32)))))
    (step (cmpf .oge av (broadcast S128x128 (Scalar.ofBits .f32 0x40600000#32)))))
    (step (cmpf .ogt av (broadcast S128x128 (Scalar.ofBits .f32 0x40A00000#32))))
  select (cmpf .olt v (broadcast S128x128 (Scalar.ofBits .f32 0x00000000#32))) (addi idx (broadcast S128x128 8#32)) idx

/-- The value of each code (of its low four bits). -/
def value {s : Shape} (code : IVec s 32) : FVec F s .bf16 :=
  let b0 := cmpi .ne (andi code (broadcast s 1#32)) (broadcast s 0#32)
  let b1 := cmpi .ne (andi code (broadcast s 2#32)) (broadcast s 0#32)
  let b2 := cmpi .ne (andi code (broadcast s 4#32)) (broadcast s 0#32)
  let b3 := cmpi .ne (andi code (broadcast s 8#32)) (broadcast s 0#32)
  let c (x y : BitVec 32) : FVec F s .f32 :=
    select b0 (broadcast s (Scalar.ofBits .f32 x)) (broadcast s (Scalar.ofBits .f32 y))
  let mag := select b2 (select b1 (c 0x40C00000#32 0x40800000#32) (c 0x40400000#32 0x40000000#32))
    (select b1 (c 0x3FC00000#32 0x3F800000#32) (c 0x3F000000#32 0x00000000#32))
  truncf .bf16 (select b3 (subf (broadcast s (Scalar.ofBits .f32 0x00000000#32)) mag) mag) bitsLt_bf16_f32

/-! ## Quantising the activations -/

/-- The scale of the whole array, from its thirty-two chunks. -/
def xglobal (x0 : FVec F S128x128 .bf16) (xs : List (FVec F S128x128 .bf16)) : F .f32 :=
  let m := xs.foldl (fun m c => maximumf m (absf c)) (absf x0)
  let amax : F .f32 := extractAt ![0, 0, 0] (shapeCast S1x1x1 (multiReduction .maximumf [1, 2] S1
    (shapeCast S1x128x128 (extf .f32 m bitsLt_bf16_f32) shapeCasts_S128x128_S1x128x128) 0xFF800000#32
    reduces_S1x128x128_S1 (.inl rfl) rfl) shapeCasts_S1_S1x1x1) inpos_S1x1x1_p0_0_0
  Scalar.select (Scalar.cmpf .ogt amax (Scalar.ofBits .f32 0x00000000#32))
    (Scalar.divf amax (Scalar.ofBits .f32 0x45280000#32)) (Scalar.ofBits .f32 0x3F800000#32)

/-- One step of the exchange: each lane with the lane whose number differs in one bit. -/
def exchange (b : BitVec 32) (x : FVec F S128x128 .bf16) : FVec F S128x128 .bf16 :=
  maximumf x (truncf .bf16 (gather128 (extf .f32 x bitsLt_bf16_f32) (xori lane128 (broadcast S128x128 b))) bitsLt_bf16_f32)

/-- In every lane, the maximum over the lane's group of sixteen. -/
def groupMax (x : FVec F S128x128 .bf16) : FVec F S128x128 .bf16 :=
  exchange 8#32 (exchange 4#32 (exchange 2#32 (exchange 1#32 x)))

/-- Lane numbers divided (rounding down) by `d`. -/
def laneDiv (d : BitVec 32) : IVec S128x128 32 :=
  let q := divsi lane128 (broadcast S128x128 d)
  let sgn := subi (extui 32 (cmpi .sgt lane128 (broadcast S128x128 0#32)) natLt_1_32)
    (extui 32 (cmpi .slt lane128 (broadcast S128x128 0#32)) natLt_1_32)
  let sgnd := Scalar.subi (Scalar.extui (Scalar.cmpi .sgt d 0#32)) (Scalar.extui (Scalar.cmpi .slt d 0#32))
  select (andi (cmpi .ne sgn (broadcast S128x128 sgnd))
      (cmpi .ne (remsi lane128 (broadcast S128x128 d)) (broadcast S128x128 0#32)))
    (subi q (broadcast S128x128 1#32)) q

/-- Chunk `i`'s eight group maxima put in lanes `8 i … 8 i + 7`. -/
def putMax (i : Nat) (x : FVec F S128x128 .bf16) (acc : FVec F S128x128 .f32) : FVec F S128x128 .f32 :=
  select (cmpi .eq (laneDiv 8#32) (broadcast S128x128 (BitVec.ofNat 32 i)))
    (gather128 (extf .f32 (groupMax (absf x)) bitsLt_bf16_f32)
      (muli (andi lane128 (broadcast S128x128 7#32)) (broadcast S128x128 16#32))) acc

/-- The group maxima of the first `n` chunks of a half, `x c` being chunk `c`. -/
def halfMax (x : Nat → FVec F S128x128 .bf16) : Nat → FVec F S128x128 .f32
  | 0 => broadcast S128x128 (Scalar.ofBits .f32 0x00000000#32)
  | n + 1 => putMax n (x n) (halfMax x n)

/-- The scales of a half's groups, from their maxima. -/
def scaleOf (xg : F .f32) (a : FVec F S128x128 .f32) : FVec F S128x128 .fp8e4m3 :=
  let q := divf (divf (mulf a (broadcast S128x128 (Scalar.ofBits .f32 0x3F800800#32)))
    (broadcast S128x128 (Scalar.ofBits .f32 0x40C00000#32))) (broadcast S128x128 xg)
  truncf .fp8e4m3 (minimumf (broadcast S128x128 (Scalar.ofBits .f32 0x43E00000#32))
    (maximumf (broadcast S128x128 (Scalar.ofBits .f32 0x00000000#32)) q)) bitsLt_fp8e4m3_f32

/-- The reciprocals the entries are multiplied by. -/
def rdenom (xg : F .f32) (sf : FVec F S128x128 .f32) : FVec F S128x128 .f32 :=
  divf (broadcast S128x128 (Scalar.ofBits .f32 0x3F800000#32))
    (mulf (select (cmpf .oeq sf (broadcast S128x128 (Scalar.ofBits .f32 0x00000000#32)))
      (broadcast S128x128 (Scalar.ofBits .f32 0x3F800000#32)) sf) (broadcast S128x128 xg))

/-- The lane a chunk's entry finds its group's scale in. -/
def groupLane (i : Nat) : IVec S128x128 32 :=
  addi (broadcast S128x128 (BitVec.ofNat 32 (8 * i))) (laneDiv 16#32)

/-- The codes of chunk `i` of a half. -/
def chunkCode (i : Nat) (xg : F .f32) (sf : FVec F S128x128 .f32) (x : FVec F S128x128 .bf16) : IVec S128x128 32 :=
  let v := mulf (extf .f32 x bitsLt_bf16_f32) (gather128 (rdenom xg sf) (groupLane i))
  code (select (cmpf .oeq v (broadcast S128x128 (Scalar.ofBits .f32 0x00000000#32)))
    (broadcast S128x128 (Scalar.ofBits .f32 0x00000000#32))
    (minimumf (broadcast S128x128 (Scalar.ofBits .f32 0x40C00000#32))
      (maximumf (broadcast S128x128 (Scalar.ofBits .f32 0xC0C00000#32)) v)))

/-- The left operand over chunk `i` of a half: the codes' values by their groups' scales. -/
def chunkA (i : Nat) (xg : F .f32) (sf : FVec F S128x128 .f32) (x : FVec F S128x128 .bf16) : FVec F S128x128 .bf16 :=
  mulf (value (chunkCode i xg sf x)) (truncf .bf16 (gather128 sf (groupLane i)) bitsLt_bf16_f32)

/-! ## Packing the codes -/

/-- The words of every second lane, from lane `p`. -/
def deinterW (w : IVec S32x256 32) (p : BitVec 32) : IVec S32x128 32 :=
  let idx := addi (andi (muli (broadcast S32x128 2#32) lane32) (broadcast S32x128 127#32)) (broadcast S32x128 p)
  select (cmpi .slt lane32 (broadcast S32x128 64#32))
    (gather32 (extractStridedSlice S32x128 ![0, 0] w slices_S32x256_o0_0_S32x128) idx)
    (gather32 (extractStridedSlice S32x128 ![0, 128] w slices_S32x256_o0_128_S32x128) idx)

/-- Two neighbouring codes in a byte, the first in the low half. -/
def packed (c : IVec S128x256 8) : IVec S128x128 8 :=
  let w : IVec S32x256 32 := bitcast S32x256 32 c bitcasts_S128x256_w8_S32x256_w32
  bitcast S128x128 8 (ori (andi (deinterW w 0#32) (broadcast S32x128 252645135#32))
    (shli (andi (deinterW w 1#32) (broadcast S32x128 252645135#32)) (broadcast S32x128 4#32)))
    bitcasts_S32x128_w32_S128x128_w8

/-! ## A block of the product -/

/-- The scales of every second column, from column `p`. -/
def deinter (w : FVec F S256x512 .f32) (p : BitVec 32) : FVec F S256x256 .f32 :=
  let idx := addi (andi (muli (broadcast S256x128 2#32) lane256) (broadcast S256x128 127#32)) (broadcast S256x128 p)
  let lo := cmpi .slt lane256 (broadcast S256x128 64#32)
  concatenate S256x256 1
    [⟨S256x128, select lo
      (gather256 (extractStridedSlice S256x128 ![0, 0] w slices_S256x512_o0_0_S256x128) idx)
      (gather256 (extractStridedSlice S256x128 ![0, 128] w slices_S256x512_o0_128_S256x128) idx)⟩,
     ⟨S256x128, select lo
      (gather256 (extractStridedSlice S256x128 ![0, 256] w slices_S256x512_o0_256_S256x128) idx)
      (gather256 (extractStridedSlice S256x128 ![0, 384] w slices_S256x512_o0_384_S256x128) idx)⟩]
    concatenates_S256x128_S256x128_S256x256_d1

theorem slices_group : ∀ g : Fin 16, S256x256.Slices ![16 * g.val, 0] S16x256 := by decide

/-- Sixteen rows of decoded weights by their group's scales. -/
def scaleRows (q : FVec F S256x256 .bf16) (g : Fin 16) (r : FVec F S1x1x256 .f32) : FVec F S16x256 .bf16 :=
  mulf (extractStridedSlice S16x256 ![16 * g.val, 0] q (slices_group g))
    (truncf .bf16 (broadcastTo S16x256 (shapeCast S1x256 (shapeCast S1x256 r shapeCasts_S1x1x256_S1x256)
      shapeCasts_S1x256_S1x256) broadcasts_S1x256_S16x256) bitsLt_bf16_f32)

/-- The sixteen groups of a chunk one under another. -/
def stackRows (r : Nat → FVec F S16x256 .bf16) : FVec F S256x256 .bf16 :=
  concatenate S256x256 0 [⟨S16x256, r 0⟩, ⟨S16x256, r 1⟩, ⟨S16x256, r 2⟩, ⟨S16x256, r 3⟩, ⟨S16x256, r 4⟩,
    ⟨S16x256, r 5⟩, ⟨S16x256, r 6⟩, ⟨S16x256, r 7⟩, ⟨S16x256, r 8⟩, ⟨S16x256, r 9⟩, ⟨S16x256, r 10⟩,
    ⟨S16x256, r 11⟩, ⟨S16x256, r 12⟩, ⟨S16x256, r 13⟩, ⟨S16x256, r 14⟩, ⟨S16x256, r 15⟩]
    concatenates_S16x256_S16x256_S16x256_S16x256_S16x256_S16x256_S16x256_S16x256_S16x256_S16x256_S16x256_S16x256_S16x256_S16x256_S16x256_S16x256_S256x256_d0

/-- The bytes shifted right by four, word by word (so that only the low four bits of a byte are its own). -/
def highNibble (w : IVec S256x256 8) : IVec S256x256 8 :=
  let w32 : IVec S64x256 32 := bitcast S64x256 32 w bitcasts_S256x256_w8_S64x256_w32
  bitcast S256x256 8 (shrui w32 (broadcast S64x256 4#32)) bitcasts_S64x256_w32_S256x256_w8

/-- An accumulator by the two global scales. -/
def scaleAcc (xg wg : F .f32) (a : FVec F S128x256 .f32) : FVec F S128x256 .f32 :=
  extf .f32 (truncf .bf16 (mulf (mulf a (broadcast S128x256 xg)) (broadcast S128x256 wg)) bitsLt_bf16_f32) bitsLt_bf16_f32

/-- Quarter `(t, h)` of a block's columns: even columns from `e`, odd ones from `o`. -/
def quarter (e o : FVec F S128x128 .f32) (h : BitVec 32) : FVec F S128x128 .f32 :=
  let idx := addi (shrsi lane128 (broadcast S128x128 1#32)) (broadcast S128x128 h)
  select (cmpi .eq (andi lane128 (broadcast S128x128 1#32)) (broadcast S128x128 0#32)) (gather128 e idx) (gather128 o idx)

/-- The columns of `e` and `o` alternating. -/
def inter (e o : FVec F S128x256 .f32) : FVec F S128x512 .bf16 :=
  let e0 := extractStridedSlice S128x128 ![0, 0] e slices_S128x256_o0_0_S128x128
  let o0 := extractStridedSlice S128x128 ![0, 0] o slices_S128x256_o0_0_S128x128
  let e1 := extractStridedSlice S128x128 ![0, 128] e slices_S128x256_o0_128_S128x128
  let o1 := extractStridedSlice S128x128 ![0, 128] o slices_S128x256_o0_128_S128x128
  truncf .bf16 (concatenate S128x512 1 [⟨S128x128, quarter e0 o0 0#32⟩, ⟨S128x128, quarter e0 o0 64#32⟩,
    ⟨S128x128, quarter e1 o1 0#32⟩, ⟨S128x128, quarter e1 o1 64#32⟩]
    concatenates_S128x128_S128x128_S128x128_S128x128_S128x512_d1) bitsLt_bf16_f32

end Cert.Proof.KernelIdeal
-- ==== Proof.Program.lean ====
/- The kernel as a short program: its copies, its chunks, its groups and its blocks each written once, over their number. -/
module

public import proofs.«01_k».proof.Proof.Pure
public import Idealize.ShloMosaic.Lib.Pipeline.Regions

@[expose] public section

noncomputable section

namespace Cert.Proof.KernelIdeal

open Cert.KernelIdeal
open Idealize.ShloMosaic Idealize.ShloMosaic.TcCoe Idealize.SL.Sem
open Shapes1.Facts₀ Shapes2.Facts₀ K0.Facts₀ Facts₀ Facts

/-! ## Where the copies and accesses lie -/

theorem inbCols : ∀ c : Fin 32, ∀ a, (![0, 128 * c.val] : Fin 2 → Nat) a + S128x128.size a ≤ S128x4096.size a := by decide +kernel
theorem packedColsA : ∀ c : Fin 32, (Rect.unit (s := S128x4096) ![0, 128 * c.val] S128x128.size (inbCols c)).PackedRows (EltTy.packing .bf16) := by decide +kernel
theorem packedColsC : ∀ c : Fin 32, (Rect.unit (s := S128x4096) ![0, 128 * c.val] S128x128.size (inbCols c)).PackedRows (EltTy.packing .i8) := by decide +kernel
theorem inbPair : ∀ c : Fin 16, ∀ a, (![0, 256 * c.val] : Fin 2 → Nat) a + S128x256.size a ≤ S128x4096.size a := by decide +kernel
theorem inbPack : ∀ c : Fin 16, ∀ a, (![0, 128 * c.val] : Fin 2 → Nat) a + S128x128.size a ≤ S128x2048.size a := by decide +kernel
theorem packedPack : ∀ c : Fin 16, (Rect.unit (s := S128x2048) ![0, 128 * c.val] S128x128.size (inbPack c)).PackedRows (EltTy.packing .i8) := by decide +kernel
theorem inbHalf : ∀ h : Fin 2, ∀ a, (![0, 128 * h.val] : Fin 2 → Nat) a + S128x128.size a ≤ S128x256.size a := by decide +kernel
theorem packedHalf : ∀ h : Fin 2, (Rect.unit (s := S128x256) ![0, 128 * h.val] S128x128.size (inbHalf h)).PackedRows (EltTy.packing .fp8e4m3) := by decide +kernel
theorem inbExp : ∀ p : Fin 2, ∀ a, (![p.val, 0, 0] : Fin 3 → Nat) a + S1x256x256.size a ≤ S2x256x256.size a := by decide +kernel
theorem inbRow : ∀ (p : Fin 2) (k g : Fin 16), ∀ a, (![p.val, 16 * k.val + g.val, 0] : Fin 3 → Nat) a + S1x1x256.size a ≤ S2x256x256.size a := by decide +kernel
theorem inbChunk : ∀ (j : Fin 28) (k : Fin 16), ∀ a, (![j.val, 256 * k.val, 0] : Fin 3 → Nat) a + S1x256x256.size a ≤ S28x4096x256.size a := by decide +kernel
theorem inbSem : ∀ j : Fin 28, ∀ a, (![j.val] : Fin 1 → Nat) a + S1.size a ≤ S28.size a := by decide +kernel
theorem inbWd : ∀ j : Fin 28, ∀ a, (![j.val, 0, 0] : Fin 3 → Nat) a + S1x4096x256.size a ≤ S28x4096x256.size a := by decide +kernel
theorem inbSd : ∀ j : Fin 28, ∀ a, (![j.val, 0, 0] : Fin 3 → Nat) a + S1x256x512.size a ≤ S28x256x512.size a := by decide +kernel
theorem inbYs : ∀ j : Fin 28, ∀ a, (![j.val, 0, 0] : Fin 3 → Nat) a + S1x128x512.size a ≤ S28x128x512.size a := by decide +kernel
theorem inbWs : ∀ j : Fin 28, ∀ a, (![0, 256 * j.val] : Fin 2 → Nat) a + S4096x256.size a ≤ S4096x7168.size a := by decide +kernel
theorem inbSs : ∀ j : Fin 28, ∀ a, (![0, 512 * j.val] : Fin 2 → Nat) a + S256x512.size a ≤ S256x14336.size a := by decide +kernel
theorem inbYd : ∀ j : Fin 28, ∀ a, (![0, 512 * j.val] : Fin 2 → Nat) a + S128x512.size a ≤ S128x14336.size a := by decide +kernel
theorem wordsWd : ∀ j : Fin 28, (Rect.unit (s := S28x4096x256) ![j.val, 0, 0] S1x4096x256.size (inbWd j)).WholeWords (EltTy.packing .i8) := by decide +kernel
theorem wordsSd : ∀ j : Fin 28, (Rect.unit (s := S28x256x512) ![j.val, 0, 0] S1x256x512.size (inbSd j)).WholeWords (EltTy.packing .fp8e4m3) := by decide +kernel
theorem wordsYs : ∀ j : Fin 28, (Rect.unit (s := S28x128x512) ![j.val, 0, 0] S1x128x512.size (inbYs j)).WholeWords (EltTy.packing .bf16) := by decide +kernel
theorem packedYs : ∀ j : Fin 28, (Rect.unit (s := S28x128x512) ![j.val, 0, 0] S1x128x512.size (inbYs j)).PackedRows (EltTy.packing .bf16) := by decide +kernel
theorem wordsWs : ∀ j : Fin 28, (Rect.unit (s := S4096x7168) ![0, 256 * j.val] S4096x256.size (inbWs j)).WholeWords (EltTy.packing .i8) := by decide +kernel
theorem wordsSs : ∀ j : Fin 28, (Rect.unit (s := S256x14336) ![0, 512 * j.val] S256x512.size (inbSs j)).WholeWords (EltTy.packing .fp8e4m3) := by decide +kernel
theorem wordsYd : ∀ j : Fin 28, (Rect.unit (s := S128x14336) ![0, 512 * j.val] S128x512.size (inbYd j)).WholeWords (EltTy.packing .bf16) := by decide +kernel

variable {F : FTy → Type} [FloatOps F]

abbrev PM (F : FTy → Type) (α : Type) : Type _ := Prog (TpuEff nD τ sig (Elt F) Λ₀ .tc) α

/-- Cell `j` of an array of twenty-eight semaphores. -/
def semAt (s : DmaSems sig S28) (j : Fin 28) : DmaSems sig S_ :=
  (s.slice (Rect.unit (s := S28) ![j.val] S1.size (inbSem j))).squeeze S_ squeezes_S1_S_

section copies

variable (arg2 : Memref sig .tc .hbm S4096x7168 .i8) (harg2 : arg2.IsWhole)
  (arg3 : Memref sig .tc .hbm S256x14336 .fp8e4m3) (harg3 : arg3.IsWhole)
  (arg4 : Memref sig .tc .hbm S128x14336 .bf16) (harg4 : arg4.IsWhole)
  (arg9 : Memref sig .tc .vmem S28x4096x256 .i8) (harg9 : arg9.IsWhole)
  (arg10 : Memref sig .tc .vmem S28x256x512 .fp8e4m3) (harg10 : arg10.IsWhole)
  (arg16 : Memref sig .tc .vmem S28x128x512 .bf16) (harg16 : arg16.IsWhole)
  (arg18 arg19 arg22 : DmaSems sig S28) (j : Fin 28)

/-- The weights' columns of block `j`, in main memory and staged. -/
def wSrc : Memref sig .tc .hbm S4096x256 .i8 :=
  arg2.slice (Rect.unit (s := S4096x7168) ![0, 256 * j.val] S4096x256.size (inbWs j)) (fun _ => rfl)
def wDst : Memref sig .tc .vmem S4096x256 .i8 :=
  (arg9.slice (Rect.unit (s := S28x4096x256) ![j.val, 0, 0] S1x4096x256.size (inbWd j)) (fun _ => rfl)).squeeze
    S4096x256 squeezes_S1x4096x256_S4096x256
/-- The scales' columns of block `j`, in main memory and staged. -/
def sSrc : Memref sig .tc .hbm S256x512 .fp8e4m3 :=
  arg3.slice (Rect.unit (s := S256x14336) ![0, 512 * j.val] S256x512.size (inbSs j)) (fun _ => rfl)
def sDst : Memref sig .tc .vmem S256x512 .fp8e4m3 :=
  (arg10.slice (Rect.unit (s := S28x256x512) ![j.val, 0, 0] S1x256x512.size (inbSd j)) (fun _ => rfl)).squeeze
    S256x512 squeezes_S1x256x512_S256x512
/-- The product's columns of block `j`, staged and in main memory. -/
def ySrc : Memref sig .tc .vmem S128x512 .bf16 :=
  (arg16.slice (Rect.unit (s := S28x128x512) ![j.val, 0, 0] S1x128x512.size (inbYs j)) (fun _ => rfl)).squeeze
    S128x512 squeezes_S1x128x512_S128x512
def yDst : Memref sig .tc .hbm S128x512 .bf16 :=
  arg4.slice (Rect.unit (s := S128x14336) ![0, 512 * j.val] S128x512.size (inbYd j)) (fun _ => rfl)

/-- Start, and wait for, the copy of block `j`'s weights. -/
def startW : PM F PUnit :=
  Prog.lift (.enqueueDma (wSrc arg2 j) (.here (wDst arg9 j)) (.dma (semAt arg18 j).sem)
    (harg2.wordExact_slice rfl _ (wordsWs j)) ((harg9.wordExact_slice rfl _ (wordsWd j)).reshape _ _) ⟨Or.inl rfl, trivial⟩)
def waitW : PM F PUnit :=
  Prog.lift (.waitDma2 (semAt arg18 j).sem (wSrc arg2 j) (wDst arg9 j)
    (harg2.wordExact_slice rfl _ (wordsWs j)) ((harg9.wordExact_slice rfl _ (wordsWd j)).reshape _ _))
/-- Start, and wait for, the copy of block `j`'s scales. -/
def startS : PM F PUnit :=
  Prog.lift (.enqueueDma (sSrc arg3 j) (.here (sDst arg10 j)) (.dma (semAt arg19 j).sem)
    (harg3.wordExact_slice rfl _ (wordsSs j)) ((harg10.wordExact_slice rfl _ (wordsSd j)).reshape _ _) ⟨Or.inl rfl, trivial⟩)
def waitS : PM F PUnit :=
  Prog.lift (.waitDma2 (semAt arg19 j).sem (sSrc arg3 j) (sDst arg10 j)
    (harg3.wordExact_slice rfl _ (wordsSs j)) ((harg10.wordExact_slice rfl _ (wordsSd j)).reshape _ _))
/-- Start, and wait for, the copy of block `j` of the product. -/
def startY : PM F PUnit :=
  Prog.lift (.enqueueDma (ySrc arg16 j) (.here (yDst arg4 j)) (.dma (semAt arg22 j).sem)
    ((harg16.wordExact_slice rfl _ (wordsYs j)).reshape _ _) (harg4.wordExact_slice rfl _ (wordsYd j)) ⟨Or.inl rfl, trivial⟩)
def waitY : PM F PUnit :=
  Prog.lift (.waitDma2 (semAt arg22 j).sem (ySrc arg16 j) (yDst arg4 j)
    ((harg16.wordExact_slice rfl _ (wordsYs j)).reshape _ _) (harg4.wordExact_slice rfl _ (wordsYd j)))

/-- Start the copies of the first `n` blocks. -/
def startsUpto : (n : Nat) → n ≤ 28 → PM F PUnit
  | 0, _ => pure ⟨⟩
  | n + 1, h => do
    startsUpto n (Nat.le_of_succ_le h)
    startW arg2 harg2 arg9 harg9 arg18 ⟨n, h⟩
    startS arg3 harg3 arg10 harg10 arg19 ⟨n, h⟩

/-- Wait for `n` of the product's blocks, from block `k` on. -/
def waitsFrom (k : Nat) : (n : Nat) → k + n ≤ 28 → PM F PUnit
  | 0, _ => pure ⟨⟩
  | n + 1, h => do
    waitsFrom k n (Nat.le_of_succ_le h)
    waitY arg4 harg4 arg16 harg16 arg22 ⟨k + n, h⟩

end copies

section quantise

variable (arg8 : Memref sig .tc .vmem S128x4096 .bf16)
  (arg11 : Memref sig .tc .vmem S128x4096 .bf16) (harg11 : arg11.IsWhole)
  (arg12 : Memref sig .tc .vmem S128x4096 .i8) (harg12 : arg12.IsWhole)
  (arg13 : Memref sig .tc .vmem S128x2048 .i8) (harg13 : arg13.IsWhole)
  (arg14 : Memref sig .tc .vmem S128x256 .fp8e4m3) (harg14 : arg14.IsWhole)

/-- Load chunk `c` of the activations. -/
def loadX (c : Fin 32) : PM F (Vec F S128x128 .bf16) :=
  Prog.lift (.load arg8 (Rect.unit (s := S128x4096) ![0, 128 * c.val] S128x128.size (inbCols c)).toLoadRect
    (View.loadsAt_vmem h_S128x128))

/-- Load the chunks from `32 - n` on. -/
def loadsX : (n : Nat) → n ≤ 32 → PM F (List (FVec F S128x128 .bf16))
  | 0, _ => pure []
  | n + 1, h => do
    let v : Vec F S128x128 .bf16 ← loadX arg8 ⟨31 - n, by omega⟩
    let vs : List (FVec F S128x128 .bf16) ← loadsX n (Nat.le_of_succ_le h)
    pure (v :: vs)

/-- Store the scales of half `h`. -/
def storeScale (h : Fin 2) (s : FVec F S128x128 .fp8e4m3) : PM F PUnit := do
  let _old : Vec F S128x128 .fp8e4m3 ← Prog.lift (.load arg14 (Rect.unit (s := S128x256) ![0, 128 * h.val] S128x128.size (inbHalf h)).toLoadRect
    (View.loadsAt_vmem h_S128x128))
  Prog.lift (.store arg14 (Rect.unit (s := S128x256) ![0, 128 * h.val] S128x128.size (inbHalf h))
    (shapeCast S128x128 s shapeCasts_S128x128_S128x128) Finset.univ
    (View.stores_vmem h_S128x128 (harg14.storeExact_slice rfl _ (packedHalf h)) (fun _ => rfl)) (.inl rfl))

/-- Store chunk `c` of the left operand. -/
def storeA (c : Fin 32) (a : FVec F S128x128 .bf16) : PM F PUnit := do
  let _old : Vec F S128x128 .bf16 ← Prog.lift (.load arg11 (Rect.unit (s := S128x4096) ![0, 128 * c.val] S128x128.size (inbCols c)).toLoadRect
    (View.loadsAt_vmem h_S128x128))
  Prog.lift (.store arg11 (Rect.unit (s := S128x4096) ![0, 128 * c.val] S128x128.size (inbCols c))
    (shapeCast S128x128 a shapeCasts_S128x128_S128x128) Finset.univ
    (View.stores_vmem h_S128x128 (harg11.storeExact_slice rfl _ (packedColsA c)) (fun _ => rfl)) (.inl rfl))

/-- Store chunk `c` of the codes. -/
def storeC (c : Fin 32) (q : IVec S128x128 32) : PM F PUnit := do
  let _old : Vec F S128x128 .i8 ← Prog.lift (.load arg12 (Rect.unit (s := S128x4096) ![0, 128 * c.val] S128x128.size (inbCols c)).toLoadRect
    (View.loadsAt_vmem h_S128x128))
  Prog.lift (.store arg12 (Rect.unit (s := S128x4096) ![0, 128 * c.val] S128x128.size (inbCols c))
    (shapeCast S128x128 (trunci 8 q natLt_8_32) shapeCasts_S128x128_S128x128) Finset.univ
    (View.stores_vmem h_S128x128 (harg12.storeExact_slice rfl _ (packedColsC c)) (fun _ => rfl)) (.inl rfl))

/-- Quantise the first `n` chunks of half `h`, `x i` being the half's chunk `i`. -/
def quantUpto (h : Fin 2) (xg : F .f32) (sf : FVec F S128x128 .f32) (x : Nat → FVec F S128x128 .bf16) :
    (n : Nat) → n ≤ 16 → PM F PUnit
  | 0, _ => pure ⟨⟩
  | n + 1, hn => do
    quantUpto h xg sf x n (Nat.le_of_succ_le hn)
    storeA arg11 harg11 ⟨16 * h.val + n, by omega⟩ (chunkA n xg sf (x n))
    storeC arg12 harg12 ⟨16 * h.val + n, by omega⟩ (chunkCode n xg sf (x n))

/-- Quantise half `h`. -/
def quantHalf (h : Fin 2) (xg : F .f32) (x : Nat → FVec F S128x128 .bf16) : PM F PUnit := do
  let s8 := scaleOf xg (halfMax x 16)
  storeScale arg14 harg14 h s8
  quantUpto arg11 harg11 arg12 harg12 h xg (extf .f32 s8 bitsLt_fp8e4m3_f32) x 16 (Nat.le_refl _)

/-- Chunk `i` of half `h`, out of the list of all chunks. -/
def halfOf (x0 : FVec F S128x128 .bf16) (xs : List (FVec F S128x128 .bf16)) (h : Fin 2) (i : Nat) :
    FVec F S128x128 .bf16 := nth x0 (x0 :: xs) (16 * h.val + i)

/-- Pack chunk pair `c` of the codes. -/
def packOne (c : Fin 16) : PM F PUnit := do
  let q : Vec F S128x256 .i8 ← Prog.lift (.load arg12 (Rect.unit (s := S128x4096) ![0, 256 * c.val] S128x256.size (inbPair c)).toLoadRect
    (View.loadsAt_vmem h_S128x256))
  let _old : Vec F S128x128 .i8 ← Prog.lift (.load arg13 (Rect.unit (s := S128x2048) ![0, 128 * c.val] S128x128.size (inbPack c)).toLoadRect
    (View.loadsAt_vmem h_S128x128))
  Prog.lift (.store arg13 (Rect.unit (s := S128x2048) ![0, 128 * c.val] S128x128.size (inbPack c))
    (shapeCast S128x128 (packed q) shapeCasts_S128x128_S128x128) Finset.univ
    (View.stores_vmem h_S128x128 (harg13.storeExact_slice rfl _ (packedPack c)) (fun _ => rfl)) (.inl rfl))

def packUpto : (n : Nat) → n ≤ 16 → PM F PUnit
  | 0, _ => pure ⟨⟩
  | n + 1, hn => do
    packUpto n (Nat.le_of_succ_le hn)
    packOne arg12 arg13 harg13 ⟨n, hn⟩

end quantise

section blocks

variable (arg9 : Memref sig .tc .vmem S28x4096x256 .i8)
  (arg10 : Memref sig .tc .vmem S28x256x512 .fp8e4m3)
  (arg11 : Memref sig .tc .vmem S128x4096 .bf16)
  (arg15 : Memref sig .tc .vmem S2x256x256 .f32)
  (arg16 : Memref sig .tc .vmem S28x128x512 .bf16) (harg16 : arg16.IsWhole)

/-- Load the scales of block `j`, as numbers. -/
def loadS (j : Fin 28) : PM F (FVec F S256x512 .f32) := do
  let s : Vec F S1x256x512 .fp8e4m3 ← Prog.lift (.load arg10 (Rect.unit (s := S28x256x512) ![j.val, 0, 0] S1x256x512.size (inbSd j)).toLoadRect
    (View.loadsAt_vmem h_S1x256x512))
  pure (extf .f32 (shapeCast S256x512 s shapeCasts_S1x256x512_S256x512) bitsLt_fp8e4m3_f32)

/-- Store the scales of the columns of parity `p`. -/
def storeExp (p : Fin 2) (e : FVec F S256x256 .f32) : PM F PUnit := do
  let _old : Vec F S1x256x256 .f32 ← Prog.lift (.load arg15 (Rect.unit (s := S2x256x256) ![p.val, 0, 0] S1x256x256.size (inbExp p)).toLoadRect
    (View.loadsAt_vmem h_S1x256x256))
  Prog.lift (.store arg15 (Rect.unit (s := S2x256x256) ![p.val, 0, 0] S1x256x256.size (inbExp p))
    (shapeCast S1x256x256 e shapeCasts_S256x256_S1x256x256) Finset.univ
    (View.stores_vmem_bits_univ h_S1x256x256 rfl) (.inl rfl))

/-- Load row `16 k + g` of the scales of parity `p`. -/
def loadRow (p : Fin 2) (k g : Fin 16) : PM F (Vec F S1x1x256 .f32) :=
  Prog.lift (.load arg15 (Rect.unit (s := S2x256x256) ![p.val, 16 * k.val + g.val, 0] S1x1x256.size (inbRow p k g)).toLoadRect
    (View.loadsAt_vmem h_S1x1x256))

/-- The groups from `16 - n` on of chunk `k`, scaled. -/
def rows (p : Fin 2) (k : Fin 16) (q : FVec F S256x256 .bf16) : (n : Nat) → n ≤ 16 → PM F (List (FVec F S16x256 .bf16))
  | 0, _ => pure []
  | n + 1, h => do
    let r : Vec F S1x1x256 .f32 ← loadRow arg15 p k ⟨15 - n, by omega⟩
    let rs : List (FVec F S16x256 .bf16) ← rows p k q n (Nat.le_of_succ_le h)
    pure (scaleRows q ⟨15 - n, by omega⟩ r :: rs)

/-- Decode chunk `k` of the weights of parity `p`, and multiply it into the accumulator at `A`. -/
def half (p : Fin 2) (A : Nat) (hA : Mxu.Fits A 128) (k : Fin 16) (w : IVec S256x256 8) (a : FVec F S128x256 .bf16)
    (m : Mxu F) : PM F (Mxu F) := do
  let rs : List (FVec F S16x256 .bf16) ← rows arg15 p k (value (extui 32 w natLt_8_32)) 16 (Nat.le_refl _)
  let m' : Mxu F ← m.pushRhs p ⟨k.val % 2, Nat.mod_lt _ Nat.two_pos⟩ false (stackRows (nth (scaleRows (value (extui 32 w natLt_8_32)) 0 (fun _ => Scalar.ofBits .f32 0#32)) rs))
  pure (m'.accLhs p ⟨k.val % 2, Nat.mod_lt _ Nat.two_pos⟩ A a hA)

/-- Chunk `k` of block `j`: both parities. -/
def chunk (A : Nat) (hA : Mxu.Fits A 128) (j : Fin 28) (k : Fin 16) (m : Mxu F) : PM F (Mxu F) := do
  let w : Vec F S1x256x256 .i8 ← Prog.lift (.load arg9 (Rect.unit (s := S28x4096x256) ![j.val, 256 * k.val, 0] S1x256x256.size (inbChunk j k)).toLoadRect
    (View.loadsAt_vmem h_S1x256x256))
  let a : Vec F S128x256 .bf16 ← Prog.lift (.load arg11 (Rect.unit (s := S128x4096) ![0, 256 * k.val] S128x256.size (inbPair k)).toLoadRect
    (View.loadsAt_vmem h_S128x256))
  let m0 : Mxu F ← half arg15 0 A hA k (shapeCast S256x256 w shapeCasts_S1x256x256_S256x256) a m
  half arg15 1 A hA k (highNibble (shapeCast S256x256 w shapeCasts_S1x256x256_S256x256)) a m0

def chunksUpto (A : Nat) (hA : Mxu.Fits A 128) (j : Fin 28) (m : Mxu F) : (n : Nat) → n ≤ 16 → PM F (Mxu F)
  | 0, _ => pure m
  | n + 1, h => do
    let m' : Mxu F ← chunksUpto A hA j m n (Nat.le_of_succ_le h)
    chunk arg9 arg11 arg15 A hA j ⟨n, h⟩ m'

/-- Store block `j` of the product. -/
def storeY (j : Fin 28) (y : FVec F S128x512 .bf16) : PM F PUnit := do
  let _old : Vec F S1x128x512 .bf16 ← Prog.lift (.load arg16 (Rect.unit (s := S28x128x512) ![j.val, 0, 0] S1x128x512.size (inbYs j)).toLoadRect
    (View.loadsAt_vmem h_S1x128x512))
  Prog.lift (.store arg16 (Rect.unit (s := S28x128x512) ![j.val, 0, 0] S1x128x512.size (inbYs j))
    (shapeCast S1x128x512 y shapeCasts_S128x512_S1x128x512) Finset.univ
    (View.stores_vmem h_S1x128x512 (harg16.storeExact_slice rfl _ (packedYs j)) (fun _ => rfl)) (.inl rfl))

/-- Block `j` from its staged weights and scales to its staged product. -/
def blockCore (A : Nat) (hA : Mxu.Fits A 128) (xg wg : F .f32) (j : Fin 28) (m : Mxu F) : PM F (Mxu F) := do
  let s : FVec F S256x512 .f32 ← loadS arg10 j
  storeExp arg15 0 (deinter s 0#32)
  storeExp arg15 1 (deinter s 1#32)
  let m' : Mxu F ← chunksUpto arg9 arg11 arg15 A hA j m 16 (Nat.le_refl _)
  let m1 : Mxu F := m'.pop 0 A 128 hA
  storeY arg16 harg16 j (inter (scaleAcc xg wg (m'.read 0 A hA)) (scaleAcc xg wg (m1.read 1 A hA)))
  pure (m1.pop 1 A 128 hA)

end blocks

end Cert.Proof.KernelIdeal
-- ==== Proof.Kit.lean ====
/- What one access or one copy does to the memory references it names: each rule is stated on whole references and on
   their contents as arrays. -/
module

public import proofs.«01_k».proof.Proof.Program
public import Idealize.ShloMosaic.Lib.Pipeline.FrameBody
public import Idealize.ShloMosaic.Lib.Ring
public import Idealize.ShloMosaic.Lib.Tactic

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a piece of the kernel's program on core `c`. -/
abbrev WP (c : Dev nD) {α : Type} (p : PM F α) (Q : α → sProp 𝕄) : sProp 𝕄 :=
  wp frame (wpE (defs₀ (F := F)) Variants.none (c : Thread nD τ) none) Set.univ p Q

variable {sp : Space} {s s' : Shape} {e : EltTy}

/-- Holding the reference `m` whole at the contents `X`. -/
abbrev own (c : Dev nD) (m : Memref sig .tc sp s e) (X : s.Idx → Elt F e) : sProp 𝕄 :=
  owns (c : Thread nD τ) m fullShare X

/-- The array `X` with the rectangle `r` overwritten by `w`. -/
def upd (r : Rect s) (X : s.Idx → Elt F e) (w : r.shape.Idx → Elt F e) : s.Idx → Elt F e :=
  open Classical in fun y => if h : ∃ x, r.emb x = y then w h.choose else X y

theorem upd_emb (r : Rect s) (X : s.Idx → Elt F e) (w : r.shape.Idx → Elt F e) (x : r.shape.Idx) :
    upd r X w (r.emb x) = w x := by
  unfold upd
  have h : ∃ x', r.emb x' = r.emb x := ⟨x, rfl⟩
  rw [dif_pos h, r.emb.injective h.choose_spec]

theorem upd_off (r : Rect s) (X : s.Idx → Elt F e) (w : r.shape.Idx → Elt F e) {y : s.Idx} (h : ¬ ∃ x, r.emb x = y) :
    upd r X w y = X y := by
  unfold upd; rw [dif_neg h]

theorem own_intro' (c : Dev nD) (m : Memref sig .tc sp s e) {X : s.Idx → Elt F e} {f : m.view.ty.Contents (Elt F)}
    (h : m.view.read (Elt F) f = X) :
    (m.view.loc (c : Thread nD τ) ↦[m.view.set]{fullShare} f : sProp 𝕄) ⊢ own c m X := by
  subst h; exact owns_intro (c : Thread nD τ) m fullShare f

/-- A load reads the reference's contents on the rectangle. -/
theorem own_load (c : Dev nD) {cs : CoreSpace} (m : Memref sig .tc cs s e) (r : Rect s) (h : m.view.LoadsAt r.toLoadRect)
    (X : s.Idx → Elt F e) (Q : (r.shape.Idx → Elt F e) → sProp 𝕄) :
    iprop(own c m X ∗ (own c m X -∗ Q fun x => X (r.emb x)))
      ⊢ WP c (Prog.lift (.load m r.toLoadRect h)) Q := by
  iintro ⟨Hm, HQ⟩
  unfold own owns
  icases Hm with ⟨%f, %hf, Hf⟩
  iapply (wp_load_rect Variants.none (c : Thread nD τ) none Set.univ (m := m) (r := r) (View.set_slice_subset _ _)) $$ Hf
  iintro Hf
  rw [wp_ret]
  have hx : (fun x => X (r.emb x)) = (m.access r).read (Elt F) f := by subst hf; rfl
  rw [hx]
  imodintro
  iapply HQ
  iexists f
  isplitr
  · ipureintro; exact hf
  · iexact Hf

/-- A store overwrites the rectangle. -/
theorem own_store (c : Dev nD) {cs : CoreSpace} (m : Memref sig .tc cs s e) (r : Rect s) (w : r.shape.Idx → Elt F e)
    (hx : (m.access r).Stores Finset.univ) (hm : (Finset.univ : Finset r.shape.Idx) = Finset.univ ∨ ∀ a, r.stride a = 1)
    (X : s.Idx → Elt F e) (Q : PUnit → sProp 𝕄) :
    iprop(own c m X ∗ (own c m (upd r X w) -∗ Q ⟨⟩))
      ⊢ WP c (Prog.lift (.store m r w Finset.univ hx hm)) Q := by
  iintro ⟨Hm, HQ⟩
  unfold own owns
  icases Hm with ⟨%f, %hf, Hf⟩
  iapply (wp_store Variants.none (c : Thread nD τ) none Set.univ (m := m) (r := r)
    ((View.setOn_subset_set _ _).trans (View.set_slice_subset _ _))) $$ Hf
  iintro Hf
  rw [wp_ret]
  imodintro
  iapply HQ
  iexists _
  isplitr
  rotate_left
  · iexact Hf
  · ipureintro
    subst hf
    funext y
    by_cases h : ∃ x, r.emb x = y
    · obtain ⟨x, rfl⟩ := h
      rw [upd_emb]
      exact m.view.read_slice_write_emb r f w (Finset.mem_univ x)
    · rw [upd_off _ _ _ h]
      exact m.view.read_slice_write_of_not_mem r f w _ (fun hm => by
        obtain ⟨x, -, hx⟩ := Finset.mem_map.mp hm; exact h ⟨x, hx⟩)

/-- A load, through a reference, of a rectangle that lies in a part of it held on its own: `φ` says where in the part. -/
theorem part_load (c : Dev nD) {cs : CoreSpace} (m : Memref sig .tc cs s e) (r : Rect s) (h : m.view.LoadsAt r.toLoadRect)
    (r' : Rect s) (hr' : ∀ a, r'.stride a = 1) (hq : r'.shape.Squeezes s')
    (φ : r.shape.Idx → s'.Idx) (hφ : ∀ x, r.emb x = r'.emb (Shape.reshapeEquiv hq.numel_eq (φ x)))
    (X : s'.Idx → Elt F e) (Q : (r.shape.Idx → Elt F e) → sProp 𝕄) :
    iprop(own c ((m.slice r' hr').squeeze s' hq) X ∗ (own c ((m.slice r' hr').squeeze s' hq) X -∗ Q fun x => X (φ x)))
      ⊢ WP c (Prog.lift (.load m r.toLoadRect h)) Q := by
  iintro ⟨Hm, HQ⟩
  unfold own owns
  icases Hm with ⟨%f, %hf, Hf⟩
  have hS : (m.access r).set ⊆ ((m.slice r' hr').squeeze s' hq).view.set := by
    intro i hi
    obtain ⟨x, -, rfl⟩ := Finset.mem_map.mp hi
    refine Finset.mem_map.mpr ⟨φ x, Finset.mem_univ _, ?_⟩
    show m.view.emb (r'.emb (Shape.reshapeEquiv hq.numel_eq (φ x))) = m.view.emb (r.emb x)
    rw [hφ]
  iapply (wp_load_rect Variants.none (c : Thread nD τ) none Set.univ (m := m) (r := r) hS) $$ Hf
  iintro Hf
  rw [wp_ret]
  have hx : (fun x => X (φ x)) = (m.access r).read (Elt F) f := by
    subst hf; funext x
    show _root_.cast _ (f (m.view.emb (r'.emb (Shape.reshapeEquiv hq.numel_eq (φ x))))) = _root_.cast _ (f (m.view.emb (r.emb x)))
    rw [hφ]
  rw [hx]
  imodintro
  iapply HQ
  iexists f
  isplitr
  · ipureintro; exact hf
  · iexact Hf

/-- A store, through a reference, of a whole part of it held on its own. -/
theorem part_store (c : Dev nD) {cs : CoreSpace} (m : Memref sig .tc cs s e) (r : Rect s) (w : r.shape.Idx → Elt F e)
    (hx : (m.access r).Stores Finset.univ) (hm : (Finset.univ : Finset r.shape.Idx) = Finset.univ ∨ ∀ a, r.stride a = 1)
    (hr : ∀ a, r.stride a = 1) (hq : r.shape.Squeezes s')
    (X : s'.Idx → Elt F e) (Q : PUnit → sProp 𝕄) :
    iprop(own c ((m.slice r hr).squeeze s' hq) X
        ∗ (own c ((m.slice r hr).squeeze s' hq) (fun y => w (Shape.reshapeEquiv hq.numel_eq y)) -∗ Q ⟨⟩))
      ⊢ WP c (Prog.lift (.store m r w Finset.univ hx hm)) Q := by
  iintro ⟨Hm, HQ⟩
  unfold own owns
  icases Hm with ⟨%f, %hf, Hf⟩
  have hS : (m.access r).setOn Finset.univ ⊆ ((m.slice r hr).squeeze s' hq).view.set := by
    show _ ⊆ (View.reshape (m.view.slice r) s' hq.numel_eq).set
    rw [View.set_reshape]
    exact View.setOn_subset_set _ _
  iapply (wp_store Variants.none (c : Thread nD τ) none Set.univ (m := m) (r := r) hS) $$ Hf
  iintro Hf
  rw [wp_ret]
  imodintro
  iapply HQ
  iexists _
  isplitr
  rotate_left
  · iexact Hf
  · ipureintro
    funext y
    show (m.access r).read (Elt F) ((m.access r).write (Elt F) f w Finset.univ) (Shape.reshapeEquiv hq.numel_eq y) = _
    rw [View.read_write_univ]

/-! ## Copies -/

/-- The copy in flight on `sm` that brings `src`'s contents `X` to `dst` and gives both back. -/
abbrev Copying (c : Dev nD) {sp sp' : Space} (src : Memref sig .tc sp s e) (dst : Memref sig .tc sp' s e)
    (sm : DmaSem sig) (X : s.Idx → Elt F e) : sProp 𝕄 :=
  Transfers.Flight countersEmb (c : Thread nD τ) (SemLoc.dma sm) () dst.view.dmaCredit
    iprop(own c dst X ∗ own c src X)

/-- What the core has waited for. -/
abbrev paid (c : Dev nD) : sProp 𝕄 := iprop(∃ W, owes (c : Thread nD τ) 0 W)

/-- Starting a copy. -/
theorem own_start (c : Dev nD) {sp sp' : Space} (src : Memref sig .tc sp s e) (dst : Memref sig .tc sp' s e) (sm : DmaSem sig)
    (hsrc : src.view.WordExact) (hdst : dst.view.WordExact)
    (hsem : DmaTarget.Typed (nD := nD) (τ := τ) (p := .tc) sp (.dma sm) (.here dst))
    (hpos : 0 < s.numel)
    (X Y : s.Idx → Elt F e) (Q : PUnit → sProp 𝕄) :
    iprop(own c src X ∗ own c dst Y ∗ semVal ((c : Thread nD τ), SemLoc.dma sm) 0 ∗ (Copying c src dst sm X -∗ Q ⟨⟩))
      ⊢ WP c (Prog.lift (.enqueueDma src (.here dst) (.dma sm) hsrc hdst hsem)) Q := by
  iintro ⟨Hs, Hd, Hv, HQ⟩
  unfold own owns
  icases Hs with ⟨%f, %hf, Hf⟩
  icases Hd with ⟨%g, %hg, Hg⟩
  iapply (Transfers.wp_dmaLocal countersEmb Variants.none (c : Thread nD τ) none () dst.view.dmaCredit rfl
    (dst.view.dmaCredit_pos hpos) (Finset.Subset.refl dst.view.set) (via := .same) (hsrc := hsrc) (hdst := hdst) (hsem := hsem)) $$ [Hf Hg Hv]
  · isplitl [Hf]; · iexact Hf
    isplitl [Hg]; · iexact Hg
    iexact Hv
  iintro HF
  rw [wp_ret]
  imodintro
  iapply HQ
  iapply (Transfers.Flight_mono countersEmb (c : Thread nD τ) (D' := iprop(own c dst X ∗ own c src X)) ?_) $$ HF
  iintro ⟨Hd, Hs⟩
  isplitl [Hd]
  · iapply (own_intro' c dst (X := X) (by rw [View.read_write_univ]; exact hf)) $$ Hd
  · iapply (own_intro' c src hf) $$ Hs

/-- Waiting for a copy. -/
theorem own_wait (c : Dev nD) {sp sp' sp'' : Space} (src : Memref sig .tc sp s e) (srcw : Memref sig .tc sp'' s e)
    (dst : Memref sig .tc sp' s e) (sm : DmaSem sig)
    (hsrc : srcw.view.WordExact) (hdst : dst.view.WordExact) (X : s.Idx → Elt F e) (Q : PUnit → sProp 𝕄) :
    iprop(Copying c src dst sm X ∗ paid c
        ∗ ((own c dst X ∗ own c src X ∗ semVal ((c : Thread nD τ), SemLoc.dma sm) 0 ∗ paid c) -∗ Q ⟨⟩))
      ⊢ WP c (Prog.lift (.waitDma2 sm srcw dst hsrc hdst)) Q := by
  iintro ⟨HF, ⟨%W, HO⟩, HQ⟩
  iapply (Transfers.wp_waitLocal countersEmb Variants.none (c : Thread nD τ) none () rfl) $$ [HF HO]
  · isplitl [HF]; · iexact HF
    iexact HO
  iintro ⟨⟨Hd, Hs⟩, Hv, HO⟩
  rw [wp_ret]
  imodintro
  iapply HQ
  isplitl [Hd]; · iexact Hd
  isplitl [Hs]; · iexact Hs
  isplitl [Hv]; · iexact Hv
  iexists _
  iexact HO

/-- A piece that only returns. -/
theorem wp_give (c : Dev nD) {α : Type} (x : α) (Q : α → sProp 𝕄) : Q x ⊢ WP c (pure x) Q := by
  show Q x ⊢ WP c (Prog.ret x) Q
  unfold WP
  rw [wp_ret]
  iintro H
  imodintro
  iexact H

/-- A piece after another. -/
theorem wp_then (c : Dev nD) {α β : Type} (p : PM F α) (k : α → PM F β) (Q : β → sProp 𝕄) :
    WP c p (fun x => WP c (k x) Q) ⊢ WP c (p >>= k) Q := by
  unfold WP
  rw [wp_bind]

end Cert.Proof.KernelIdeal
-- ==== Proof.Unit.lean ====
/- The two matrix units over one block: each chunk adds one product to each unit's accumulator, and the two pops leave
   both units as the block found them. -/
module

public import Idealize.ShloMosaic.Lib.Mxu.PassChain

@[expose] public section

noncomputable section

namespace Cert.Proof.KernelIdeal

open Idealize.ShloMosaic

variable {F : FTy → Type} [FloatOps F]

/-- Nothing staged and nothing accumulated. -/
def Idle (m : Mxu F) : Prop := (∀ q r, m.reg q r = none) ∧ ∀ q R, m.live q R = false

theorem idle_init : Idle (Mxu.init : Mxu F) := ⟨fun _ _ => rfl, fun _ _ => rfl⟩

theorem Idle.drained {m : Mxu F} (h : Idle m) : m.Drained :=
  ⟨fun q r => by rw [h.1]; rfl, h.2⟩

/-- The products added up, in order. -/
def accSum (P : Nat → FVec F (Mxu.STile 128) .f32) : Nat → FVec F (Mxu.STile 128) .f32
  | 0 => P 0
  | 1 => P 0
  | n + 2 => addf (accSum P (n + 1)) (P (n + 1))

/-- One product: an operand against a tile. -/
abbrev passOne (tile : FVec F (Mxu.STile 256) .bf16) (a : FVec F (Mxu.STile 128) .bf16) : FVec F (Mxu.STile 128) .f32 :=
  Mxu.passOf false (tile, a)

/-- The units after `n` chunks. -/
structure Midway (A : Nat) (hA : Mxu.Fits A 128) (P : Fin 2 → Nat → FVec F (Mxu.STile 128) .f32) (n : Nat) (m : Mxu F) : Prop where
  reg : ∀ q r, m.reg q r = none
  off : ∀ q (R : Fin 1024), ¬ (4 * A ≤ R.val ∧ R.val < 4 * A + 128) → m.live q R = false
  dead : n = 0 → ∀ q R, m.live q R = false
  live : 0 < n → ∀ q r, m.live q (Mxu.row hA r) = true
  read : 0 < n → ∀ q, m.read q A hA = accSum (P q) n

theorem Idle.midway {m : Mxu F} (h : Idle m) (A : Nat) (hA : Mxu.Fits A 128) (P : Fin 2 → Nat → FVec F (Mxu.STile 128) .f32) :
    Midway A hA P 0 m :=
  ⟨h.1, fun q R _ => h.2 q R, fun _ => h.2, fun h0 => absurd h0 (Nat.lt_irrefl _), fun h0 => absurd h0 (Nat.lt_irrefl _)⟩

section

variable (A : Nat) (hA : Mxu.Fits A 128) (r : Fin 2) (m : Mxu F) (v : FVec F (Mxu.STile 256) .bf16) (a : FVec F (Mxu.STile 128) .bf16)

theorem reg_step (q q' r' : Fin 2) (h : ∀ q r, m.reg q r = none) : (Mxu.pushAcc q r false A hA m v a).reg q' r' = none := by
  by_cases hq : q' = q ∧ r' = r
  · obtain ⟨rfl, rfl⟩ := hq; exact Mxu.reg_pushAcc _ _ _ _ _ _ _ _
  · unfold Mxu.pushAcc
    rw [Mxu.reg_accLhs_ne _ _ _ _ _ _ _ _ hq, Mxu.reg_pushed_ne _ _ _ _ _ _ _ hq, h]

theorem live_step (q q' : Fin 2) (R : Fin 1024) :
    (Mxu.pushAcc q r false A hA m v a).live q' R = if q' = q ∧ 4 * A ≤ R.val ∧ R.val < 4 * A + 128 then true else m.live q' R := by
  unfold Mxu.pushAcc
  rw [Mxu.live_accLhs, Mxu.live_pushed]

theorem read_step_ne (q q' : Fin 2) (h : q' ≠ q) : (Mxu.pushAcc q r false A hA m v a).read q' A hA = m.read q' A hA := by
  unfold Mxu.pushAcc
  rw [Mxu.read_accLhs_ne _ _ _ _ _ _ _ _ _ (Or.inl h), Mxu.read_pushed]

end

/-- One chunk: a push and a product on each unit. -/
theorem Midway.step {A : Nat} {hA : Mxu.Fits A 128} {P : Fin 2 → Nat → FVec F (Mxu.STile 128) .f32} {n : Nat} {m : Mxu F}
    (h : Midway A hA P n m) (r : Fin 2) (v0 v1 : FVec F (Mxu.STile 256) .bf16) (a : FVec F (Mxu.STile 128) .bf16)
    (h0 : P 0 n = passOne v0 a) (h1 : P 1 n = passOne v1 a) :
    Midway A hA P (n + 1) (Mxu.pushAcc 1 r false A hA (Mxu.pushAcc 0 r false A hA m v0 a) v1 a) := by
  have e0 : (Mxu.pushAcc 0 r false A hA m v0 a).read 0 A hA = accSum (P 0) (n + 1) := by
    cases n with
    | zero => rw [Mxu.read_pushAcc_of_not_live _ _ _ _ _ _ _ _ (h.reg _ _) (fun _ => h.dead rfl _ _)]; exact h0.symm
    | succ n =>
      rw [Mxu.read_pushAcc_of_live _ _ _ _ _ _ _ _ (h.reg _ _) (fun _ => h.live (Nat.succ_pos _) _ _), h.read (Nat.succ_pos _)]
      rw [accSum, h0]
  have hl1 : ∀ R, (Mxu.pushAcc 0 r false A hA m v0 a).live 1 R = m.live 1 R := fun R => by
    rw [live_step, if_neg]; rintro ⟨h, -⟩; exact absurd h (by decide)
  have hr1 : ∀ q r', (Mxu.pushAcc 0 r false A hA m v0 a).reg q r' = none := fun q r' => reg_step A hA r m v0 a 0 q r' h.reg
  have e1 : (Mxu.pushAcc 1 r false A hA (Mxu.pushAcc 0 r false A hA m v0 a) v1 a).read 1 A hA = accSum (P 1) (n + 1) := by
    cases n with
    | zero => rw [Mxu.read_pushAcc_of_not_live _ _ _ _ _ _ _ _ (hr1 _ _) (fun _ => by rw [hl1]; exact h.dead rfl _ _)]; exact h1.symm
    | succ n =>
      rw [Mxu.read_pushAcc_of_live _ _ _ _ _ _ _ _ (hr1 _ _) (fun _ => by rw [hl1]; exact h.live (Nat.succ_pos _) _ _),
        read_step_ne _ _ _ _ _ _ _ _ (by decide), h.read (Nat.succ_pos _)]
      rw [accSum, h1]
  refine ⟨fun q r' => reg_step _ _ _ _ _ _ _ _ _ hr1, fun q R hR => ?_, fun h => absurd h (Nat.succ_ne_zero _), fun _ q r' => ?_, fun _ q => ?_⟩
  · rw [live_step, if_neg (fun h => hR h.2), live_step, if_neg (fun h => hR h.2), h.off _ _ hR]
  · have hr : 4 * A ≤ (Mxu.row hA r').val ∧ (Mxu.row hA r').val < 4 * A + 128 := by
      have := r'.isLt; dsimp only [Mxu.row]; omega
    rw [live_step]
    split
    · rfl
    · rename_i hq
      rw [live_step, if_pos]
      refine ⟨?_, hr⟩
      have hq1 : q ≠ 1 := fun h => hq ⟨h, hr⟩
      omega
  · match q with
    | 0 => rw [read_step_ne _ _ _ _ _ _ _ _ (by decide)]; exact e0
    | 1 => exact e1

/-- The two pops. -/
theorem Midway.pops {A : Nat} {hA : Mxu.Fits A 128} {P : Fin 2 → Nat → FVec F (Mxu.STile 128) .f32} {n : Nat} {m : Mxu F}
    (h : Midway A hA P n m) : Idle ((m.pop 0 A 128 hA).pop 1 A 128 hA) := by
  refine ⟨fun q r => by rw [Mxu.reg_pop, Mxu.reg_pop]; exact h.reg q r, fun q R => ?_⟩
  rw [Mxu.live_pop]
  split
  · rfl
  · rename_i hq
    rw [Mxu.live_pop]
    split
    · rfl
    · rename_i hq0
      refine h.off q R fun hR => ?_
      have hq1 : q ≠ 1 := fun h => hq ⟨h, hR⟩
      have hq2 : q ≠ 0 := fun h => hq0 ⟨h, hR⟩
      omega

end Cert.Proof.KernelIdeal
-- ==== Proof.Block.lean ====
/- One block of the product: what its staged result is, from its staged weights and scales. -/
module

public import proofs.«01_k».proof.Proof.Kit
public import proofs.«01_k».proof.Proof.Unit

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Shapes1.Facts₀ Shapes2.Facts₀ K0.Facts₀ Facts₀ Facts

variable {F : FTy → Type} [FloatOps F]

local notation "𝕄" => MT nD τ sig Unit (Elt F) ℕ (Pipeline.UD sig nD τ) ℕ

abbrev rExp (p : Fin 2) : Rect S2x256x256 := Rect.unit (s := S2x256x256) ![p.val, 0, 0] S1x256x256.size (inbExp p)
abbrev rRow (p : Fin 2) (k g : Fin 16) : Rect S2x256x256 :=
  Rect.unit (s := S2x256x256) ![p.val, 16 * k.val + g.val, 0] S1x1x256.size (inbRow p k g)
abbrev rPairA (k : Fin 16) : Rect S128x4096 := Rect.unit (s := S128x4096) ![0, 256 * k.val] S128x256.size (inbPair k)

/-- Where chunk `k` lies in a block's weights. -/
theorem inbK : ∀ k : Fin 16, ∀ a, (![256 * k.val, 0] : Fin 2 → Nat) a + S256x256.size a ≤ S4096x256.size a := by decide +kernel
abbrev rK (k : Fin 16) : Rect S4096x256 := Rect.unit (s := S4096x256) ![256 * k.val, 0] S256x256.size (inbK k)

/-- Row `16 k + g` of the expanded scales of parity `p`. -/
def rowVec (E : FVec F S2x256x256 .f32) (p : Fin 2) (k g : Fin 16) : FVec F S1x1x256 .f32 := fun y => E ((rRow p k g).emb y)

/-- The scaled groups from `16 - n` on of chunk `k`, from the expanded scales `E`. -/
def rowsOf (E : FVec F S2x256x256 .f32) (p : Fin 2) (k : Fin 16) (q : FVec F S256x256 .bf16) :
    (n : Nat) → n ≤ 16 → List (FVec F S16x256 .bf16)
  | 0, _ => []
  | n + 1, h => scaleRows q ⟨15 - n, by omega⟩ (rowVec E p k ⟨15 - n, by omega⟩) :: rowsOf E p k q n (Nat.le_of_succ_le h)

/-- The tile of chunk `k`: decoded weights by their scales. -/
def tileOf (E : FVec F S2x256x256 .f32) (p : Fin 2) (k : Fin 16) (w : IVec S256x256 8) : FVec F S256x256 .bf16 :=
  stackRows (nth (scaleRows (value (extui 32 w natLt_8_32)) 0 (fun _ => Scalar.ofBits .f32 0#32))
    (rowsOf E p k (value (extui 32 w natLt_8_32)) 16 (Nat.le_refl _)))

/-- The bytes of chunk `k` of a block's weights, whose low four bits are the codes of the columns of parity `p`. -/
def nibbles (W : IVec S4096x256 8) (p : Fin 2) (k : Fin 16) : IVec S256x256 8 :=
  if p = 0 then fun y => W ((rK k).emb y) else highNibble (fun y => W ((rK k).emb y))

/-- The expanded scales of a block: one page for each parity of the columns. -/
def expOf (S : FVec F S256x512 .f32) (Z : FVec F S2x256x256 .f32) : FVec F S2x256x256 .f32 :=
  upd (F := F) (e := .f32) (rExp 1)
    (upd (F := F) (e := .f32) (rExp 0) Z (shapeCast S1x256x256 (deinter S 0#32) shapeCasts_S256x256_S1x256x256))
    (shapeCast S1x256x256 (deinter S 1#32) shapeCasts_S256x256_S1x256x256)

/-- Product `k` of the columns of parity `p`. -/
def productOf (a : FVec F S128x4096 .bf16) (E : FVec F S2x256x256 .f32) (W : IVec S4096x256 8) (p : Fin 2) (n : Nat) :
    FVec F S128x256 .f32 :=
  if h : n < 16 then passOne (tileOf E p ⟨n, h⟩ (nibbles W p ⟨n, h⟩)) (fun y => a ((rPairA ⟨n, h⟩).emb y)) else fun _ => FloatOps.ofBits .f32 0

/-- The staged product of a block, from the left operand, its weights and its scales. -/
def blockOf (xg wg : F .f32) (a : FVec F S128x4096 .bf16) (E : FVec F S2x256x256 .f32) (W : IVec S4096x256 8) :
    FVec F S128x512 .bf16 :=
  inter (scaleAcc xg wg (accSum (productOf a E W 0) 16)) (scaleAcc xg wg (accSum (productOf a E W 1) 16))

/-! ## A block's part of a buffer -/

theorem lead_emb {a b : Nat} (hq : (⟨3, ![1, a, b]⟩ : Shape).Squeezes ⟨2, ![a, b]⟩) (y : (⟨2, ![a, b]⟩ : Shape).Idx) :
    Shape.reshapeEquiv hq.numel_eq y = Fin.cons ⟨0, Nat.one_pos⟩ y := by
  exact Shape.reshapeEquiv_cons_one _ y

section

variable (c : Dev nD) (arg9 : Memref sig .tc .vmem S28x4096x256 .i8)
  (arg10 : Memref sig .tc .vmem S28x256x512 .fp8e4m3)
  (arg11 : Memref sig .tc .vmem S128x4096 .bf16)
  (arg15 : Memref sig .tc .vmem S2x256x256 .f32)
  (arg16 : Memref sig .tc .vmem S28x128x512 .bf16) (harg16 : arg16.IsWhole)

theorem loadS_spec (j : Fin 28) (S : FVec F S256x512 .fp8e4m3) (Q : FVec F S256x512 .f32 → sProp 𝕄) :
    iprop(own c (sDst arg10 j) S ∗ (own c (sDst arg10 j) S -∗ Q (extf .f32 S bitsLt_fp8e4m3_f32)))
      ⊢ WP c (loadS (F := F) arg10 j) Q := by
  iintro ⟨HS, HQ⟩
  unfold loadS
  iapply (wp_then c)
  iapply (part_load c arg10 _ _ (Rect.unit (s := S28x256x512) ![j.val, 0, 0] S1x256x512.size (inbSd j)) (fun _ => rfl)
    squeezes_S1x256x512_S256x512 (Shape.reshapeEquiv squeezes_S1x256x512_S256x512.numel_eq).symm
    (fun x => by rw [Equiv.apply_symm_apply]) S)
  isplitl [HS]; · iexact HS
  iintro HS
  iapply (wp_give c)
  have hv : (shapeCast S256x512 (fun x => S ((Shape.reshapeEquiv squeezes_S1x256x512_S256x512.numel_eq).symm x))
      shapeCasts_S1x256x512_S256x512 : FVec F S256x512 .fp8e4m3) = S := by
    funext y
    exact congrArg S (Equiv.symm_apply_apply _ y)
  erw [hv]
  iapply HQ
  iexact HS

theorem storeExp_spec (p : Fin 2) (e : FVec F S256x256 .f32) (Z : FVec F S2x256x256 .f32) (Q : PUnit → sProp 𝕄) :
    iprop(own c arg15 Z ∗ (own c arg15 (upd (F := F) (e := .f32) (rExp p) Z (shapeCast S1x256x256 e shapeCasts_S256x256_S1x256x256)) -∗ Q ⟨⟩))
      ⊢ WP c (storeExp (F := F) arg15 p e) Q := by
  iintro ⟨HZ, HQ⟩
  unfold storeExp
  iapply (wp_then c)
  iapply (own_load c arg15 (rExp p) _ Z)
  isplitl [HZ]; · iexact HZ
  iintro HZ
  iapply (own_store c arg15 (rExp p) _ _ _ Z)
  isplitl [HZ]; · iexact HZ
  iexact HQ

/-- Both pages of the expanded scales. -/
theorem storeExps_spec (S : FVec F S256x512 .f32) (Z : FVec F S2x256x256 .f32) {α : Type} (k : PM F α) (Q : α → sProp 𝕄) :
    iprop(own c arg15 Z ∗ (own c arg15 (expOf S Z) -∗ WP c k Q))
      ⊢ WP c (do storeExp (F := F) arg15 0 (deinter S 0#32); storeExp (F := F) arg15 1 (deinter S 1#32); k) Q := by
  iintro ⟨HZ, HQ⟩
  iapply (wp_then c)
  iapply (storeExp_spec c arg15 0 _ Z)
  isplitl [HZ]; · iexact HZ
  iintro HZ
  iapply (wp_then c)
  iapply (storeExp_spec c arg15 1 _ _)
  isplitl [HZ]; · iexact HZ
  unfold expOf
  iexact HQ

theorem loadRow_spec (E : FVec F S2x256x256 .f32) (p : Fin 2) (k g : Fin 16) (Q : Vec F S1x1x256 .f32 → sProp 𝕄) :
    iprop(own c arg15 E ∗ (own c arg15 E -∗ Q (rowVec E p k g))) ⊢ WP c (loadRow (F := F) arg15 p k g) Q :=
  own_load c arg15 (rRow p k g) _ E Q

theorem rows_spec (E : FVec F S2x256x256 .f32) (p : Fin 2) (k : Fin 16) (q : FVec F S256x256 .bf16) :
    ∀ (n : Nat) (h : n ≤ 16) (Q : List (FVec F S16x256 .bf16) → sProp 𝕄),
    iprop(own c arg15 E ∗ (own c arg15 E -∗ Q (rowsOf E p k q n h))) ⊢ WP c (rows (F := F) arg15 p k q n h) Q
  | 0, h, Q => by
    rw [rowsOf]
    iintro ⟨HE, HQ⟩
    iapply (wp_give c)
    iapply HQ $$ HE
  | n + 1, h, Q => by
    rw [rowsOf]
    iintro ⟨HE, HQ⟩
    iapply (wp_then c)
    iapply (loadRow_spec c arg15 E p k _)
    isplitl [HE]; · iexact HE
    iintro HE
    iapply (wp_then c)
    iapply (rows_spec E p k q n _)
    isplitl [HE]; · iexact HE
    iintro HE
    iapply (wp_give c)
    iapply HQ $$ HE

theorem half_spec (E : FVec F S2x256x256 .f32) (p : Fin 2) (A : Nat) (hA : Mxu.Fits A 128) (k : Fin 16) (w : IVec S256x256 8)
    (a : FVec F S128x256 .bf16) (m : Mxu F) (hm : ∀ q r, m.reg q r = none) (Q : Mxu F → sProp 𝕄) :
    iprop(own c arg15 E ∗ (own c arg15 E -∗ Q (Mxu.pushAcc p ⟨k.val % 2, Nat.mod_lt _ Nat.two_pos⟩ false A hA m (tileOf E p k w) a)))
      ⊢ WP c (half (F := F) arg15 p A hA k w a m) Q := by
  iintro ⟨HE, HQ⟩
  unfold half
  iapply (wp_then c)
  iapply (rows_spec c arg15 E p k _ 16 _)
  isplitl [HE]; · iexact HE
  iintro HE
  iapply (Mxu.wp_pushRhs _ (Mxu.pushOk_of_none _ _ _ _ (hm _ _)))
  iapply (wp_give c)
  unfold Mxu.pushAcc tileOf
  iapply HQ $$ HE

/-- A chunk's part of a block's staged weights. -/
theorem chunk_emb (j : Fin 28) (k : Fin 16) (x : S1x256x256.Idx) :
    (Rect.unit (s := S28x4096x256) ![j.val, 256 * k.val, 0] S1x256x256.size (inbChunk j k)).emb x
      = (Rect.unit (s := S28x4096x256) ![j.val, 0, 0] S1x4096x256.size (inbWd j)).emb
          (Shape.reshapeEquiv squeezes_S1x4096x256_S4096x256.numel_eq
            ((rK k).emb ((Shape.reshapeEquiv (s := S1x256x256) (s' := S256x256) shapeCasts_S1x256x256_S256x256).symm x))) := by
  obtain ⟨y, rfl⟩ := (Shape.reshapeEquiv (s := S1x256x256) (s' := S256x256) shapeCasts_S1x256x256_S256x256).surjective x
  rw [Equiv.symm_apply_apply]
  have h1 : Shape.reshapeEquiv (s := S1x256x256) (s' := S256x256) shapeCasts_S1x256x256_S256x256 y = Fin.cons ⟨0, Nat.one_pos⟩ y :=
    Shape.reshapeEquiv_cons_one _ y
  have h2 : Shape.reshapeEquiv squeezes_S1x4096x256_S4096x256.numel_eq ((rK k).emb y) = Fin.cons ⟨0, Nat.one_pos⟩ ((rK k).emb y) :=
    Shape.reshapeEquiv_cons_one _ _
  rw [h1, h2]
  funext b
  apply Fin.ext
  match b with
  | 0 => rfl
  | 1 => show 256 * k.val + 1 * (y 0).val = 0 + 1 * (256 * k.val + 1 * (y 0).val); omega
  | 2 => show 0 + 1 * (y 1).val = 0 + 1 * (0 + 1 * (y 1).val); omega

theorem chunk_spec (A : Nat) (hA : Mxu.Fits A 128) (j : Fin 28) (k : Fin 16) (m : Mxu F) (W : IVec S4096x256 8)
    (a : FVec F S128x4096 .bf16) (E : FVec F S2x256x256 .f32)
    (hm : Midway A hA (productOf a E W) k.val m) (Q : Mxu F → sProp 𝕄) :
    iprop(own c (wDst arg9 j) W ∗ own c arg11 a ∗ own c arg15 E
        ∗ (∀ m', (⌜Midway A hA (productOf a E W) (k.val + 1) m'⌝ ∗ own c (wDst arg9 j) W ∗ own c arg11 a ∗ own c arg15 E) -∗ Q m'))
      ⊢ WP c (chunk (F := F) arg9 arg11 arg15 A hA j k m) Q := by
  iintro ⟨HW, Ha, HE, HQ⟩
  unfold chunk
  iapply (wp_then c)
  iapply (part_load c arg9 _ _ (Rect.unit (s := S28x4096x256) ![j.val, 0, 0] S1x4096x256.size (inbWd j)) (fun _ => rfl)
    squeezes_S1x4096x256_S4096x256
    (fun x => (rK k).emb ((Shape.reshapeEquiv (s := S1x256x256) (s' := S256x256) shapeCasts_S1x256x256_S256x256).symm x))
    (chunk_emb j k) W)
  isplitl [HW]; · iexact HW
  iintro HW
  iapply (wp_then c)
  iapply (own_load c arg11 (rPairA k) _ a)
  isplitl [Ha]; · iexact Ha
  iintro Ha
  have hv : (shapeCast S256x256 (fun x => W ((rK k).emb ((Shape.reshapeEquiv (s := S1x256x256) (s' := S256x256) shapeCasts_S1x256x256_S256x256).symm x)))
      shapeCasts_S1x256x256_S256x256 : IVec S256x256 8) = fun y => W ((rK k).emb y) := by
    funext y
    exact congrArg (fun z => W ((rK k).emb z)) (Equiv.symm_apply_apply _ y)
  erw [hv]
  iapply (wp_then c)
  iapply (half_spec c arg15 E 0 A hA k _ _ m hm.reg)
  isplitl [HE]; · iexact HE
  iintro HE
  iapply (half_spec c arg15 E 1 A hA k _ _ _ (fun q r => reg_step A hA _ m _ _ 0 q r hm.reg))
  isplitl [HE]; · iexact HE
  iintro HE
  iapply HQ
  isplitr
  · ipureintro
    refine hm.step _ _ _ _ ?_ ?_
    · unfold productOf; rw [dif_pos k.isLt]; rfl
    · unfold productOf; rw [dif_pos k.isLt]; rfl
  isplitl [HW]; · iexact HW
  isplitl [Ha]; · iexact Ha
  iexact HE

theorem chunksUpto_spec (A : Nat) (hA : Mxu.Fits A 128) (j : Fin 28) (m : Mxu F) (W : IVec S4096x256 8)
    (a : FVec F S128x4096 .bf16) (E : FVec F S2x256x256 .f32) (hm : Idle m) : ∀ (n : Nat) (hn : n ≤ 16) (Q : Mxu F → sProp 𝕄),
    iprop(own c (wDst arg9 j) W ∗ own c arg11 a ∗ own c arg15 E
        ∗ (∀ m', (⌜Midway A hA (productOf a E W) n m'⌝ ∗ own c (wDst arg9 j) W ∗ own c arg11 a ∗ own c arg15 E) -∗ Q m'))
      ⊢ WP c (chunksUpto (F := F) arg9 arg11 arg15 A hA j m n hn) Q
  | 0, hn, Q => by
    iintro ⟨HW, Ha, HE, HQ⟩
    iapply (wp_give c)
    iapply HQ
    isplitr
    · ipureintro; exact hm.midway A hA _
    isplitl [HW]; · iexact HW
    isplitl [Ha]; · iexact Ha
    iexact HE
  | n + 1, hn, Q => by
    iintro ⟨HW, Ha, HE, HQ⟩
    iapply (wp_then c)
    iapply (chunksUpto_spec A hA j m W a E hm n _)
    isplitl [HW]; · iexact HW
    isplitl [Ha]; · iexact Ha
    isplitl [HE]; · iexact HE
    iintro %m' ⟨%hm', HW, Ha, HE⟩
    iapply (chunk_spec c arg9 arg11 arg15 A hA j ⟨n, hn⟩ m' W a E hm')
    isplitl [HW]; · iexact HW
    isplitl [Ha]; · iexact Ha
    isplitl [HE]; · iexact HE
    iexact HQ

theorem storeY_spec (j : Fin 28) (y Y : FVec F S128x512 .bf16) (Q : PUnit → sProp 𝕄) :
    iprop(own c (ySrc arg16 j) Y ∗ (own c (ySrc arg16 j) y -∗ Q ⟨⟩)) ⊢ WP c (storeY (F := F) arg16 harg16 j y) Q := by
  iintro ⟨HY, HQ⟩
  unfold storeY
  iapply (wp_then c)
  iapply (part_load c arg16 _ _ (Rect.unit (s := S28x128x512) ![j.val, 0, 0] S1x128x512.size (inbYs j)) (fun _ => rfl)
    squeezes_S1x128x512_S128x512 (Shape.reshapeEquiv squeezes_S1x128x512_S128x512.numel_eq).symm
    (fun x => by rw [Equiv.apply_symm_apply]) Y)
  isplitl [HY]; · iexact HY
  iintro HY
  iapply (part_store c arg16 (Rect.unit (s := S28x128x512) ![j.val, 0, 0] S1x128x512.size (inbYs j)) _ _ _ (fun _ => rfl)
    squeezes_S1x128x512_S128x512 Y)
  isplitl [HY]; · iexact HY
  have hv : (fun i => (shapeCast S1x128x512 y shapeCasts_S128x512_S1x128x512 : FVec F S1x128x512 .bf16)
      (Shape.reshapeEquiv squeezes_S1x128x512_S128x512.numel_eq i)) = y := by
    funext i
    show y (Shape.reshapeEquiv _ (Shape.reshapeEquiv _ i)) = y i
    rw [Shape.reshapeEquiv_reshapeEquiv, Shape.reshapeEquiv_self]
  iintro HY
  iapply HQ
  have hown : own c (ySrc arg16 j) y = own (F := F) c ((arg16.slice (Rect.unit (s := S28x128x512) ![j.val, 0, 0] S1x128x512.size (inbYs j)) (fun _ => rfl)).squeeze
      S128x512 squeezes_S1x128x512_S128x512) (fun i => (shapeCast S1x128x512 y shapeCasts_S128x512_S1x128x512 : FVec F S1x128x512 .bf16)
      (Shape.reshapeEquiv squeezes_S1x128x512_S128x512.numel_eq i)) := by rw [hv]; rfl
  rw [hown]
  iexact HY

attribute [local irreducible] chunksUpto accSum productOf in
/-- One block, from its staged weights and scales to its staged product; the units are idle before and after. -/
theorem blockCore_spec (A : Nat) (hA : Mxu.Fits A 128) (xg wg : F .f32) (j : Fin 28) (m : Mxu F) (W : IVec S4096x256 8)
    (S : FVec F S256x512 .fp8e4m3) (a : FVec F S128x4096 .bf16) (Z : FVec F S2x256x256 .f32) (Y : FVec F S128x512 .bf16)
    (hm : Idle m) (Q : Mxu F → sProp 𝕄) :
    iprop(own c (wDst arg9 j) W ∗ own c (sDst arg10 j) S ∗ own c arg11 a ∗ own c arg15 Z ∗ own c (ySrc arg16 j) Y
        ∗ (∀ m', (⌜Idle m'⌝ ∗ own c (wDst arg9 j) W ∗ own c (sDst arg10 j) S ∗ own c arg11 a
              ∗ own c arg15 (expOf (extf .f32 S bitsLt_fp8e4m3_f32) Z)
              ∗ own c (ySrc arg16 j) (blockOf xg wg a (expOf (extf .f32 S bitsLt_fp8e4m3_f32) Z) W)) -∗ Q m'))
      ⊢ WP c (blockCore (F := F) arg9 arg10 arg11 arg15 arg16 harg16 A hA xg wg j m) Q := by
  iintro ⟨HW, HS, Ha, HZ, HY, HQ⟩
  unfold blockCore
  iapply (wp_then c)
  iapply (loadS_spec c arg10 j S)
  isplitl [HS]; · iexact HS
  iintro HS
  generalize (extf .f32 S bitsLt_fp8e4m3_f32 : FVec F S256x512 .f32) = S'
  iapply (storeExps_spec c arg15 S' Z)
  isplitl [HZ]; · iexact HZ
  generalize expOf S' Z = E
  iintro HE
  iapply (wp_then c)
  iapply (chunksUpto_spec c arg9 arg11 arg15 A hA j m W a E hm 16 _)
  isplitl [HW]; · iexact HW
  isplitl [Ha]; · iexact Ha
  isplitl [HE]; · iexact HE
  iintro %m' ⟨%hm', HW, Ha, HE⟩
  iapply (wp_then c)
  iapply (storeY_spec c arg16 harg16 j _ Y)
  isplitl [HY]; · iexact HY
  iintro HY
  iapply (wp_give c)
  iapply HQ
  isplitr
  · ipureintro; exact hm'.pops
  isplitl [HW]; · iexact HW
  isplitl [HS]; · iexact HS
  isplitl [Ha]; · iexact Ha
  isplitl [HE]; · iexact HE
  have hy0 : m'.read 0 A hA = accSum (productOf a E W 0) 16 := hm'.read (Nat.succ_pos _) 0
  have hy1 : (m'.pop 0 A 128 hA).read 1 A hA = accSum (productOf a E W 1) 16 :=
    (Mxu.read_pop_ne m' 0 A hA 1 A hA (Or.inl (by decide))).trans (hm'.read (Nat.succ_pos _) 1)
  unfold blockOf
  rw [← hy0, ← hy1]
  iexact HY

end

end Cert.Proof.KernelIdeal
-- ==== Proof.Roll.lean ====
/- The printed kernel is the short program: they are the same statements, and the equation holds by unfolding. -/
module

public import proofs.«01_k».proof.Proof.Program

@[expose] public section

noncomputable section

namespace Cert.Proof.KernelIdeal

open Cert.KernelIdeal
open Idealize.ShloMosaic Idealize.ShloMosaic.TcCoe Idealize.SL.Sem
open Shapes1.Facts₀ Shapes2.Facts₀ K0.Facts₀ Facts₀ Facts

variable {F : FTy → Type} [FloatOps F]

/-- The number of the block that half `r` of trip `t` computes, as the kernel computes it. -/
def blockNo (t : Fin k0_t1_loop.trips) (r : BitVec 32) : BitVec 32 :=
  Scalar.addi (Scalar.muli 2#32 (Scalar.addi 0#32 (Scalar.muli (Scf.iv 0#32 1#32 t) 1#32))) r

theorem blockNo_lt : ∀ (t : Fin k0_t1_loop.trips) (r : Fin 2), (blockNo t (BitVec.ofNat 32 r.val)).toNat < 28 := by
  decide +kernel
theorem blockNo_w : ∀ (t : Fin k0_t1_loop.trips) (r : Fin 2), (Scalar.muli (blockNo t (BitVec.ofNat 32 r.val)) 256#32).toNat
    = 256 * (blockNo t (BitVec.ofNat 32 r.val)).toNat := by decide +kernel
theorem blockNo_s : ∀ (t : Fin k0_t1_loop.trips) (r : Fin 2),
    (Scalar.muli (Scalar.muli (blockNo t (BitVec.ofNat 32 r.val)) 2#32) 256#32).toNat
    = 512 * (blockNo t (BitVec.ofNat 32 r.val)).toNat := by decide +kernel
theorem blockNo_val : ∀ (t : Fin k0_t1_loop.trips) (r : Fin 2),
    (blockNo t (BitVec.ofNat 32 r.val)).toNat = 2 * t.val + r.val := by decide +kernel

variable (arg0 : Memref sig .tc .smem S1x1 .f32) (harg0 : arg0.IsWhole)
  (arg1 : Memref sig .tc .hbm S128x4096 .bf16) (harg1 : arg1.IsWhole)
  (arg2 : Memref sig .tc .hbm S4096x7168 .i8) (harg2 : arg2.IsWhole)
  (arg3 : Memref sig .tc .hbm S256x14336 .fp8e4m3) (harg3 : arg3.IsWhole)
  (arg4 : Memref sig .tc .hbm S128x14336 .bf16) (harg4 : arg4.IsWhole)
  (arg5 : Memref sig .tc .hbm S128x2048 .i8) (harg5 : arg5.IsWhole)
  (arg6 : Memref sig .tc .hbm S128x256 .fp8e4m3) (harg6 : arg6.IsWhole)
  (arg7 : Memref sig .tc .smem S1x1 .f32) (harg7 : arg7.IsWhole)
  (arg8 : Memref sig .tc .vmem S128x4096 .bf16) (harg8 : arg8.IsWhole)
  (arg9 : Memref sig .tc .vmem S28x4096x256 .i8) (harg9 : arg9.IsWhole)
  (arg10 : Memref sig .tc .vmem S28x256x512 .fp8e4m3) (harg10 : arg10.IsWhole)
  (arg11 : Memref sig .tc .vmem S128x4096 .bf16) (harg11 : arg11.IsWhole)
  (arg12 : Memref sig .tc .vmem S128x4096 .i8) (harg12 : arg12.IsWhole)
  (arg13 : Memref sig .tc .vmem S128x2048 .i8) (harg13 : arg13.IsWhole)
  (arg14 : Memref sig .tc .vmem S128x256 .fp8e4m3) (harg14 : arg14.IsWhole)
  (arg15 : Memref sig .tc .vmem S2x256x256 .f32) (harg15 : arg15.IsWhole)
  (arg16 : Memref sig .tc .vmem S28x128x512 .bf16) (harg16 : arg16.IsWhole)
  (arg17 : DmaSems sig S_) (arg18 arg19 : DmaSems sig S28) (arg20 arg21 : DmaSems sig S_) (arg22 : DmaSems sig S28)

/-- The waits and the start of a block, its column offsets as computed. -/
def waitWAt (j : Fin 28) (o : Nat) (ho : o = 256 * j.val) : PM F PUnit :=
  Prog.lift (.waitDma2 (semAt arg18 j).sem
    (arg2.slice (Rect.unit (s := S4096x7168) ![0, o] S4096x256.size (by subst ho; exact inbWs j)) (fun _ => rfl)) (wDst arg9 j)
    (harg2.wordExact_slice rfl _ (by subst ho; exact wordsWs j)) ((harg9.wordExact_slice rfl _ (wordsWd j)).reshape _ _))
def waitSAt (j : Fin 28) (o : Nat) (ho : o = 512 * j.val) : PM F PUnit :=
  Prog.lift (.waitDma2 (semAt arg19 j).sem
    (arg3.slice (Rect.unit (s := S256x14336) ![0, o] S256x512.size (by subst ho; exact inbSs j)) (fun _ => rfl)) (sDst arg10 j)
    (harg3.wordExact_slice rfl _ (by subst ho; exact wordsSs j)) ((harg10.wordExact_slice rfl _ (wordsSd j)).reshape _ _))
def startYAt (j : Fin 28) (o : Nat) (ho : o = 512 * j.val) : PM F PUnit :=
  Prog.lift (.enqueueDma (ySrc arg16 j)
    (.here (arg4.slice (Rect.unit (s := S128x14336) ![0, o] S128x512.size (by subst ho; exact inbYd j)) (fun _ => rfl)))
    (.dma (semAt arg22 j).sem) ((harg16.wordExact_slice rfl _ (wordsYs j)).reshape _ _)
    (harg4.wordExact_slice rfl _ (by subst ho; exact wordsYd j)) ⟨Or.inl rfl, trivial⟩)

theorem waitWAt_eq (j : Fin 28) (o : Nat) (ho : o = 256 * j.val) :
    waitWAt (F := F) arg2 harg2 arg9 harg9 arg18 j o ho = waitW arg2 harg2 arg9 harg9 arg18 j := by subst ho; rfl
theorem waitSAt_eq (j : Fin 28) (o : Nat) (ho : o = 512 * j.val) :
    waitSAt (F := F) arg3 harg3 arg10 harg10 arg19 j o ho = waitS arg3 harg3 arg10 harg10 arg19 j := by subst ho; rfl
theorem startYAt_eq (j : Fin 28) (o : Nat) (ho : o = 512 * j.val) :
    startYAt (F := F) arg4 harg4 arg16 harg16 arg22 j o ho = startY arg4 harg4 arg16 harg16 arg22 j := by subst ho; rfl

/-- A block of trip `t`, as printed. -/
def blockP (A : Nat) (hA : Mxu.Fits A 128) (xg wg : F .f32) (t : Fin k0_t1_loop.trips) (r : Fin 2) (m : Mxu F) :
    PM F (Mxu F) := do
  waitWAt arg2 harg2 arg9 harg9 arg18 ⟨_, blockNo_lt t r⟩ _ (blockNo_w t r)
  waitSAt arg3 harg3 arg10 harg10 arg19 ⟨_, blockNo_lt t r⟩ _ (blockNo_s t r)
  let m' : Mxu F ← blockCore arg9 arg10 arg11 arg15 arg16 harg16 A hA xg wg ⟨_, blockNo_lt t r⟩ m
  startYAt arg4 harg4 arg16 harg16 arg22 ⟨_, blockNo_lt t r⟩ _ (blockNo_s t r)
  pure m'

/-- What comes before the loop over the blocks: the copies of the weights are started, the rows quantised, and the
    copies of their codes and scales started.  The two numbers the loop uses are the scale of the rows and the scale of
    the weights. -/
def prepare : PM F (Elt F .f32 × Elt F .f32) := do
  Prog.lift (.enqueueDma arg1 (.here arg8) (.dma arg17.sem) harg1.wordExact harg8.wordExact ⟨Or.inl rfl, trivial⟩)
  startsUpto arg2 harg2 arg3 harg3 arg9 harg9 arg10 harg10 arg18 arg19 28 (Nat.le_refl _)
  Prog.lift (.waitDma2 arg17.sem arg1 arg8 harg1.wordExact harg8.wordExact)
  let x0 : Vec F S128x128 .bf16 ← loadX arg8 0
  let xs : List (FVec F S128x128 .bf16) ← loadsX arg8 31 (by decide)
  let xg := xglobal x0 xs
  quantHalf arg11 harg11 arg12 harg12 arg14 harg14 0 xg (halfOf x0 xs 0)
  quantHalf arg11 harg11 arg12 harg12 arg14 harg14 1 xg (halfOf x0 xs 1)
  let _old : Elt F .f32 ← smemLoad arg7 (Rect.unit (s := S1x1) ![0, 0] S1x1.size inb_S1x1_S1x1_0_0) numel1_S1x1 rfl
  Prog.lift (.store arg7 (Rect.unit (s := S1x1) ![0, 0] S1x1.size inb_S1x1_S1x1_0_0) (fun _ => xg) Finset.univ
    (View.stores_smem_one rfl numel1_S1x1) (.inl rfl))
  Prog.lift (.enqueueDma arg14 (.here arg6) (.dma arg21.sem) harg14.wordExact harg6.wordExact ⟨Or.inl rfl, trivial⟩)
  packUpto arg12 arg13 harg13 16 (Nat.le_refl _)
  Prog.lift (.enqueueDma arg13 (.here arg5) (.dma arg20.sem) harg13.wordExact harg5.wordExact ⟨Or.inl rfl, trivial⟩)
  let wg : Elt F .f32 ← smemLoad arg0 (Rect.unit (s := S1x1) ![0, 0] S1x1.size inb_S1x1_S1x1_0_0) numel1_S1x1 rfl
  pure (xg, wg)

/-- One trip of the loop: two blocks. -/
def trip (xg wg : Elt F .f32) (t : Fin (Scf.trips k0_t1_loop.lb k0_t1_loop.ub k0_t1_loop.st)) (m : Mxu F) :
    PM F (Mxu F) := do
  let m0 : Mxu F ← blockP arg2 harg2 arg3 harg3 arg4 harg4 arg9 harg9 arg10 harg10 arg11 arg15 arg16 harg16 arg18 arg19 arg22
    0 fits_0_128 xg wg t 0 m
  blockP arg2 harg2 arg3 harg3 arg4 harg4 arg9 harg9 arg10 harg10 arg11 arg15 arg16 harg16 arg18 arg19 arg22
    32 fits_32_128 xg wg t 1 m0

/-- The loop over the blocks, and the waits for the copies of the codes, the scales and the first three blocks. -/
def loopAndFirst (xg wg : Elt F .f32) : PM F (Mxu F) := do
  let m : Mxu F ← Scf.Loop.for k0_t1_loop k0_t1_ok (Mxu.init) (trip arg2 harg2 arg3 harg3 arg4 harg4 arg9 harg9 arg10 harg10 arg11 arg15 arg16 harg16 arg18 arg19 arg22 xg wg)
  Prog.lift (.waitDma2 arg21.sem arg14 arg6 harg14.wordExact harg6.wordExact)
  Prog.lift (.waitDma2 arg20.sem arg13 arg5 harg13.wordExact harg5.wordExact)
  waitsFrom arg4 harg4 arg16 harg16 arg22 0 3 (by decide)
  pure m

/-- The whole kernel. -/
def prog : PM F PUnit := do
  let m : Mxu F ← (do
    let s : Elt F .f32 × Elt F .f32 ← prepare arg0 arg1 harg1 arg2 harg2 arg3 harg3 arg5 harg5 arg6 harg6 arg7 arg8 harg8 arg9 harg9 arg10 harg10 arg11 harg11 arg12 harg12 arg13 harg13 arg14 harg14 arg17 arg18 arg19 arg20 arg21
    let m : Mxu F ← loopAndFirst arg2 harg2 arg3 harg3 arg4 harg4 arg5 harg5 arg6 harg6 arg9 harg9 arg10 harg10 arg11 arg13 harg13 arg14 harg14 arg15 arg16 harg16 arg18 arg19 arg20 arg21 arg22 s.1 s.2
    waitsFrom arg4 harg4 arg16 harg16 arg22 3 25 (by decide)
    pure m)
  m.exit
  pure ⟨⟩

end Cert.Proof.KernelIdeal
-- ==== Proof.Stages.lean ====
/- The twenty-eight blocks: where each one stands while the kernel runs, and what each piece of the program does to them. -/
module

public import proofs.«01_k».proof.Proof.Block
public import proofs.«01_k».proof.Proof.Roll

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Shapes1.Facts₀ Shapes2.Facts₀ K0.Facts₀ Facts₀ Facts

variable {F : FTy → Type} [FloatOps F]

local notation "𝕄" => MT nD τ sig Unit (Elt F) ℕ (Pipeline.UD sig nD τ) ℕ

/-- The kernel's memory references. -/
structure Args where
  a0 : Memref sig .tc .smem S1x1 .f32
  h0 : a0.IsWhole
  a1 : Memref sig .tc .hbm S128x4096 .bf16
  h1 : a1.IsWhole
  a2 : Memref sig .tc .hbm S4096x7168 .i8
  h2 : a2.IsWhole
  a3 : Memref sig .tc .hbm S256x14336 .fp8e4m3
  h3 : a3.IsWhole
  a4 : Memref sig .tc .hbm S128x14336 .bf16
  h4 : a4.IsWhole
  a5 : Memref sig .tc .hbm S128x2048 .i8
  h5 : a5.IsWhole
  a6 : Memref sig .tc .hbm S128x256 .fp8e4m3
  h6 : a6.IsWhole
  a7 : Memref sig .tc .smem S1x1 .f32
  h7 : a7.IsWhole
  a8 : Memref sig .tc .vmem S128x4096 .bf16
  h8 : a8.IsWhole
  a9 : Memref sig .tc .vmem S28x4096x256 .i8
  h9 : a9.IsWhole
  a10 : Memref sig .tc .vmem S28x256x512 .fp8e4m3
  h10 : a10.IsWhole
  a11 : Memref sig .tc .vmem S128x4096 .bf16
  h11 : a11.IsWhole
  a12 : Memref sig .tc .vmem S128x4096 .i8
  h12 : a12.IsWhole
  a13 : Memref sig .tc .vmem S128x2048 .i8
  h13 : a13.IsWhole
  a14 : Memref sig .tc .vmem S128x256 .fp8e4m3
  h14 : a14.IsWhole
  a15 : Memref sig .tc .vmem S2x256x256 .f32
  h15 : a15.IsWhole
  a16 : Memref sig .tc .vmem S28x128x512 .bf16
  h16 : a16.IsWhole
  a17 : DmaSems sig S_
  a18 : DmaSems sig S28
  a19 : DmaSems sig S28
  a20 : DmaSems sig S_
  a21 : DmaSems sig S_
  a22 : DmaSems sig S28

/-! ## The expanded scales cover their buffer -/

theorem exp_cover (i : S2x256x256.Idx) : ∃ (p : Fin 2) (x : S1x256x256.Idx), (rExp p).emb x = i := by
  refine ⟨i 0, fun | 0 => ⟨0, Nat.one_pos⟩ | 1 => i 1 | 2 => i 2, ?_⟩
  funext b
  apply Fin.ext
  match b with
  | 0 => show (i 0).val + 1 * 0 = (i 0).val; omega
  | 1 => show 0 + 1 * (i 1).val = (i 1).val; omega
  | 2 => show 0 + 1 * (i 2).val = (i 2).val; omega

theorem expOf_const (S : FVec F S256x512 .f32) (Z Z' : FVec F S2x256x256 .f32) : expOf S Z = expOf S Z' := by
  funext i
  obtain ⟨p, x, rfl⟩ := exp_cover i
  unfold expOf
  by_cases h : ∃ x', (rExp 1).emb x' = (rExp p).emb x
  · obtain ⟨x', hx'⟩ := h
    rw [← hx', upd_emb, upd_emb]
  · rw [upd_off _ _ _ h, upd_off _ _ _ h]
    have hp : p = 0 := by
      by_contra hp
      have : p = 1 := by omega
      subst this; exact h ⟨x, rfl⟩
    subst hp
    rw [upd_emb, upd_emb]

/-- The expanded scales of a block. -/
def expanded (S : FVec F S256x512 .f32) : FVec F S2x256x256 .f32 := expOf S (fun _ => FloatOps.ofBits .f32 0)

/-! ## Where a block stands -/

abbrev rWs (j : Fin 28) : Rect S4096x7168 := Rect.unit (s := S4096x7168) ![0, 256 * j.val] S4096x256.size (inbWs j)
abbrev rSs (j : Fin 28) : Rect S256x14336 := Rect.unit (s := S256x14336) ![0, 512 * j.val] S256x512.size (inbSs j)
abbrev rYd (j : Fin 28) : Rect S128x14336 := Rect.unit (s := S128x14336) ![0, 512 * j.val] S128x512.size (inbYd j)

/-- The weights, the scales and the product of block `j`. -/
def blkW (W : IVec S4096x7168 8) (j : Fin 28) : IVec S4096x256 8 := fun y => W ((rWs j).emb y)
def blkS (S : FVec F S256x14336 .fp8e4m3) (j : Fin 28) : FVec F S256x512 .fp8e4m3 := fun y => S ((rSs j).emb y)
def blkY (xg wg : F .f32) (a : FVec F S128x4096 .bf16) (W : IVec S4096x7168 8) (S : FVec F S256x14336 .fp8e4m3) (j : Fin 28) :
    FVec F S128x512 .bf16 :=
  blockOf xg wg a (expanded (extf .f32 (blkS S j) bitsLt_fp8e4m3_f32)) (blkW W j)

section

variable (c : Dev nD) (K : Args) (W : IVec S4096x7168 8) (S : FVec F S256x14336 .fp8e4m3)
  (xg wg : F .f32) (a : FVec F S128x4096 .bf16)

abbrev zeroed (s : DmaSem sig) : sProp 𝕄 := semVal ((c : Thread nD τ), SemLoc.dma s) 0

/-- The block's weights and scales, back from their copies. -/
def landed (j : Fin 28) : sProp 𝕄 := iprop(
  own c (wDst K.a9 j) (blkW W j) ∗ own c (wSrc K.a2 j) (blkW W j) ∗ zeroed c (semAt K.a18 j).sem
  ∗ own c (sDst K.a10 j) (blkS S j) ∗ own c (sSrc K.a3 j) (blkS S j) ∗ zeroed c (semAt K.a19 j).sem)

/-- Room for the block's product. -/
def room (j : Fin 28) : sProp 𝕄 := iprop(
  (∃ Y, own (F := F) c (ySrc K.a16 j) Y) ∗ (∃ Y, own (F := F) c (yDst K.a4 j) Y) ∗ zeroed c (semAt K.a22 j).sem)

/-- Nothing started. -/
def raw (j : Fin 28) : sProp 𝕄 := iprop(
  (∃ V, own (F := F) c (wDst K.a9 j) V) ∗ own c (wSrc K.a2 j) (blkW W j) ∗ zeroed c (semAt K.a18 j).sem
  ∗ (∃ V, own (F := F) c (sDst K.a10 j) V) ∗ own c (sSrc K.a3 j) (blkS S j) ∗ zeroed c (semAt K.a19 j).sem
  ∗ room c K j)

/-- The weights and the scales on their way. -/
def pending (j : Fin 28) : sProp 𝕄 := iprop(
  Copying c (wSrc K.a2 j) (wDst K.a9 j) (semAt K.a18 j).sem (blkW W j)
  ∗ Copying c (sSrc K.a3 j) (sDst K.a10 j) (semAt K.a19 j).sem (blkS S j) ∗ room c K j)

/-- The product on its way. -/
def done (j : Fin 28) : sProp 𝕄 := iprop(
  landed c K W S j ∗ Copying c (ySrc K.a16 j) (yDst K.a4 j) (semAt K.a22 j).sem (blkY xg wg a W S j))

/-- The product delivered. -/
def delivered (j : Fin 28) : sProp 𝕄 := iprop(
  landed c K W S j ∗ own c (yDst K.a4 j) (blkY xg wg a W S j) ∗ own c (ySrc K.a16 j) (blkY xg wg a W S j)
  ∗ zeroed c (semAt K.a22 j).sem)

/-- All the blocks, the first `n` at `P` and the others at `Q`. -/
def upto (P Q : Fin 28 → sProp 𝕄) (n : Nat) : sProp 𝕄 := bigSep Finset.univ fun j => if j.val < n then P j else Q j

theorem upto_zero (P Q : Fin 28 → sProp 𝕄) : upto P Q 0 = bigSep Finset.univ Q :=
  bigSep_congr fun j _ => if_neg (Nat.not_lt_zero _)

theorem upto_all (P Q : Fin 28 → sProp 𝕄) : upto P Q 28 = bigSep Finset.univ P :=
  bigSep_congr fun j _ => if_pos j.isLt

/-- Moving block `n` on. -/
theorem upto_step (P Q : Fin 28 → sProp 𝕄) (n : Nat) (h : n < 28) :
    upto P Q n ⊢ iprop(Q ⟨n, h⟩ ∗ (P ⟨n, h⟩ -∗ upto P Q (n + 1))) := by
  unfold upto
  have e := bigSep_univ_update (Φ := fun j : Fin 28 => if j.val < n then P j else Q j)
    (Ψ := fun j : Fin 28 => if j.val < n + 1 then P j else Q j) ⟨n, h⟩ (fun j hj => by
      have hne : j.val ≠ n := fun e => hj (Fin.ext e)
      by_cases hl : j.val < n
      · rw [if_pos hl, if_pos (by omega)]
      · rw [if_neg hl, if_neg (by omega)])
  simp only [Nat.lt_irrefl, if_false, Nat.lt_succ_self, if_true] at e
  exact e

theorem pos4 : 0 < S4096x256.numel := by decide +kernel
theorem pos5 : 0 < S256x512.numel := by decide +kernel
theorem pos6 : 0 < S128x512.numel := by decide +kernel

theorem startsUpto_spec : ∀ (n : Nat) (h : n ≤ 28) (Q : PUnit → sProp 𝕄),
    iprop(upto (pending c K W S) (raw c K W S) 0 ∗ (upto (pending c K W S) (raw c K W S) n -∗ Q ⟨⟩))
      ⊢ WP c (startsUpto (F := F) K.a2 K.h2 K.a3 K.h3 K.a9 K.h9 K.a10 K.h10 K.a18 K.a19 n h) Q
  | 0, h, Q => by
    iintro ⟨HU, HQ⟩
    iapply (wp_give c)
    iapply HQ
    iexact HU
  | n + 1, h, Q => by
    iintro ⟨HU, HQ⟩
    iapply (wp_then c)
    iapply (startsUpto_spec n _)
    isplitl [HU]; · iexact HU
    iintro HU
    ihave HU := (upto_step (pending c K W S) (raw c K W S) n h) $$ HU
    icases HU with ⟨HR, HU⟩
    unfold raw
    icases HR with ⟨⟨%V, HV⟩, Hw, Hcw, ⟨%V', HV'⟩, Hs, Hcs, Hroom⟩
    iapply (wp_then c)
    iapply (own_start c (wSrc K.a2 ⟨n, h⟩) (wDst K.a9 ⟨n, h⟩) (semAt K.a18 ⟨n, h⟩).sem _ _ _ pos4 (blkW W ⟨n, h⟩) V)
    isplitl [Hw]; · iexact Hw
    isplitl [HV]; · iexact HV
    isplitl [Hcw]; · iexact Hcw
    iintro Hfw
    iapply (own_start c (sSrc K.a3 ⟨n, h⟩) (sDst K.a10 ⟨n, h⟩) (semAt K.a19 ⟨n, h⟩).sem _ _ _ pos5 (blkS S ⟨n, h⟩) V')
    isplitl [Hs]; · iexact Hs
    isplitl [HV']; · iexact HV'
    isplitl [Hcs]; · iexact Hcs
    iintro Hfs
    iapply HQ
    iapply HU
    unfold pending
    isplitl [Hfw]; · iexact Hfw
    isplitl [Hfs]; · iexact Hfs
    iexact Hroom

theorem waitsFrom_spec (k : Nat) : ∀ (n : Nat) (h : k + n ≤ 28) (Q : PUnit → sProp 𝕄),
    iprop(upto (delivered c K W S xg wg a) (done c K W S xg wg a) k ∗ paid c
        ∗ ((upto (delivered c K W S xg wg a) (done c K W S xg wg a) (k + n) ∗ paid c) -∗ Q ⟨⟩))
      ⊢ WP c (waitsFrom (F := F) K.a4 K.h4 K.a16 K.h16 K.a22 k n h) Q
  | 0, h, Q => by
    iintro ⟨HU, HP, HQ⟩
    iapply (wp_give c)
    iapply HQ
    isplitl [HU]; · iexact HU
    iexact HP
  | n + 1, h, Q => by
    iintro ⟨HU, HP, HQ⟩
    iapply (wp_then c)
    iapply (waitsFrom_spec k n _)
    isplitl [HU]; · iexact HU
    isplitl [HP]; · iexact HP
    iintro ⟨HU, HP⟩
    ihave HU := (upto_step (delivered c K W S xg wg a) (done c K W S xg wg a) (k + n) h) $$ HU
    icases HU with ⟨HD, HU⟩
    unfold done
    icases HD with ⟨HL, HF⟩
    iapply (own_wait c (ySrc K.a16 ⟨k + n, h⟩) _ (yDst K.a4 ⟨k + n, h⟩) (semAt K.a22 ⟨k + n, h⟩).sem _ _ (blkY xg wg a W S ⟨k + n, h⟩))
    isplitl [HF]; · iexact HF
    isplitl [HP]; · iexact HP
    iintro ⟨Hd, Hs, Hc, HP⟩
    iapply HQ
    isplitr [HP]
    · iapply HU
      unfold delivered
      isplitl [HL]; · iexact HL
      isplitl [Hd]; · iexact Hd
      isplitl [Hs]; · iexact Hs
      iexact Hc
    · iexact HP

/-- What the loop keeps: the first `n` blocks' products on their way, and the units idle. -/
def Looping (n : Nat) (m : Mxu F) : sProp 𝕄 := iprop(
  ⌜Idle m⌝ ∗ upto (done c K W S xg wg a) (pending c K W S) n ∗ own c K.a11 a ∗ (∃ Z, own (F := F) c K.a15 Z) ∗ paid c)

theorem blockP_spec (A : Nat) (hA : Mxu.Fits A 128) (t : Fin k0_t1_loop.trips) (r : Fin 2) (m : Mxu F) (Q : Mxu F → sProp 𝕄) :
    iprop(Looping c K W S xg wg a (2 * t.val + r.val) m ∗ (∀ m', Looping c K W S xg wg a (2 * t.val + r.val + 1) m' -∗ Q m'))
      ⊢ WP c (blockP (F := F) K.a2 K.h2 K.a3 K.h3 K.a4 K.h4 K.a9 K.h9 K.a10 K.h10 K.a11 K.a15 K.a16 K.h16 K.a18 K.a19 K.a22
          A hA xg wg t r m) Q := by
  unfold blockP
  rw [waitWAt_eq, waitSAt_eq]
  simp only [startYAt_eq]
  have hv : ((⟨_, blockNo_lt t r⟩ : Fin 28) : Fin 28).val = 2 * t.val + r.val := blockNo_val t r
  rw [← hv]
  clear hv
  generalize (⟨_, blockNo_lt t r⟩ : Fin 28) = j
  obtain ⟨n, hn⟩ := j
  unfold Looping
  iintro ⟨⟨%hm, HU, Ha, ⟨%Z, HZ⟩, HP⟩, HQ⟩
  ihave HU := (upto_step (done c K W S xg wg a) (pending c K W S) n hn) $$ HU
  icases HU with ⟨HD, HU⟩
  unfold pending room
  icases HD with ⟨HFw, HFs, ⟨%Y, HY⟩, ⟨%Y', HY'⟩, Hcy⟩
  iapply (wp_then c)
  iapply (own_wait c (wSrc K.a2 ⟨n, hn⟩) _ (wDst K.a9 ⟨n, hn⟩) (semAt K.a18 ⟨n, hn⟩).sem _ _ (blkW W ⟨n, hn⟩))
  isplitl [HFw]; · iexact HFw
  isplitl [HP]; · iexact HP
  iintro ⟨Hwd, Hws, Hcw, HP⟩
  iapply (wp_then c)
  iapply (own_wait c (sSrc K.a3 ⟨n, hn⟩) _ (sDst K.a10 ⟨n, hn⟩) (semAt K.a19 ⟨n, hn⟩).sem _ _ (blkS S ⟨n, hn⟩))
  isplitl [HFs]; · iexact HFs
  isplitl [HP]; · iexact HP
  iintro ⟨Hsd, Hss, Hcs, HP⟩
  iapply (wp_then c)
  iapply (blockCore_spec c K.a9 K.a10 K.a11 K.a15 K.a16 K.h16 A hA xg wg ⟨n, hn⟩ m (blkW W ⟨n, hn⟩) (blkS S ⟨n, hn⟩) a Z Y hm)
  isplitl [Hwd]; · iexact Hwd
  isplitl [Hsd]; · iexact Hsd
  isplitl [Ha]; · iexact Ha
  isplitl [HZ]; · iexact HZ
  isplitl [HY]; · iexact HY
  iintro %m' ⟨%hm', Hwd, Hsd, Ha, HZ, HY⟩
  iapply (wp_then c)
  have hy : blockOf xg wg a (expOf (extf .f32 (blkS S ⟨n, hn⟩) bitsLt_fp8e4m3_f32) Z) (blkW W ⟨n, hn⟩) = blkY xg wg a W S ⟨n, hn⟩ := by
    unfold blkY expanded; rw [expOf_const _ Z]
  rw [hy]
  iapply (own_start c (ySrc K.a16 ⟨n, hn⟩) (yDst K.a4 ⟨n, hn⟩) (semAt K.a22 ⟨n, hn⟩).sem _ _ _ pos6 (blkY xg wg a W S ⟨n, hn⟩) Y')
  isplitl [HY]; · iexact HY
  isplitl [HY']; · iexact HY'
  isplitl [Hcy]; · iexact Hcy
  iintro HFy
  iapply (wp_give c)
  iapply HQ
  isplitr
  · ipureintro; exact hm'
  isplitr [Ha HZ HP]
  · iapply HU
    unfold done landed
    isplitr [HFy]
    · isplitl [Hwd]; · iexact Hwd
      isplitl [Hws]; · iexact Hws
      isplitl [Hcw]; · iexact Hcw
      isplitl [Hsd]; · iexact Hsd
      isplitl [Hss]; · iexact Hss
      iexact Hcs
    · iexact HFy
  isplitl [Ha]; · iexact Ha
  isplitl [HZ]
  · iexists _; iexact HZ
  iexact HP

theorem trip_spec (t : Fin (Scf.trips k0_t1_loop.lb k0_t1_loop.ub k0_t1_loop.st)) (m : Mxu F) :
    Looping c K W S xg wg a (2 * t.val) m
      ⊢ WP c (trip (F := F) K.a2 K.h2 K.a3 K.h3 K.a4 K.h4 K.a9 K.h9 K.a10 K.h10 K.a11 K.a15 K.a16 K.h16 K.a18 K.a19 K.a22 xg wg t m)
          (Looping c K W S xg wg a (2 * (t.val + 1))) := by
  unfold trip
  iintro HL
  iapply (wp_then c)
  iapply (blockP_spec c K W S xg wg a 0 _ t 0 m)
  isplitl [HL]; · iexact HL
  iintro %m' HL
  iapply (blockP_spec c K W S xg wg a 32 _ t 1 m')
  isplitl [HL]; · iexact HL
  iintro %m'' HL
  iexact HL

end

end Cert.Proof.KernelIdeal
-- ==== Proof.Quantise.lean ====
/- What the quantisation of the rows leaves in the buffers it writes. -/
module

public import proofs.«01_k».proof.Proof.Kit

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Shapes1.Facts₀ Shapes2.Facts₀ K0.Facts₀ Facts₀ Facts

variable {F : FTy → Type} [FloatOps F]

local notation "𝕄" => MT nD τ sig Unit (Elt F) ℕ (Pipeline.UD sig nD τ) ℕ

/-- The rectangles of the chunks, of the chunk pairs, of the packed chunks and of the halves. -/
abbrev rCols (c : Fin 32) : Rect S128x4096 := Rect.unit (s := S128x4096) ![0, 128 * c.val] S128x128.size (inbCols c)
abbrev rPair (c : Fin 16) : Rect S128x4096 := Rect.unit (s := S128x4096) ![0, 256 * c.val] S128x256.size (inbPair c)
abbrev rPack (c : Fin 16) : Rect S128x2048 := Rect.unit (s := S128x2048) ![0, 128 * c.val] S128x128.size (inbPack c)
abbrev rHalf (h : Fin 2) : Rect S128x256 := Rect.unit (s := S128x256) ![0, 128 * h.val] S128x128.size (inbHalf h)

/-- Chunk `c` of the rows. -/
def chunkX (X : FVec F S128x4096 .bf16) (c : Fin 32) : FVec F S128x128 .bf16 := fun y => X ((rCols c).emb y)

/-- The chunks from `32 - n` on. -/
def restX (X : FVec F S128x4096 .bf16) : (n : Nat) → n ≤ 32 → List (FVec F S128x128 .bf16)
  | 0, _ => []
  | n + 1, h => chunkX X ⟨31 - n, by omega⟩ :: restX X n (Nat.le_of_succ_le h)

section

variable (c : Dev nD) (arg8 : Memref sig .tc .vmem S128x4096 .bf16)
  (arg11 : Memref sig .tc .vmem S128x4096 .bf16) (harg11 : arg11.IsWhole)
  (arg12 : Memref sig .tc .vmem S128x4096 .i8) (harg12 : arg12.IsWhole)
  (arg13 : Memref sig .tc .vmem S128x2048 .i8) (harg13 : arg13.IsWhole)
  (arg14 : Memref sig .tc .vmem S128x256 .fp8e4m3) (harg14 : arg14.IsWhole)

theorem loadX_spec (i : Fin 32) (X : FVec F S128x4096 .bf16) (Q : Vec F S128x128 .bf16 → sProp 𝕄) :
    iprop(own c arg8 X ∗ (own c arg8 X -∗ Q (chunkX X i))) ⊢ WP c (loadX (F := F) arg8 i) Q :=
  own_load c arg8 (rCols i) _ X Q

theorem loadsX_spec (X : FVec F S128x4096 .bf16) : ∀ (n : Nat) (h : n ≤ 32) (Q : List (FVec F S128x128 .bf16) → sProp 𝕄),
    iprop(own c arg8 X ∗ (own c arg8 X -∗ Q (restX X n h))) ⊢ WP c (loadsX (F := F) arg8 n h) Q
  | 0, h, Q => by
    rw [restX]
    iintro ⟨HX, HQ⟩
    iapply (wp_give c)
    iapply HQ $$ HX
  | n + 1, h, Q => by
    rw [restX]
    iintro ⟨HX, HQ⟩
    iapply (wp_then c)
    iapply (loadX_spec c arg8 _ X)
    isplitl [HX]; · iexact HX
    iintro HX
    iapply (wp_then c)
    iapply (loadsX_spec X n _)
    isplitl [HX]; · iexact HX
    iintro HX
    iapply (wp_give c)
    iapply HQ $$ HX

theorem storeScale_spec (h : Fin 2) (s : FVec F S128x128 .fp8e4m3) (Z : FVec F S128x256 .fp8e4m3) (Q : PUnit → sProp 𝕄) :
    iprop(own c arg14 Z ∗ (own c arg14 (upd (F := F) (e := .fp8e4m3) (rHalf h) Z (shapeCast S128x128 s shapeCasts_S128x128_S128x128)) -∗ Q ⟨⟩))
      ⊢ WP c (storeScale (F := F) arg14 harg14 h s) Q := by
  iintro ⟨HZ, HQ⟩
  iapply (wp_then c)
  iapply (own_load c arg14 (rHalf h) _ Z)
  isplitl [HZ]; · iexact HZ
  iintro HZ
  iapply (own_store c arg14 (rHalf h) _ _ _ Z)
  isplitl [HZ]; · iexact HZ
  iexact HQ

theorem storeA_spec (i : Fin 32) (a : FVec F S128x128 .bf16) (Z : FVec F S128x4096 .bf16) (Q : PUnit → sProp 𝕄) :
    iprop(own c arg11 Z ∗ (own c arg11 (upd (F := F) (e := .bf16) (rCols i) Z (shapeCast S128x128 a shapeCasts_S128x128_S128x128)) -∗ Q ⟨⟩))
      ⊢ WP c (storeA (F := F) arg11 harg11 i a) Q := by
  iintro ⟨HZ, HQ⟩
  iapply (wp_then c)
  iapply (own_load c arg11 (rCols i) _ Z)
  isplitl [HZ]; · iexact HZ
  iintro HZ
  iapply (own_store c arg11 (rCols i) _ _ _ Z)
  isplitl [HZ]; · iexact HZ
  iexact HQ

theorem storeC_spec (i : Fin 32) (q : IVec S128x128 32) (Z : IVec S128x4096 8) (Q : PUnit → sProp 𝕄) :
    iprop(own c arg12 Z ∗ (own c arg12 (upd (F := F) (e := .i8) (rCols i) Z (shapeCast S128x128 (trunci 8 q natLt_8_32) shapeCasts_S128x128_S128x128)) -∗ Q ⟨⟩))
      ⊢ WP c (storeC (F := F) arg12 harg12 i q) Q := by
  iintro ⟨HZ, HQ⟩
  iapply (wp_then c)
  iapply (own_load c arg12 (rCols i) _ Z)
  isplitl [HZ]; · iexact HZ
  iintro HZ
  iapply (own_store c arg12 (rCols i) _ _ _ Z)
  isplitl [HZ]; · iexact HZ
  iexact HQ

/-- The left operand, and the codes, after the first `n` chunks of half `h`. -/
def putsA (h : Fin 2) (xg : F .f32) (sf : FVec F S128x128 .f32) (x : Nat → FVec F S128x128 .bf16) (Z : FVec F S128x4096 .bf16) :
    (n : Nat) → n ≤ 16 → FVec F S128x4096 .bf16
  | 0, _ => Z
  | n + 1, hn => upd (F := F) (e := .bf16) (rCols ⟨16 * h.val + n, by omega⟩) (putsA h xg sf x Z n (Nat.le_of_succ_le hn))
      (shapeCast S128x128 (chunkA n xg sf (x n)) shapeCasts_S128x128_S128x128)
def putsC (h : Fin 2) (xg : F .f32) (sf : FVec F S128x128 .f32) (x : Nat → FVec F S128x128 .bf16) (Z : IVec S128x4096 8) :
    (n : Nat) → n ≤ 16 → IVec S128x4096 8
  | 0, _ => Z
  | n + 1, hn => upd (F := F) (e := .i8) (rCols ⟨16 * h.val + n, by omega⟩) (putsC h xg sf x Z n (Nat.le_of_succ_le hn))
      (shapeCast S128x128 (trunci 8 (chunkCode n xg sf (x n)) natLt_8_32) shapeCasts_S128x128_S128x128)

theorem quantUpto_spec (h : Fin 2) (xg : F .f32) (sf : FVec F S128x128 .f32) (x : Nat → FVec F S128x128 .bf16)
    (A : FVec F S128x4096 .bf16) (C : IVec S128x4096 8) : ∀ (n : Nat) (hn : n ≤ 16) (Q : PUnit → sProp 𝕄),
    iprop(own c arg11 A ∗ own c arg12 C ∗ ((own c arg11 (putsA h xg sf x A n hn) ∗ own c arg12 (putsC h xg sf x C n hn)) -∗ Q ⟨⟩))
      ⊢ WP c (quantUpto (F := F) arg11 harg11 arg12 harg12 h xg sf x n hn) Q
  | 0, hn, Q => by
    iintro ⟨HA, HC, HQ⟩
    iapply (wp_give c)
    iapply HQ
    isplitl [HA]; · iexact HA
    iexact HC
  | n + 1, hn, Q => by
    iintro ⟨HA, HC, HQ⟩
    iapply (wp_then c)
    iapply (quantUpto_spec h xg sf x A C n _)
    isplitl [HA]; · iexact HA
    isplitl [HC]; · iexact HC
    iintro ⟨HA, HC⟩
    iapply (wp_then c)
    iapply (storeA_spec c arg11 harg11)
    isplitl [HA]; · iexact HA
    iintro HA
    iapply (storeC_spec c arg12 harg12)
    isplitl [HC]; · iexact HC
    iintro HC
    iapply HQ
    isplitl [HA]; · iexact HA
    iexact HC

/-- The scales of a half. -/
abbrev halfScale (xg : F .f32) (x : Nat → FVec F S128x128 .bf16) : FVec F S128x128 .fp8e4m3 := scaleOf xg (halfMax x 16)
abbrev halfScaleF (xg : F .f32) (x : Nat → FVec F S128x128 .bf16) : FVec F S128x128 .f32 :=
  extf .f32 (halfScale xg x) bitsLt_fp8e4m3_f32

theorem quantHalf_spec (h : Fin 2) (xg : F .f32) (x : Nat → FVec F S128x128 .bf16)
    (A : FVec F S128x4096 .bf16) (C : IVec S128x4096 8) (S : FVec F S128x256 .fp8e4m3) (Q : PUnit → sProp 𝕄) :
    iprop(own c arg11 A ∗ own c arg12 C ∗ own c arg14 S
        ∗ ((own c arg11 (putsA h xg (halfScaleF xg x) x A 16 (Nat.le_refl _))
            ∗ own c arg12 (putsC h xg (halfScaleF xg x) x C 16 (Nat.le_refl _))
            ∗ own c arg14 (upd (F := F) (e := .fp8e4m3) (rHalf h) S (shapeCast S128x128 (halfScale xg x) shapeCasts_S128x128_S128x128))) -∗ Q ⟨⟩))
      ⊢ WP c (quantHalf (F := F) arg11 harg11 arg12 harg12 arg14 harg14 h xg x) Q := by
  iintro ⟨HA, HC, HS, HQ⟩
  iapply (wp_then c)
  iapply (storeScale_spec c arg14 harg14)
  isplitl [HS]; · iexact HS
  iintro HS
  iapply (quantUpto_spec c arg11 harg11 arg12 harg12)
  isplitl [HA]; · iexact HA
  isplitl [HC]; · iexact HC
  iintro ⟨HA, HC⟩
  iapply HQ
  isplitl [HA]; · iexact HA
  isplitl [HC]; · iexact HC
  iexact HS

/-- The packed codes after the first `n` chunk pairs. -/
def putsP (C : IVec S128x4096 8) (Z : IVec S128x2048 8) : (n : Nat) → n ≤ 16 → IVec S128x2048 8
  | 0, _ => Z
  | n + 1, hn => upd (F := F) (e := .i8) (rPack ⟨n, hn⟩) (putsP C Z n (Nat.le_of_succ_le hn))
      (shapeCast S128x128 (packed (fun y => C ((rPair ⟨n, hn⟩).emb y))) shapeCasts_S128x128_S128x128)

theorem packUpto_spec (C : IVec S128x4096 8) (Z : IVec S128x2048 8) : ∀ (n : Nat) (hn : n ≤ 16) (Q : PUnit → sProp 𝕄),
    iprop(own c arg12 C ∗ own c arg13 Z ∗ ((own c arg12 C ∗ own c arg13 (putsP (F := F) C Z n hn)) -∗ Q ⟨⟩))
      ⊢ WP c (packUpto (F := F) arg12 arg13 harg13 n hn) Q
  | 0, hn, Q => by
    iintro ⟨HC, HZ, HQ⟩
    iapply (wp_give c)
    iapply HQ
    isplitl [HC]; · iexact HC
    iexact HZ
  | n + 1, hn, Q => by
    iintro ⟨HC, HZ, HQ⟩
    iapply (wp_then c)
    iapply (packUpto_spec C Z n _)
    isplitl [HC]; · iexact HC
    isplitl [HZ]; · iexact HZ
    iintro ⟨HC, HZ⟩
    unfold packOne
    iapply (wp_then c)
    iapply (own_load c arg12 (rPair ⟨n, hn⟩) _ C)
    isplitl [HC]; · iexact HC
    iintro HC
    iapply (wp_then c)
    iapply (own_load c arg13 (rPack ⟨n, hn⟩) _ _)
    isplitl [HZ]; · iexact HZ
    iintro HZ
    iapply (own_store c arg13 (rPack ⟨n, hn⟩) _ _ _ _)
    isplitl [HZ]; · iexact HZ
    iintro HZ
    iapply HQ
    isplitl [HC]; · iexact HC
    iexact HZ

end

end Cert.Proof.KernelIdeal
-- ==== Proof.Settled.lean ====
/- What the buffers the quantisation writes hold once it is over, place by place: nothing of what they held before. -/
module

public import proofs.«01_k».proof.Proof.Quantise

@[expose] public section

noncomputable section

namespace Cert.Proof.KernelIdeal

open Cert.KernelIdeal
open Idealize.ShloMosaic Idealize.ShloMosaic.TcCoe Idealize.ShloMosaic.Tactic
open Shapes1.Facts₀ Shapes2.Facts₀ K0.Facts₀ Facts₀ Facts

variable {F : FTy → Type} [FloatOps F]

/-! ## The strips of columns -/

theorem rCols_col (c : Fin 32) (y : S128x128.Idx) : ((rCols c).emb y 1).val = 128 * c.val + (y 1).val := by
  show 128 * c.val + 1 * (y 1).val = _; omega
theorem rCols_row (c : Fin 32) (y : S128x128.Idx) : ((rCols c).emb y 0).val = (y 0).val := by
  show 0 + 1 * (y 0).val = _; omega
theorem rPack_col (c : Fin 16) (y : S128x128.Idx) : ((rPack c).emb y 1).val = 128 * c.val + (y 1).val := by
  show 128 * c.val + 1 * (y 1).val = _; omega
theorem rHalf_col (c : Fin 2) (y : S128x128.Idx) : ((rHalf c).emb y 1).val = 128 * c.val + (y 1).val := by
  show 128 * c.val + 1 * (y 1).val = _; omega

theorem rCols_off {c c' : Fin 32} (h : c ≠ c') (y : S128x128.Idx) : ¬ ∃ x, (rCols c').emb x = (rCols c).emb y := by
  rintro ⟨x, hx⟩
  have e := congrArg (fun i : S128x4096.Idx => (i 1).val) hx
  simp only [rCols_col] at e
  have h1 : (x 1).val < 128 := (x 1).isLt
  have h2 : (y 1).val < 128 := (y 1).isLt
  exact h (Fin.ext (by omega))
theorem rPack_off {c c' : Fin 16} (h : c ≠ c') (y : S128x128.Idx) : ¬ ∃ x, (rPack c').emb x = (rPack c).emb y := by
  rintro ⟨x, hx⟩
  have e := congrArg (fun i : S128x2048.Idx => (i 1).val) hx
  simp only [rPack_col] at e
  have h1 : (x 1).val < 128 := (x 1).isLt
  have h2 : (y 1).val < 128 := (y 1).isLt
  exact h (Fin.ext (by omega))
theorem rHalf_off {c c' : Fin 2} (h : c ≠ c') (y : S128x128.Idx) : ¬ ∃ x, (rHalf c').emb x = (rHalf c).emb y := by
  rintro ⟨x, hx⟩
  have e := congrArg (fun i : S128x256.Idx => (i 1).val) hx
  simp only [rHalf_col] at e
  have h1 : (x 1).val < 128 := (x 1).isLt
  have h2 : (y 1).val < 128 := (y 1).isLt
  exact h (Fin.ext (by omega))

/-- The place inside its strip of 128 columns. -/
def inStrip {n : Nat} (i : Shape.Idx ⟨2, ![128, n]⟩) : S128x128.Idx :=
  fun | 0 => ⟨(i 0).val, (i 0).isLt⟩ | 1 => ⟨(i 1).val % 128, Nat.mod_lt _ (by decide)⟩

theorem rCols_inStrip (i : S128x4096.Idx) :
    (rCols ⟨(i 1).val / 128, Nat.div_lt_of_lt_mul (show (i 1).val < 128 * 32 from (i 1).isLt)⟩).emb (inStrip (n := 4096) i) = i := by
  funext b
  apply Fin.ext
  match b with
  | 0 => exact rCols_row _ _
  | 1 => exact (rCols_col _ _).trans (Nat.div_add_mod _ _)
theorem rPack_inStrip (i : S128x2048.Idx) :
    (rPack ⟨(i 1).val / 128, Nat.div_lt_of_lt_mul (show (i 1).val < 128 * 16 from (i 1).isLt)⟩).emb (inStrip (n := 2048) i) = i := by
  funext b
  apply Fin.ext
  match b with
  | 0 => show 0 + 1 * (i 0).val = _; omega
  | 1 => exact (rPack_col _ _).trans (Nat.div_add_mod _ _)
theorem rHalf_inStrip (i : S128x256.Idx) :
    (rHalf ⟨(i 1).val / 128, Nat.div_lt_of_lt_mul (show (i 1).val < 128 * 2 from (i 1).isLt)⟩).emb (inStrip (n := 256) i) = i := by
  funext b
  apply Fin.ext
  match b with
  | 0 => show 0 + 1 * (i 0).val = _; omega
  | 1 => exact (rHalf_col _ _).trans (Nat.div_add_mod _ _)

/-! ## Strip after strip -/

section
variable (h : Fin 2) (xg : F .f32) (sf : FVec F S128x128 .f32) (x : Nat → FVec F S128x128 .bf16)

theorem putsA_out (Z : FVec F S128x4096 .bf16) (c : Fin 32) (y : S128x128.Idx) :
    ∀ (n : Nat) (hn : n ≤ 16), (∀ i, i < n → c.val ≠ 16 * h.val + i) → putsA h xg sf x Z n hn ((rCols c).emb y) = Z ((rCols c).emb y)
  | 0, _, _ => rfl
  | n + 1, hn, hc => by
    rw [putsA, upd_off _ _ _ (rCols_off (fun e => hc n (Nat.lt_succ_self n) (congrArg Fin.val e)) y)]
    exact putsA_out Z c y n _ fun i hi => hc i (Nat.lt_succ_of_lt hi)

theorem putsA_in (Z : FVec F S128x4096 .bf16) (c : Fin 32) (y : S128x128.Idx) (i : Nat) (hc : c.val = 16 * h.val + i) :
    ∀ (n : Nat) (hn : n ≤ 16), i < n → putsA h xg sf x Z n hn ((rCols c).emb y) = shapeCast S128x128 (chunkA i xg sf (x i)) shapeCasts_S128x128_S128x128 y
  | 0, _, hi => absurd hi (Nat.not_lt_zero _)
  | n + 1, hn, hi => by
    by_cases e : i = n
    · subst e
      have e' : c = ⟨16 * h.val + i, by have := h.isLt; omega⟩ := Fin.ext hc
      rw [putsA, e', upd_emb]
    · rw [putsA, upd_off _ _ _ (rCols_off (fun e' => e (by have := congrArg Fin.val e'; simp only at this; omega)) y)]
      exact putsA_in Z c y i hc n _ (by omega)

theorem putsC_out (Z : IVec S128x4096 8) (c : Fin 32) (y : S128x128.Idx) :
    ∀ (n : Nat) (hn : n ≤ 16), (∀ i, i < n → c.val ≠ 16 * h.val + i) → putsC h xg sf x Z n hn ((rCols c).emb y) = Z ((rCols c).emb y)
  | 0, _, _ => rfl
  | n + 1, hn, hc => by
    rw [putsC, upd_off _ _ _ (rCols_off (fun e => hc n (Nat.lt_succ_self n) (congrArg Fin.val e)) y)]
    exact putsC_out Z c y n _ fun i hi => hc i (Nat.lt_succ_of_lt hi)

theorem putsC_in (Z : IVec S128x4096 8) (c : Fin 32) (y : S128x128.Idx) (i : Nat) (hc : c.val = 16 * h.val + i) :
    ∀ (n : Nat) (hn : n ≤ 16), i < n → putsC h xg sf x Z n hn ((rCols c).emb y)
      = shapeCast S128x128 (trunci 8 (chunkCode i xg sf (x i)) natLt_8_32) shapeCasts_S128x128_S128x128 y
  | 0, _, hi => absurd hi (Nat.not_lt_zero _)
  | n + 1, hn, hi => by
    by_cases e : i = n
    · subst e
      have e' : c = ⟨16 * h.val + i, by have := h.isLt; omega⟩ := Fin.ext hc
      rw [putsC, e', upd_emb]
    · rw [putsC, upd_off _ _ _ (rCols_off (fun e' => e (by have := congrArg Fin.val e'; simp only at this; omega)) y)]
      exact putsC_in Z c y i hc n _ (by omega)

theorem putsP_in (C : IVec S128x4096 8) (Z : IVec S128x2048 8) (c : Fin 16) (y : S128x128.Idx) :
    ∀ (n : Nat) (hn : n ≤ 16), c.val < n → putsP (F := F) C Z n hn ((rPack c).emb y)
      = shapeCast S128x128 (packed (fun y => C ((rPair c).emb y))) shapeCasts_S128x128_S128x128 y
  | 0, _, hi => absurd hi (Nat.not_lt_zero _)
  | n + 1, hn, hi => by
    by_cases e : c.val = n
    · subst e
      rw [putsP]
      exact upd_emb (F := F) (e := .i8) (rPack c) _ _ y
    · rw [putsP]
      refine (upd_off (F := F) (e := .i8) (rPack ⟨n, hn⟩) _ _ (rPack_off (fun e' => e (congrArg Fin.val e')) y)).trans ?_
      exact putsP_in C Z c y n _ (by omega)

end

/-! ## The buffers once the quantisation is over -/

section
variable (X : FVec F S128x4096 .bf16)

/-- The chunks of half `h`. -/
def halfX (h : Fin 2) (i : Nat) : FVec F S128x128 .bf16 := halfOf (chunkX X 0) (restX X 31 (by decide)) h i

/-- The scale of the whole input. -/
def xgOf : F .f32 := xglobal (chunkX X 0) (restX X 31 (by decide))

def aFrom (Z : FVec F S128x4096 .bf16) : FVec F S128x4096 .bf16 :=
  putsA 1 (xgOf X) (halfScaleF (xgOf X) (halfX X 1)) (halfX X 1)
    (putsA 0 (xgOf X) (halfScaleF (xgOf X) (halfX X 0)) (halfX X 0) Z 16 (Nat.le_refl _)) 16 (Nat.le_refl _)
def cFrom (Z : IVec S128x4096 8) : IVec S128x4096 8 :=
  putsC 1 (xgOf X) (halfScaleF (xgOf X) (halfX X 1)) (halfX X 1)
    (putsC 0 (xgOf X) (halfScaleF (xgOf X) (halfX X 0)) (halfX X 0) Z 16 (Nat.le_refl _)) 16 (Nat.le_refl _)
def sFrom (Z : FVec F S128x256 .fp8e4m3) : FVec F S128x256 .fp8e4m3 :=
  upd (F := F) (e := .fp8e4m3) (rHalf 1)
    (upd (F := F) (e := .fp8e4m3) (rHalf 0) Z (shapeCast S128x128 (halfScale (xgOf X) (halfX X 0)) shapeCasts_S128x128_S128x128))
    (shapeCast S128x128 (halfScale (xgOf X) (halfX X 1)) shapeCasts_S128x128_S128x128)

/-- The rows put through the format, the codes, the scales and the packed codes. -/
def aOf (i : S128x4096.Idx) : F .bf16 :=
  chunkA ((i 1).val / 128 % 16) (xgOf X) (halfScaleF (xgOf X) (halfX X ⟨(i 1).val / 128 / 16, Nat.div_lt_of_lt_mul (Nat.div_lt_of_lt_mul (show (i 1).val < 128 * (16 * 2) from (i 1).isLt))⟩))
    (halfX X ⟨(i 1).val / 128 / 16, Nat.div_lt_of_lt_mul (Nat.div_lt_of_lt_mul (show (i 1).val < 128 * (16 * 2) from (i 1).isLt))⟩ ((i 1).val / 128 % 16)) (inStrip (n := 4096) i)
def cOf (i : S128x4096.Idx) : BitVec 8 :=
  trunci 8 (chunkCode ((i 1).val / 128 % 16) (xgOf X) (halfScaleF (xgOf X) (halfX X ⟨(i 1).val / 128 / 16, Nat.div_lt_of_lt_mul (Nat.div_lt_of_lt_mul (show (i 1).val < 128 * (16 * 2) from (i 1).isLt))⟩))
    (halfX X ⟨(i 1).val / 128 / 16, Nat.div_lt_of_lt_mul (Nat.div_lt_of_lt_mul (show (i 1).val < 128 * (16 * 2) from (i 1).isLt))⟩ ((i 1).val / 128 % 16))) natLt_8_32 (inStrip (n := 4096) i)
def sOf (i : S128x256.Idx) : F .fp8e4m3 :=
  halfScale (xgOf X) (halfX X ⟨(i 1).val / 128, Nat.div_lt_of_lt_mul (show (i 1).val < 128 * 2 from (i 1).isLt)⟩) (inStrip (n := 256) i)
def pOf (C : IVec S128x4096 8) (i : S128x2048.Idx) : BitVec 8 :=
  packed (fun y => C ((rPair ⟨(i 1).val / 128, Nat.div_lt_of_lt_mul (show (i 1).val < 128 * 16 from (i 1).isLt)⟩).emb y)) (inStrip (n := 2048) i)

theorem cast_self {α : Type} (x : S128x128.Idx → α) (h : S128x128.numel = S128x128.numel) (y : S128x128.Idx) :
    shapeCast S128x128 x h y = x y := by
  unfold shapeCast
  rw [Shape.reshapeEquiv_self]

theorem aFrom_eq (Z : FVec F S128x4096 .bf16) : aFrom X Z = aOf X := by
  funext i
  have hc : (i 1).val / 128 < 32 := Nat.div_lt_of_lt_mul (show (i 1).val < 128 * 32 from (i 1).isLt)
  conv_lhs => rw [← rCols_inStrip i]
  unfold aFrom aOf
  by_cases h : (i 1).val / 128 < 16
  · rw [putsA_out _ _ _ _ _ _ _ 16 _ (fun k hk => by simp only [Fin.val_one]; omega)]
    rw [putsA_in 0 _ _ _ _ _ _ ((i 1).val / 128) (by simp) 16 _ h, cast_self]
    have e1 : (i 1).val / 128 % 16 = (i 1).val / 128 := Nat.mod_eq_of_lt h
    have e2 : (i 1).val / 128 / 16 = 0 := Nat.div_eq_of_lt h
    simp only [e1, e2]; rfl
  · have e1 : (i 1).val / 128 % 16 = (i 1).val / 128 - 16 := by omega
    have e2 : (i 1).val / 128 / 16 = 1 := by omega
    rw [putsA_in 1 _ _ _ _ _ _ ((i 1).val / 128 - 16) (by simp only [Fin.val_one]; omega) 16 _ (by omega), cast_self]
    simp only [e1, e2]; rfl

theorem cFrom_eq (Z : IVec S128x4096 8) : cFrom X Z = cOf X := by
  funext i
  have hc : (i 1).val / 128 < 32 := Nat.div_lt_of_lt_mul (show (i 1).val < 128 * 32 from (i 1).isLt)
  conv_lhs => rw [← rCols_inStrip i]
  unfold cFrom cOf
  by_cases h : (i 1).val / 128 < 16
  · rw [putsC_out _ _ _ _ _ _ _ 16 _ (fun k hk => by simp only [Fin.val_one]; omega)]
    rw [putsC_in 0 _ _ _ _ _ _ ((i 1).val / 128) (by simp) 16 _ h, cast_self]
    have e1 : (i 1).val / 128 % 16 = (i 1).val / 128 := Nat.mod_eq_of_lt h
    have e2 : (i 1).val / 128 / 16 = 0 := Nat.div_eq_of_lt h
    simp only [e1, e2]; rfl
  · have e1 : (i 1).val / 128 % 16 = (i 1).val / 128 - 16 := by omega
    have e2 : (i 1).val / 128 / 16 = 1 := by omega
    rw [putsC_in 1 _ _ _ _ _ _ ((i 1).val / 128 - 16) (by simp only [Fin.val_one]; omega) 16 _ (by omega), cast_self]
    simp only [e1, e2]; rfl

theorem sFrom_eq (Z : FVec F S128x256 .fp8e4m3) : sFrom X Z = sOf X := by
  funext i
  have hi : (i 1).val < 256 := (i 1).isLt
  conv_lhs => rw [← rHalf_inStrip i]
  unfold sFrom sOf
  rcases Nat.lt_or_ge ((i 1).val / 128) 1 with h | h
  · have hh : (⟨(i 1).val / 128, Nat.div_lt_of_lt_mul (show (i 1).val < 128 * 2 from (i 1).isLt)⟩ : Fin 2) = 0 := Fin.ext (by show (i 1).val / 128 = 0; omega)
    rw [hh, upd_off _ _ _ (rHalf_off (by decide) _), upd_emb, cast_self]
  · have hh : (⟨(i 1).val / 128, Nat.div_lt_of_lt_mul (show (i 1).val < 128 * 2 from (i 1).isLt)⟩ : Fin 2) = 1 := Fin.ext (by show (i 1).val / 128 = 1; omega)
    rw [hh, upd_emb, cast_self]

theorem putsP_eq (C : IVec S128x4096 8) (Z : IVec S128x2048 8) : putsP (F := F) C Z 16 (Nat.le_refl _) = pOf C := by
  funext i
  conv_lhs => rw [← rPack_inStrip i]
  rw [putsP_in C Z _ _ 16 _ (Fin.isLt _)]
  exact cast_self _ _ _

end

end Cert.Proof.KernelIdeal
-- ==== Proof.Whole.lean ====
/- What the whole program does, from its memory as the launch hands it over to its memory at the end. -/
module

public import proofs.«01_k».proof.Proof.Stages
public import proofs.«01_k».proof.Proof.Settled

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Shapes1.Facts₀ Shapes2.Facts₀ K0.Facts₀ Facts₀ Facts

variable {F : FTy → Type} [FloatOps F]

local notation "𝕄" => MT nD τ sig Unit (Elt F) ℕ (Pipeline.UD sig nD τ) ℕ

abbrev r11 : Rect S1x1 := Rect.unit (s := S1x1) ![0, 0] S1x1.size inb_S1x1_S1x1_0_0

theorem one_place (i j : S1x1.Idx) : i = j := by
  funext b
  match b with
  | 0 => exact Fin.ext (by have := (i 0).isLt; have := (j 0).isLt; simp only [S1x1] at *; simp at *; omega)
  | 1 => exact Fin.ext (by have := (i 1).isLt; have := (j 1).isLt; simp only [S1x1] at *; simp at *; omega)

/-- The one place of a one-by-one array. -/
def origin : S1x1.Idx := fun | 0 => ⟨0, Nat.one_pos⟩ | 1 => ⟨0, Nat.one_pos⟩

section

variable (c : Dev nD)

theorem smemLoad_eq (m : Memref sig .tc .smem S1x1 .f32) (r : Rect S1x1) (h1 : r.shape.numel = 1) :
    ∃ (h : m.view.LoadsAt r.toLoadRect) (x : r.shape.Idx), (smemLoad m r h1 rfl : PM F (Elt F .f32)) = (Prog.lift (.load m r.toLoadRect h) >>= fun f => pure (f x)) :=
  ⟨View.loadsAt_rect (View.loads_smem_one rfl h1), Shape.Idx.first (h1.symm ▸ Nat.one_pos), rfl⟩

theorem smem_spec (m : Memref sig .tc .smem S1x1 .f32) (X : FVec F S1x1 .f32) (Q : Elt F .f32 → sProp 𝕄) :
    iprop(own c m X ∗ (own c m X -∗ Q (X origin))) ⊢ WP c (smemLoad m r11 numel1_S1x1 rfl) Q := by
  obtain ⟨h, x, e⟩ := smemLoad_eq (F := F) m r11 numel1_S1x1
  rw [e]
  iintro ⟨HX, HQ⟩
  iapply (wp_then c)
  iapply (own_load c m r11 h X)
  isplitl [HX]; · iexact HX
  iintro HX
  iapply (wp_give c)
  have ex : (fun x => X (r11.emb x)) x = X origin := congrArg X (one_place _ _)
  rw [ex]
  iapply HQ
  iexact HX

theorem upd_one (X : FVec F S1x1 .f32) (v : F .f32) : upd (F := F) (e := .f32) r11 X (fun _ => v) = fun _ => v := by
  funext i
  rw [one_place i (r11.emb origin), upd_emb]

variable (K : Args) (G : FVec F S1x1 .f32) (X : FVec F S128x4096 .bf16) (W : IVec S4096x7168 8) (S : FVec F S256x14336 .fp8e4m3)

/-- The memory as the launch hands it over. -/
def Start : sProp 𝕄 := iprop(
  own c K.a0 G ∗ own c K.a1 X ∗ (∃ V, own (F := F) c K.a5 V) ∗ (∃ V, own (F := F) c K.a6 V) ∗ (∃ V, own (F := F) c K.a7 V)
  ∗ (∃ V, own (F := F) c K.a8 V) ∗ (∃ V, own (F := F) c K.a11 V) ∗ (∃ V, own (F := F) c K.a12 V) ∗ (∃ V, own (F := F) c K.a13 V)
  ∗ (∃ V, own (F := F) c K.a14 V) ∗ (∃ V, own (F := F) c K.a15 V)
  ∗ zeroed c K.a17.sem ∗ zeroed c K.a20.sem ∗ zeroed c K.a21.sem ∗ paid c
  ∗ bigSep Finset.univ (raw c K W S))

/-- The memory once the rows are quantised. -/
def Prepared : sProp 𝕄 := iprop(
  own c K.a0 G ∗ own c K.a1 X ∗ own c K.a7 (fun _ => xgOf X) ∗ own c K.a8 X ∗ own c K.a11 (aOf X) ∗ own c K.a12 (cOf X)
  ∗ (∃ V, own (F := F) c K.a15 V) ∗ zeroed c K.a17.sem
  ∗ Copying c K.a14 K.a6 K.a21.sem (sOf X) ∗ Copying c K.a13 K.a5 K.a20.sem (pOf (cOf X)) ∗ paid c
  ∗ bigSep Finset.univ (pending c K W S))

/-- The memory at the end. -/
def Finish : sProp 𝕄 := iprop(
  own c K.a0 G ∗ own c K.a1 X ∗ own c K.a5 (pOf (cOf X)) ∗ own c K.a6 (sOf X) ∗ own c K.a7 (fun _ => xgOf X)
  ∗ own c K.a8 X ∗ own c K.a11 (aOf X) ∗ own c K.a12 (cOf X) ∗ own c K.a13 (pOf (cOf X)) ∗ own c K.a14 (sOf X)
  ∗ (∃ V, own (F := F) c K.a15 V) ∗ zeroed c K.a17.sem ∗ zeroed c K.a20.sem ∗ zeroed c K.a21.sem ∗ paid c
  ∗ bigSep Finset.univ (delivered c K W S (xgOf X) (G origin) (aOf X)))

theorem pos1 : 0 < S128x4096.numel := by decide +kernel
theorem pos2 : 0 < S128x2048.numel := by decide +kernel
theorem pos3 : 0 < S128x256.numel := by decide +kernel

attribute [local irreducible] startsUpto packUpto loadsX quantHalf xglobal restX halfOf putsA putsC putsP aOf cOf sOf pOf raw pending upto in
set_option maxHeartbeats 800000 in
theorem prepare_spec (Q : Elt F .f32 × Elt F .f32 → sProp 𝕄) :
    iprop(Start c K G X W S ∗ (Prepared c K G X W S -∗ Q (xgOf X, G origin)))
      ⊢ WP c (prepare (F := F) K.a0 K.a1 K.h1 K.a2 K.h2 K.a3 K.h3 K.a5 K.h5 K.a6 K.h6 K.a7 K.a8 K.h8 K.a9 K.h9 K.a10 K.h10 K.a11 K.h11
          K.a12 K.h12 K.a13 K.h13 K.a14 K.h14 K.a17 K.a18 K.a19 K.a20 K.a21) Q := by
  unfold prepare Start
  iintro ⟨⟨H0, H1, ⟨%V5, H5⟩, ⟨%V6, H6⟩, ⟨%V7, H7⟩, ⟨%V8, H8⟩, ⟨%V11, H11⟩, ⟨%V12, H12⟩, ⟨%V13, H13⟩, ⟨%V14, H14⟩, H15, Hz17, Hz20, Hz21, HP, HB⟩, HQ⟩
  iapply (wp_then c)
  iapply (own_start c K.a1 K.a8 K.a17.sem _ _ _ pos1 X V8)
  isplitl [H1]; · iexact H1
  isplitl [H8]; · iexact H8
  isplitl [Hz17]; · iexact Hz17
  iintro HF
  iapply (wp_then c)
  iapply (startsUpto_spec c K W S 28 _)
  isplitl [HB]
  · rw [upto_zero]; iexact HB
  iintro HB
  iapply (wp_then c)
  iapply (own_wait c K.a1 K.a1 K.a8 K.a17.sem _ _ X)
  isplitl [HF]; · iexact HF
  isplitl [HP]; · iexact HP
  iintro ⟨H8, H1, Hz17, HP⟩
  iapply (wp_then c)
  iapply (loadX_spec c K.a8 0 X)
  isplitl [H8]; · iexact H8
  iintro H8
  iapply (wp_then c)
  iapply (loadsX_spec c K.a8 X 31 _)
  isplitl [H8]; · iexact H8
  iintro H8
  iapply (wp_then c)
  iapply (quantHalf_spec c K.a11 K.h11 K.a12 K.h12 K.a14 K.h14 0 (xgOf X) (halfX X 0) V11 V12 V14)
  isplitl [H11]; · iexact H11
  isplitl [H12]; · iexact H12
  isplitl [H14]; · iexact H14
  iintro ⟨H11, H12, H14⟩
  iapply (wp_then c)
  iapply (quantHalf_spec c K.a11 K.h11 K.a12 K.h12 K.a14 K.h14 1 (xgOf X) (halfX X 1))
  isplitl [H11]; · iexact H11
  isplitl [H12]; · iexact H12
  isplitl [H14]; · iexact H14
  iintro ⟨H11, H12, H14⟩
  iapply (wp_then c)
  iapply (smem_spec c K.a7 V7)
  isplitl [H7]; · iexact H7
  iintro H7
  iapply (wp_then c)
  iapply (own_store c K.a7 r11 (fun _ => xgOf X) _ _ V7)
  isplitl [H7]; · iexact H7
  iintro H7
  iapply (wp_then c)
  iapply (own_start c K.a14 K.a6 K.a21.sem _ _ _ pos3 (sFrom X V14) V6)
  isplitl [H14]; · iexact H14
  isplitl [H6]; · iexact H6
  isplitl [Hz21]; · iexact Hz21
  iintro HF21
  iapply (wp_then c)
  iapply (packUpto_spec c K.a12 K.a13 K.h13 (cFrom X V12) V13 16 _)
  isplitl [H12]; · iexact H12
  isplitl [H13]; · iexact H13
  iintro ⟨H12, H13⟩
  iapply (wp_then c)
  iapply (own_start c K.a13 K.a5 K.a20.sem _ _ _ pos2 (putsP (F := F) (cFrom X V12) V13 16 (Nat.le_refl _)) V5)
  isplitl [H13]; · iexact H13
  isplitl [H5]; · iexact H5
  isplitl [Hz20]; · iexact Hz20
  iintro HF20
  iapply (wp_then c)
  iapply (smem_spec c K.a0 G)
  isplitl [H0]; · iexact H0
  iintro H0
  iapply (wp_give c)
  rw [show xglobal (chunkX X 0) (restX X 31 (by decide)) = xgOf X from rfl]
  iapply HQ
  unfold Prepared
  isplitl [H0]; · iexact H0
  isplitl [H1]; · iexact H1
  isplitl [H7]
  · rw [← upd_one V7 (xgOf X)]; iexact H7
  isplitl [H8]; · iexact H8
  isplitl [H11]
  · rw [← aFrom_eq X V11]; iexact H11
  isplitl [H12]
  · rw [← cFrom_eq X V12]; iexact H12
  isplitl [H15]; · iexact H15
  isplitl [Hz17]; · iexact Hz17
  isplitl [HF21]
  · rw [← sFrom_eq X V14]; iexact HF21
  isplitl [HF20]
  · rw [← putsP_eq (F := F) (cOf X) V13, ← cFrom_eq X V12]; iexact HF20
  isplitl [HP]; · iexact HP
  rw [← upto_all (pending c K W S) (raw c K W S)]
  iexact HB

theorem loop_spec (xg wg : F .f32) (a : FVec F S128x4096 .bf16) (Q : Mxu F → sProp 𝕄) :
    iprop(Looping c K W S xg wg a 0 Mxu.init ∗ (∀ m, Looping c K W S xg wg a 28 m -∗ Q m))
      ⊢ WP c (Scf.Loop.for k0_t1_loop k0_t1_ok (Mxu.init) (trip (F := F) K.a2 K.h2 K.a3 K.h3 K.a4 K.h4 K.a9 K.h9 K.a10 K.h10 K.a11 K.a15
          K.a16 K.h16 K.a18 K.a19 K.a22 xg wg)) Q := by
  have ht : 2 * Scf.trips k0_t1_loop.lb k0_t1_loop.ub k0_t1_loop.st = 28 := by decide +kernel
  rw [← ht]
  generalize hB : trip (F := F) K.a2 K.h2 K.a3 K.h3 K.a4 K.h4 K.a9 K.h9 K.a10 K.h10 K.a11 K.a15
    K.a16 K.h16 K.a18 K.a19 K.a22 xg wg = B
  have hb : ∀ (t : Fin (Scf.trips k0_t1_loop.lb k0_t1_loop.ub k0_t1_loop.st)) (m : Mxu F),
      Looping c K W S xg wg a (2 * t.val) m ⊢ WP c (B t m) (Looping c K W S xg wg a (2 * (t.val + 1))) := by
    subst hB; exact fun t m => trip_spec c K W S xg wg a t m
  clear hB ht
  generalize k0_t1_ok = hok
  generalize hI : Looping c K W S xg wg a = I at hb ⊢
  have h := Scf.wp_for frame (wpE (defs₀ (F := F)) Variants.none (c : Thread nD τ) none) Set.univ k0_t1_loop.lb k0_t1_loop.ub
    k0_t1_loop.st hok Mxu.init B (fun k m => I (2 * k) m) hb (Q := Q)
  exact h

attribute [local irreducible] waitsFrom done delivered pending upto in
theorem loopAndFirst_spec (xg wg : F .f32) (a : FVec F S128x4096 .bf16) (C : IVec S128x2048 8) (T : FVec F S128x256 .fp8e4m3) (Q : Mxu F → sProp 𝕄) :
    iprop(Looping c K W S xg wg a 0 Mxu.init ∗ Copying c K.a14 K.a6 K.a21.sem T ∗ Copying c K.a13 K.a5 K.a20.sem C
        ∗ (∀ m, (⌜Idle m⌝ ∗ upto (delivered c K W S xg wg a) (done c K W S xg wg a) 3 ∗ own c K.a11 a ∗ (∃ Z, own (F := F) c K.a15 Z) ∗ paid c
            ∗ own c K.a6 T ∗ own c K.a14 T ∗ zeroed c K.a21.sem ∗ own c K.a5 C ∗ own c K.a13 C ∗ zeroed c K.a20.sem) -∗ Q m))
      ⊢ WP c (loopAndFirst (F := F) K.a2 K.h2 K.a3 K.h3 K.a4 K.h4 K.a5 K.h5 K.a6 K.h6 K.a9 K.h9 K.a10 K.h10 K.a11 K.a13 K.h13 K.a14 K.h14 K.a15
          K.a16 K.h16 K.a18 K.a19 K.a20 K.a21 K.a22 xg wg) Q := by
  unfold loopAndFirst
  iintro ⟨HL, HF21, HF20, HQ⟩
  iapply (wp_then c)
  iapply (loop_spec c K W S xg wg a)
  isplitl [HL]; · iexact HL
  iintro %m HL
  unfold Looping
  icases HL with ⟨%hm, HU, Ha, HZ, HP⟩
  iapply (wp_then c)
  iapply (own_wait c K.a14 K.a14 K.a6 K.a21.sem _ _ T)
  isplitl [HF21]; · iexact HF21
  isplitl [HP]; · iexact HP
  iintro ⟨H6, H14, Hz21, HP⟩
  iapply (wp_then c)
  iapply (own_wait c K.a13 K.a13 K.a5 K.a20.sem _ _ C)
  isplitl [HF20]; · iexact HF20
  isplitl [HP]; · iexact HP
  iintro ⟨H5, H13, Hz20, HP⟩
  iapply (wp_then c)
  iapply (waitsFrom_spec c K W S xg wg a 0 3 _)
  isplitl [HU]
  · rw [show upto (delivered c K W S xg wg a) (done c K W S xg wg a) 0 = upto (done c K W S xg wg a) (pending c K W S) 28 from
      (upto_zero _ _).trans (upto_all _ _).symm]
    iexact HU
  isplitl [HP]; · iexact HP
  iintro ⟨HU, HP⟩
  iapply (wp_give c)
  iapply HQ
  isplitr
  · ipureintro; exact hm
  isplitl [HU]; · iexact HU
  isplitl [Ha]; · iexact Ha
  isplitl [HZ]; · iexact HZ
  isplitl [HP]; · iexact HP
  isplitl [H6]; · iexact H6
  isplitl [H14]; · iexact H14
  isplitl [Hz21]; · iexact Hz21
  isplitl [H5]; · iexact H5
  isplitl [H13]; · iexact H13
  iexact Hz20

attribute [local irreducible] waitsFrom prepare loopAndFirst done delivered pending upto aOf cOf sOf pOf xgOf in
set_option maxHeartbeats 800000 in
theorem prog_spec (Q : PUnit → sProp 𝕄) :
    iprop(Start c K G X W S ∗ (Finish c K G X W S -∗ Q ⟨⟩))
      ⊢ WP c (prog (F := F) K.a0 K.a1 K.h1 K.a2 K.h2 K.a3 K.h3 K.a4 K.h4 K.a5 K.h5 K.a6 K.h6 K.a7 K.a8 K.h8 K.a9 K.h9 K.a10 K.h10 K.a11 K.h11
          K.a12 K.h12 K.a13 K.h13 K.a14 K.h14 K.a15 K.a16 K.h16 K.a17 K.a18 K.a19 K.a20 K.a21 K.a22) Q := by
  unfold prog
  iintro ⟨HS, HQ⟩
  iapply (wp_then c)
  iapply (wp_then c)
  iapply (prepare_spec c K G X W S)
  isplitl [HS]; · iexact HS
  iintro HPr
  unfold Prepared
  icases HPr with ⟨H0, H1, H7, H8, H11, H12, H15, Hz17, HF21, HF20, HP, HB⟩
  iapply (wp_then c)
  iapply (loopAndFirst_spec c K W S (xgOf X) (G origin) (aOf X) (pOf (cOf X)) (sOf X))
  isplitl [HB H11 H15 HP]
  · unfold Looping
    isplitr
    · ipureintro; exact idle_init
    isplitl [HB]
    · rw [upto_zero]; iexact HB
    isplitl [H11]; · iexact H11
    isplitl [H15]; · iexact H15
    iexact HP
  isplitl [HF21]; · iexact HF21
  isplitl [HF20]; · iexact HF20
  iintro %m ⟨%hm, HU, H11, H15, HP, H6, H14, Hz21, H5, H13, Hz20⟩
  iapply (wp_then c)
  iapply (waitsFrom_spec c K W S (xgOf X) (G origin) (aOf X) 3 25 _)
  isplitl [HU]; · iexact HU
  isplitl [HP]; · iexact HP
  iintro ⟨HU, HP⟩
  iapply (wp_give c)
  iapply (Mxu.wp_exit hm.drained)
  iapply (wp_give c)
  iapply HQ
  unfold Finish
  isplitl [H0]; · iexact H0
  isplitl [H1]; · iexact H1
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexact H15
  isplitl [Hz17]; · iexact Hz17
  isplitl [Hz20]; · iexact Hz20
  isplitl [Hz21]; · iexact Hz21
  isplitl [HP]; · iexact HP
  rw [← upto_all (delivered c K W S (xgOf X) (G origin) (aOf X)) (done c K W S (xgOf X) (G origin) (aOf X))]
  iexact HU

end

end Cert.Proof.KernelIdeal
-- ==== Proof.Split.lean ====
/- A memory reference held whole, as its rectangles, and back. -/
module

public import proofs.«01_k».proof.Proof.Kit

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {sp : Space} {s s' : Shape} {e : EltTy} {n : Nat}

/-- Disjoint rectangles that cover the shape. -/
structure Parts (r : Fin n → Rect s) : Prop where
  one : ∀ j a, (r j).stride a = 1
  apart : ∀ j j', j ≠ j' → Disjoint (r j).set (r j').set
  cover : Finset.univ.biUnion (fun j => (r j).set) = Finset.univ

theorem Parts.sets {r : Fin n → Rect s} (h : Parts r) (m : Memref sig .tc sp s e) :
    Finset.univ.biUnion (fun j => (m.slice (r j) (h.one j)).view.set) = m.view.set := by
  have e1 : ∀ j, (m.slice (r j) (h.one j)).view.set = (r j).set.map m.view.emb := fun j => View.set_slice ..
  ext i
  simp only [Finset.mem_biUnion, Finset.mem_univ, true_and, e1]
  constructor
  · rintro ⟨j, hj⟩; exact Finset.map_subset_map.mpr (Finset.subset_univ _) hj
  · intro hi
    obtain ⟨x, -, rfl⟩ := Finset.mem_map.mp hi
    obtain ⟨j, -, hj⟩ := Finset.mem_biUnion.mp (h.cover ▸ Finset.mem_univ x)
    exact ⟨j, Finset.mem_map_of_mem _ hj⟩

theorem Parts.apart' {r : Fin n → Rect s} (h : Parts r) (m : Memref sig .tc sp s e) (j j' : Fin n) (hj : j ≠ j') :
    Disjoint (m.slice (r j) (h.one j)).view.set (m.slice (r j') (h.one j')).view.set := by
  have e1 : ∀ j, (m.slice (r j) (h.one j)).view.set = (r j).set.map m.view.emb := fun j => View.set_slice ..
  rw [e1, e1]
  exact (Finset.disjoint_map _).mpr (h.apart j j' hj)

theorem own_split {r : Fin n → Rect s} (h : Parts r) (c : Dev nD) (m : Memref sig .tc sp s e) (X : s.Idx → Elt F e) :
    (own c m X : sProp 𝕄) ⊢ bigSep Finset.univ fun j => own c (m.slice (r j) (h.one j)) fun y => X ((r j).emb y) := by
  iintro Hm
  unfold own owns
  icases Hm with ⟨%f, %hf, Hf⟩
  subst hf
  rw [← h.sets m]
  have hb := pointsTo_biUnion (Ix := Unit) (Val := Elt F) (Name := ℕ) (U := Pipeline.UD sig nD τ) (Lvl := ℕ) (ℓ := m.view.loc (c : Thread nD τ)) (q := fullShare) (f := f) Finset.univ (fun j => (m.slice (r j) (h.one j)).view.set)
    (fun j _ j' _ hj => h.apart' m j j' hj)
  have hb' : (m.view.loc (c : Thread nD τ) ↦[Finset.univ.biUnion fun j => (m.slice (r j) (h.one j)).view.set]{fullShare} f : sProp 𝕄)
      ⊢ bigSep Finset.univ fun j => m.view.loc (c : Thread nD τ) ↦[(m.slice (r j) (h.one j)).view.set]{fullShare} f := by
    rw [hb]
  have hm : (bigSep Finset.univ fun j => m.view.loc (c : Thread nD τ) ↦[(m.slice (r j) (h.one j)).view.set]{fullShare} f : sProp 𝕄)
      ⊢ bigSep Finset.univ fun j => own c (m.slice (r j) (h.one j)) fun y => m.view.read (Elt F) f ((r j).emb y) :=
    bigSep_mono fun j _ => own_intro' c (m.slice (r j) (h.one j)) rfl
  ihave Hf := (hb'.trans hm) $$ Hf
  iexact Hf

instance (e : EltTy) : Nonempty (Elt F e) := by
  cases e <;> first | exact ⟨(0 : BitVec _)⟩ | exact ⟨FloatOps.ofBits _ 0⟩

theorem own_join {r : Fin n → Rect s} (h : Parts r) (c : Dev nD) (m : Memref sig .tc sp s e) (V : (j : Fin n) → (r j).shape.Idx → Elt F e) :
    (bigSep Finset.univ fun j => own c (m.slice (r j) (h.one j)) (V j) : sProp 𝕄)
      ⊢ iprop(∃ X, ⌜∀ j y, X ((r j).emb y) = V j y⌝ ∗ own c m X) := by
  unfold own owns
  iintro H
  ihave H := (bigSep_exists_pi (Y := fun _ => m.view.ty.Contents (Elt F)) Finset.univ
    (fun j (f : m.view.ty.Contents (Elt F)) => iprop(⌜(m.slice (r j) (h.one j)).view.read (Elt F) f = V j⌝
      ∗ ((m.slice (r j) (h.one j)).view.loc (c : Thread nD τ) ↦[(m.slice (r j) (h.one j)).view.set]{fullShare} f : sProp 𝕄)))) $$ H
  icases H with ⟨%fs, H⟩
  ihave H := (bigSep_pure_sep Finset.univ _ _) $$ H
  icases H with ⟨%hr, H⟩
  ihave H := (pointsTo_biUnion_join (Ix := Unit) (Val := Elt F) (Name := ℕ) (U := Pipeline.UD sig nD τ) (Lvl := ℕ) (ℓ := m.view.loc (c : Thread nD τ)) (q := fullShare)
    Finset.univ (fun j => (m.slice (r j) (h.one j)).view.set) fs (fun _ => Classical.choice inferInstance)
    (fun j _ j' _ hj => h.apart' m j j' hj)) $$ H
  icases H with ⟨%g, %hg, H⟩
  iexists (m.view.read (Elt F) g)
  isplitr
  · ipureintro
    intro j y
    have e1 := View.read_congr (v := (m.slice (r j) (h.one j)).view) (Val := Elt F) (f := g) (g := fs j) (hg j (Finset.mem_univ j))
    rw [hr j (Finset.mem_univ j)] at e1
    exact congrFun e1 y
  · iexists g
    isplitr
    · ipureintro; rfl
    · rw [← h.sets m]
      iexact H

/-! ## A rectangle without its axis of extent one -/

theorem own_squeeze (c : Dev nD) (m : Memref sig .tc sp s e) (hq : s.Squeezes s') (X : s.Idx → Elt F e) :
    (own c m X : sProp 𝕄) ⊢ own c (m.squeeze s' hq) (fun y => X (Shape.reshapeEquiv hq.numel_eq y)) := by
  iintro Hm
  unfold own owns
  icases Hm with ⟨%f, %hf, Hf⟩
  iexists f
  isplitr
  · ipureintro; subst hf; rfl
  · rw [show (m.squeeze s' hq).view.set = m.view.set from View.set_reshape ..]
    iexact Hf

theorem own_unsqueeze (c : Dev nD) (m : Memref sig .tc sp s e) (hq : s.Squeezes s') (Y : s'.Idx → Elt F e) :
    (own c (m.squeeze s' hq) Y : sProp 𝕄) ⊢ own c m (fun y => Y ((Shape.reshapeEquiv hq.numel_eq).symm y)) := by
  iintro Hm
  unfold own owns
  icases Hm with ⟨%f, %hf, Hf⟩
  iexists f
  isplitr
  · ipureintro
    subst hf
    funext y
    show _ = m.view.read (Elt F) f (Shape.reshapeEquiv hq.numel_eq ((Shape.reshapeEquiv hq.numel_eq).symm y))
    rw [Equiv.apply_symm_apply]
  · rw [show m.view.set = (m.squeeze s' hq).view.set from (View.set_reshape ..).symm]
    iexact Hf

end Cert.Proof.KernelIdeal
-- ==== Proof.Regroup.lean ====
/- The launch hands the kernel its references whole; the blocks want them in rectangles. Both ways. -/
module

public import proofs.«01_k».proof.Proof.Whole
public import proofs.«01_k».proof.Proof.Split

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Shapes1.Facts₀ Shapes2.Facts₀ K0.Facts₀ Facts₀ Facts

variable {F : FTy → Type} [FloatOps F]

local notation "𝕄" => MT nD τ sig Unit (Elt F) ℕ (Pipeline.UD sig nD τ) ℕ

theorem parts_of {s : Shape} (a₀ : Fin s.rank) (R : ℕ) (off : Fin 28 → Fin s.rank → ℕ) (size : Fin s.rank → ℕ)
    (inb : ∀ b a, off b a + size a ≤ s.size a) (hoff₀ : ∀ b, off b a₀ = R * b.val) (hoff : ∀ b a, a ≠ a₀ → off b a = 0)
    (hsz₀ : size a₀ = R) (hsz : ∀ a, a ≠ a₀ → size a = s.size a) (hN : 28 * R = s.size a₀) :
    Parts (fun j : Fin 28 => Rect.unit (s := s) (off j) size (inb j)) where
  one := fun _ _ => rfl
  apart := fun j j' h => Ring.lead_disjoint a₀ R off size inb hoff₀ hsz₀ j j' h
  cover := Ring.lead_cover a₀ R off size inb hoff₀ hoff hsz₀ hsz hN

abbrev rWd (j : Fin 28) : Rect S28x4096x256 := Rect.unit (s := S28x4096x256) ![j.val, 0, 0] S1x4096x256.size (inbWd j)
abbrev rSd (j : Fin 28) : Rect S28x256x512 := Rect.unit (s := S28x256x512) ![j.val, 0, 0] S1x256x512.size (inbSd j)
abbrev rYs (j : Fin 28) : Rect S28x128x512 := Rect.unit (s := S28x128x512) ![j.val, 0, 0] S1x128x512.size (inbYs j)

theorem partsWs : Parts rWs := parts_of 1 256 _ _ _ (fun _ => rfl) (fun b a h => by match a, h with | 0, _ => rfl | 1, h => exact absurd rfl h) rfl (fun a h => by match a, h with | 0, _ => rfl | 1, h => exact absurd rfl h) rfl
theorem partsSs : Parts rSs := parts_of 1 512 _ _ _ (fun _ => rfl) (fun b a h => by match a, h with | 0, _ => rfl | 1, h => exact absurd rfl h) rfl (fun a h => by match a, h with | 0, _ => rfl | 1, h => exact absurd rfl h) rfl
theorem partsYd : Parts rYd := parts_of 1 512 _ _ _ (fun _ => rfl) (fun b a h => by match a, h with | 0, _ => rfl | 1, h => exact absurd rfl h) rfl (fun a h => by match a, h with | 0, _ => rfl | 1, h => exact absurd rfl h) rfl
theorem partsWd : Parts rWd := parts_of 0 1 _ _ _ (fun b => (Nat.one_mul _).symm) (fun b a h => by match a, h with | 0, h => exact absurd rfl h | 1, _ => rfl | 2, _ => rfl) rfl (fun a h => by match a, h with | 0, h => exact absurd rfl h | 1, _ => rfl | 2, _ => rfl) rfl
theorem partsSd : Parts rSd := parts_of 0 1 _ _ _ (fun b => (Nat.one_mul _).symm) (fun b a h => by match a, h with | 0, h => exact absurd rfl h | 1, _ => rfl | 2, _ => rfl) rfl (fun a h => by match a, h with | 0, h => exact absurd rfl h | 1, _ => rfl | 2, _ => rfl) rfl
theorem partsYs : Parts rYs := parts_of 0 1 _ _ _ (fun b => (Nat.one_mul _).symm) (fun b a h => by match a, h with | 0, h => exact absurd rfl h | 1, _ => rfl | 2, _ => rfl) rfl (fun a h => by match a, h with | 0, h => exact absurd rfl h | 1, _ => rfl | 2, _ => rfl) rfl

theorem some_of {α : Type} (Φ : α → sProp 𝕄) (a : α) : Φ a ⊢ iprop(∃ a, Φ a) := by
  iintro H
  iexists a
  iexact H

/-! ## Splitting and joining with the contents known -/

section
variable {sp : Space} {s s' : Shape} {e : EltTy}

theorem own_join_at {r : Fin 28 → Rect s} (h : Parts r) (c : Dev nD) (m : Memref sig .tc sp s e) (X : s.Idx → Elt F e) :
    (bigSep Finset.univ fun j => own c (m.slice (r j) (h.one j)) (fun y => X ((r j).emb y)) : sProp 𝕄) ⊢ own c m X := by
  iintro H
  ihave H := (own_join h c m fun j y => X ((r j).emb y)) $$ H
  icases H with ⟨%X', %hX, H⟩
  have e : X' = X := by
    funext i
    obtain ⟨j, -, hj⟩ := Finset.mem_biUnion.mp (h.cover ▸ Finset.mem_univ i)
    rw [← Rect.map_emb_univ] at hj
    obtain ⟨y, -, rfl⟩ := Finset.mem_map.mp hj
    exact hX j y
  subst e
  iexact H

/-- A reference of any contents, as its squeezed rectangles of any contents. -/
theorem own_split_any {r : Fin 28 → Rect s} (h : Parts r) (hq : ∀ j, (r j).shape.Squeezes s') (c : Dev nD) (m : Memref sig .tc sp s e) :
    iprop(∃ X, (own (F := F) c m X : sProp 𝕄)) ⊢ bigSep Finset.univ fun j => iprop(∃ V, own (F := F) c ((m.slice (r j) (h.one j)).squeeze s' (hq j)) V) := by
  iintro ⟨%X, H⟩
  have hm : (bigSep Finset.univ fun j => own c (m.slice (r j) (h.one j)) fun y => X ((r j).emb y) : sProp 𝕄)
      ⊢ bigSep Finset.univ fun j => iprop(∃ V, own (F := F) c ((m.slice (r j) (h.one j)).squeeze s' (hq j)) V) :=
    bigSep_mono fun j _ => (own_squeeze c _ (hq j) _).trans (some_of (fun V => own c ((m.slice (r j) (h.one j)).squeeze s' (hq j)) V) _)
  ihave H := ((own_split h c m X).trans hm) $$ H
  iexact H

theorem own_split_some {r : Fin 28 → Rect s} (h : Parts r) (c : Dev nD) (m : Memref sig .tc sp s e) :
    iprop(∃ X, (own (F := F) c m X : sProp 𝕄)) ⊢ bigSep Finset.univ fun j => iprop(∃ V, own (F := F) c (m.slice (r j) (h.one j)) V) := by
  iintro ⟨%X, H⟩
  have hm : (bigSep Finset.univ fun j => own c (m.slice (r j) (h.one j)) fun y => X ((r j).emb y) : sProp 𝕄)
      ⊢ bigSep Finset.univ fun j => iprop(∃ V, own (F := F) c (m.slice (r j) (h.one j)) V) :=
    bigSep_mono fun j _ => some_of (fun V => own c (m.slice (r j) (h.one j)) V) _
  ihave H := ((own_split h c m X).trans hm) $$ H
  iexact H

theorem own_join_any {r : Fin 28 → Rect s} (h : Parts r) (hq : ∀ j, (r j).shape.Squeezes s') (c : Dev nD) (m : Memref sig .tc sp s e)
    (Y : Fin 28 → s'.Idx → Elt F e) :
    (bigSep Finset.univ fun j => own c ((m.slice (r j) (h.one j)).squeeze s' (hq j)) (Y j) : sProp 𝕄) ⊢ iprop(∃ X, own (F := F) c m X) := by
  iintro H
  have hm : (bigSep Finset.univ fun j => own c ((m.slice (r j) (h.one j)).squeeze s' (hq j)) (Y j) : sProp 𝕄)
      ⊢ bigSep Finset.univ fun j => own c (m.slice (r j) (h.one j)) fun y => Y j ((Shape.reshapeEquiv (hq j).numel_eq).symm y) :=
    bigSep_mono fun j _ => own_unsqueeze c _ (hq j) (Y j)
  ihave H := (hm.trans (own_join h c m _)) $$ H
  icases H with ⟨%X, -, H⟩
  iexists X
  iexact H

end

/-! ## The product -/

/-- The whole product, block by block. -/
def yOf (xg wg : F .f32) (a : FVec F S128x4096 .bf16) (W : IVec S4096x7168 8) (S : FVec F S256x14336 .fp8e4m3) : FVec F S128x14336 .bf16 :=
  fun i => blkY xg wg a W S ⟨(i 1).val / 512, Nat.div_lt_of_lt_mul (show (i 1).val < 512 * 28 from (i 1).isLt)⟩
    (fun | 0 => ⟨(i 0).val, (i 0).isLt⟩ | 1 => ⟨(i 1).val % 512, Nat.mod_lt _ (by decide)⟩)

theorem yOf_blk (xg wg : F .f32) (a : FVec F S128x4096 .bf16) (W : IVec S4096x7168 8) (S : FVec F S256x14336 .fp8e4m3) (j : Fin 28) :
    blkY xg wg a W S j = fun y => yOf xg wg a W S ((rYd j).emb y) := by
  funext y
  have h1 : ((rYd j).emb y 1).val = 512 * j.val + (y 1).val := by show 512 * j.val + 1 * (y 1).val = _; omega
  have h0 : ((rYd j).emb y 0).val = (y 0).val := by show 0 + 1 * (y 0).val = _; omega
  have hy : (y 1).val < 512 := (y 1).isLt
  unfold yOf
  have hj : (⟨((rYd j).emb y 1).val / 512, Nat.div_lt_of_lt_mul (show ((rYd j).emb y 1).val < 512 * 28 from ((rYd j).emb y 1).isLt)⟩ : Fin 28) = j :=
    Fin.ext (by show ((rYd j).emb y 1).val / 512 = j.val; rw [h1]; omega)
  rw [hj]
  congr 1
  funext b
  apply Fin.ext
  match b with
  | 0 => exact h0.symm
  | 1 => show (y 1).val = ((rYd j).emb y 1).val % 512; rw [h1]; omega

section

variable (c : Dev nD) (K : Args) (G : FVec F S1x1 .f32) (X : FVec F S128x4096 .bf16) (W : IVec S4096x7168 8) (S : FVec F S256x14336 .fp8e4m3)

/-- The kernel's references whole: the inputs at their contents, the results as `R4` to `R7` say, the scratch at any
    contents, the counters at zero. -/
def Mem (R4 R5 R6 R7 : sProp 𝕄) : sProp 𝕄 := iprop(
  own c K.a0 G ∗ own c K.a1 X ∗ own c K.a2 W ∗ own c K.a3 S ∗ R4 ∗ R5 ∗ R6 ∗ R7
  ∗ (∃ V, own (F := F) c K.a8 V) ∗ (∃ V, own (F := F) c K.a9 V) ∗ (∃ V, own (F := F) c K.a10 V) ∗ (∃ V, own (F := F) c K.a11 V)
  ∗ (∃ V, own (F := F) c K.a12 V) ∗ (∃ V, own (F := F) c K.a13 V) ∗ (∃ V, own (F := F) c K.a14 V) ∗ (∃ V, own (F := F) c K.a15 V)
  ∗ (∃ V, own (F := F) c K.a16 V)
  ∗ zeroed c K.a17.sem ∗ zeroed c K.a20.sem ∗ zeroed c K.a21.sem
  ∗ (bigSep Finset.univ fun j => zeroed c (semAt K.a18 j).sem) ∗ (bigSep Finset.univ fun j => zeroed c (semAt K.a19 j).sem)
  ∗ (bigSep Finset.univ fun j => zeroed c (semAt K.a22 j).sem) ∗ paid c)

theorem mem_start : Mem c K G X W S (iprop(∃ V, own (F := F) c K.a4 V)) (iprop(∃ V, own (F := F) c K.a5 V)) (iprop(∃ V, own (F := F) c K.a6 V))
    (iprop(∃ V, own (F := F) c K.a7 V)) ⊢ Start c K G X W S := by
  unfold Mem Start
  iintro ⟨H0, H1, H2, H3, H4, H5, H6, H7, H8, H9, H10, H11, H12, H13, H14, H15, H16, H17, H20, H21, H18, H19, H22, HP⟩
  isplitl [H0]; · iexact H0
  isplitl [H1]; · iexact H1
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexact H15
  isplitl [H17]; · iexact H17
  isplitl [H20]; · iexact H20
  isplitl [H21]; · iexact H21
  isplitl [HP]; · iexact HP
  unfold raw room
  rw [bigSep_sep', bigSep_sep', bigSep_sep', bigSep_sep', bigSep_sep', bigSep_sep', bigSep_sep', bigSep_sep']
  isplitl [H9]
  · iapply (own_split_any partsWd (fun _ => squeezes_S1x4096x256_S4096x256) c K.a9); iexact H9
  isplitl [H2]
  · iapply (own_split partsWs c K.a2 W); iexact H2
  isplitl [H18]; · iexact H18
  isplitl [H10]
  · iapply (own_split_any partsSd (fun _ => squeezes_S1x256x512_S256x512) c K.a10); iexact H10
  isplitl [H3]
  · iapply (own_split partsSs c K.a3 S); iexact H3
  isplitl [H19]; · iexact H19
  isplitl [H16]
  · iapply (own_split_any partsYs (fun _ => squeezes_S1x128x512_S128x512) c K.a16); iexact H16
  isplitl [H4]
  · iapply (own_split_some partsYd c K.a4); iexact H4
  iexact H22

theorem finish_mem : Finish c K G X W S
    ⊢ Mem c K G X W S (own c K.a4 (yOf (xgOf X) (G origin) (aOf X) W S)) (own c K.a5 (pOf (cOf X))) (own c K.a6 (sOf X)) (own c K.a7 (fun _ => xgOf X)) := by
  unfold Mem Finish
  have hD : (bigSep Finset.univ (delivered c K W S (xgOf X) (G origin) (aOf X)) : sProp 𝕄)
      ⊢ iprop(own c K.a2 W ∗ own c K.a3 S ∗ own c K.a4 (yOf (xgOf X) (G origin) (aOf X) W S)
        ∗ (∃ V, own (F := F) c K.a9 V) ∗ (∃ V, own (F := F) c K.a10 V) ∗ (∃ V, own (F := F) c K.a16 V)
        ∗ (bigSep Finset.univ fun j => zeroed c (semAt K.a18 j).sem) ∗ (bigSep Finset.univ fun j => zeroed c (semAt K.a19 j).sem)
        ∗ (bigSep Finset.univ fun j => zeroed c (semAt K.a22 j).sem)) := by
    unfold delivered landed
    rw [bigSep_sep', bigSep_sep', bigSep_sep', bigSep_sep', bigSep_sep', bigSep_sep', bigSep_sep', bigSep_sep']
    iintro ⟨⟨H9, H2, H18, H10, H3, H19⟩, H4, H16, H22⟩
    isplitl [H2]
    · iapply (own_join_at partsWs c K.a2 W); iexact H2
    isplitl [H3]
    · iapply (own_join_at partsSs c K.a3 S); iexact H3
    isplitl [H4]
    · iapply (own_join_at partsYd c K.a4 (yOf (xgOf X) (G origin) (aOf X) W S))
      have e : (fun j => own c (K.a4.slice (rYd j) (partsYd.one j)) (fun y => yOf (xgOf X) (G origin) (aOf X) W S ((rYd j).emb y)) : Fin 28 → sProp 𝕄)
          = fun j => own c (yDst K.a4 j) (blkY (xgOf X) (G origin) (aOf X) W S j) := funext fun j => by rw [yOf_blk]; rfl
      rw [e]
      iexact H4
    isplitl [H9]
    · iapply (own_join_any partsWd (fun _ => squeezes_S1x4096x256_S4096x256) c K.a9 (blkW W)); iexact H9
    isplitl [H10]
    · iapply (own_join_any partsSd (fun _ => squeezes_S1x256x512_S256x512) c K.a10 (blkS S)); iexact H10
    isplitl [H16]
    · iapply (own_join_any partsYs (fun _ => squeezes_S1x128x512_S128x512) c K.a16 (blkY (xgOf X) (G origin) (aOf X) W S)); iexact H16
    isplitl [H18]; · iexact H18
    isplitl [H19]; · iexact H19
    iexact H22
  iintro ⟨H0, H1, H5, H6, H7, H8, H11, H12, H13, H14, H15, H17, H20, H21, HP, HB⟩
  ihave HB := hD $$ HB
  icases HB with ⟨H2, H3, H4, H9, H10, H16, H18, H19, H22⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  isplitl [H9]; · iexact H9
  isplitl [H10]; · iexact H10
  isplitl [H11]
  · iexists _; iexact H11
  isplitl [H12]
  · iexists _; iexact H12
  isplitl [H13]
  · iexists _; iexact H13
  isplitl [H14]
  · iexists _; iexact H14
  isplitl [H15]; · iexact H15
  isplitl [H16]; · iexact H16
  isplitl [H17]; · iexact H17
  isplitl [H20]; · iexact H20
  isplitl [H21]; · iexact H21
  isplitl [H18]; · iexact H18
  isplitl [H19]; · iexact H19
  isplitl [H22]; · iexact H22
  iexact HP

/-- The program, started and finished on the references whole. -/
theorem whole_spec (Q : PUnit → sProp 𝕄) :
    iprop(Mem c K G X W S (iprop(∃ V, own (F := F) c K.a4 V)) (iprop(∃ V, own (F := F) c K.a5 V)) (iprop(∃ V, own (F := F) c K.a6 V))
        (iprop(∃ V, own (F := F) c K.a7 V))
      ∗ (Mem c K G X W S (own c K.a4 (yOf (xgOf X) (G origin) (aOf X) W S)) (own c K.a5 (pOf (cOf X))) (own c K.a6 (sOf X)) (own c K.a7 (fun _ => xgOf X)) -∗ Q ⟨⟩))
      ⊢ WP c (prog (F := F) K.a0 K.a1 K.h1 K.a2 K.h2 K.a3 K.h3 K.a4 K.h4 K.a5 K.h5 K.a6 K.h6 K.a7 K.a8 K.h8 K.a9 K.h9 K.a10 K.h10 K.a11 K.h11
          K.a12 K.h12 K.a13 K.h13 K.a14 K.h14 K.a15 K.a16 K.h16 K.a17 K.a18 K.a19 K.a20 K.a21 K.a22) Q := by
  iintro ⟨H, HQ⟩
  iapply (prog_spec c K G X W S Q)
  isplitl [H]
  · iapply (mem_start c K G X W S); iexact H
  iintro H
  iapply HQ
  iapply (finish_mem c K G X W S)
  iexact H

end

end Cert.Proof.KernelIdeal
-- ==== Proof.Same.lean ====
/- The program as it stands is the program written with its repetitions rolled up: one definitional equality. -/
module

public import proofs.«01_k».proof.Proof.Roll
@[expose] public section
noncomputable section
namespace Cert.Proof.KernelIdeal
open Cert.KernelIdeal
open Idealize.ShloMosaic Idealize.ShloMosaic.TcCoe Idealize.SL.Sem
variable {F : FTy → Type} [FloatOps F]
variable (arg0 : Memref sig .tc .smem S1x1 .f32) (harg0 : arg0.IsWhole)
  (arg1 : Memref sig .tc .hbm S128x4096 .bf16) (harg1 : arg1.IsWhole)
  (arg2 : Memref sig .tc .hbm S4096x7168 .i8) (harg2 : arg2.IsWhole)
  (arg3 : Memref sig .tc .hbm S256x14336 .fp8e4m3) (harg3 : arg3.IsWhole)
  (arg4 : Memref sig .tc .hbm S128x14336 .bf16) (harg4 : arg4.IsWhole)
  (arg5 : Memref sig .tc .hbm S128x2048 .i8) (harg5 : arg5.IsWhole)
  (arg6 : Memref sig .tc .hbm S128x256 .fp8e4m3) (harg6 : arg6.IsWhole)
  (arg7 : Memref sig .tc .smem S1x1 .f32) (harg7 : arg7.IsWhole)
  (arg8 : Memref sig .tc .vmem S128x4096 .bf16) (harg8 : arg8.IsWhole)
  (arg9 : Memref sig .tc .vmem S28x4096x256 .i8) (harg9 : arg9.IsWhole)
  (arg10 : Memref sig .tc .vmem S28x256x512 .fp8e4m3) (harg10 : arg10.IsWhole)
  (arg11 : Memref sig .tc .vmem S128x4096 .bf16) (harg11 : arg11.IsWhole)
  (arg12 : Memref sig .tc .vmem S128x4096 .i8) (harg12 : arg12.IsWhole)
  (arg13 : Memref sig .tc .vmem S128x2048 .i8) (harg13 : arg13.IsWhole)
  (arg14 : Memref sig .tc .vmem S128x256 .fp8e4m3) (harg14 : arg14.IsWhole)
  (arg15 : Memref sig .tc .vmem S2x256x256 .f32) (harg15 : arg15.IsWhole)
  (arg16 : Memref sig .tc .vmem S28x128x512 .bf16) (harg16 : arg16.IsWhole)
  (arg17 : DmaSems sig S_) (arg18 arg19 : DmaSems sig S28) (arg20 arg21 : DmaSems sig S_) (arg22 : DmaSems sig S28)

/-- The printed kernel is the short one. -/
theorem kernel_eq_prog : cc0_nvfp4_linear (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 = prog arg0 arg1 harg1 arg2 harg2 arg3 harg3 arg4 harg4 arg5 harg5 arg6 harg6 arg7 arg8 harg8 arg9 harg9 arg10 harg10 arg11 harg11 arg12 harg12 arg13 harg13 arg14 harg14 arg15 arg16 harg16 arg17 arg18 arg19 arg20 arg21 arg22 := by chain_rfl
end Cert.Proof.KernelIdeal
-- ==== Proof.Launch.lean ====
/- From the program's specification to the run of the whole module: what the four results hold at the end, the arguments
   unchanged, every counter back at zero. -/
module

public import proofs.«01_k».proof.Proof.Regroup
public import proofs.«01_k».proof.Proof.Same
public import proofs.«01_k».proof.Proof.Gen.KernelIdeal.Frame
public import Idealize.ShloMosaic.Lib.Pipeline.FrameValue
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body is given -/

/-- The memory references and counters the body is called with. -/
def args (t : Fin cfg0.N) : Args where
  a0 := win0_0.stage (cfg0.slots t 0)
  h0 := hstage0_0 0
  a1 := Memref.whole main_v1
  h1 := Memref.isWhole_whole _
  a2 := Memref.whole main_arg1
  h2 := Memref.isWhole_whole _
  a3 := Memref.whole main_arg2
  h3 := Memref.isWhole_whole _
  a4 := Memref.whole main_v2_0
  h4 := Memref.isWhole_whole _
  a5 := Memref.whole main_v2_1
  h5 := Memref.isWhole_whole _
  a6 := Memref.whole main_v2_2
  h6 := Memref.isWhole_whole _
  a7 := win0_1.stage (cfg0.slots t 1)
  h7 := hstage0_1 0
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _
  a14 := Memref.whole cc0_scratch6
  h14 := Memref.isWhole_whole _
  a15 := Memref.whole cc0_scratch7
  h15 := Memref.isWhole_whole _
  a16 := Memref.whole cc0_scratch8
  h16 := Memref.isWhole_whole _
  a17 := cc0_scratch9
  a18 := cc0_scratch10
  a19 := cc0_scratch11
  a20 := cc0_scratch12
  a21 := cc0_scratch13
  a22 := cc0_scratch14

/-- The inputs as the region finds them: the activations, the packed weights, the weight scales, the global scale. -/
abbrev inX (c : Dev nD) : FVec F S128x4096 .bf16 := V m c main_v1
abbrev inW (c : Dev nD) : IVec S4096x7168 8 := V m c main_arg1
abbrev inS (c : Dev nD) : FVec F S256x14336 .fp8e4m3 := V m c main_arg2
abbrev inG (c : Dev nD) : FVec F S1x1 .f32 := iblk m c 0 t0_0

/-- What the four results hold at the end. -/
abbrev outY (c : Dev nD) : FVec F S128x14336 .bf16 := yOf (xgOf (inX m c)) (inG m c origin) (aOf (inX m c)) (inW m c) (inS m c)
abbrev outC (c : Dev nD) : IVec S128x2048 8 := pOf (cOf (inX m c))
abbrev outS (c : Dev nD) : FVec F S128x256 .fp8e4m3 := sOf (inX m c)
abbrev outG (c : Dev nD) : FVec F S1x1 .f32 := fun _ => xgOf (inX m c)

/-! ## The launch's resources -/

/-- The body's own counters: the three single ones, and the three arrays of one counter per block. -/
abbrev osem : Fin 3 ⊕ (Fin 28 ⊕ (Fin 28 ⊕ Fin 28)) → SemLoc sig
  | .inl k => (![SemLoc.dma cc0_scratch9.sem, SemLoc.dma cc0_scratch12.sem, SemLoc.dma cc0_scratch13.sem] : Fin 3 → SemLoc sig) k
  | .inr (.inl j) => .dma (semAt cc0_scratch10 j).sem
  | .inr (.inr (.inl j)) => .dma (semAt cc0_scratch11 j).sem
  | .inr (.inr (.inr j)) => .dma (semAt cc0_scratch14 j).sem

theorem ownSemFacts : Pipeline.OwnSemFacts spec0 osem := by decide +kernel

theorem ownSems_eq (c : Dev nD) :
    (Pipeline.ownSems0 (Ix := Unit) (Name := ℕ) (U := Pipeline.UD sig nD τ) (Lvl := ℕ) (Val := Elt F) (τ := τ) osem c : sProp 𝕄)
      = iprop((zeroed c cc0_scratch9.sem ∗ zeroed c cc0_scratch12.sem ∗ zeroed c cc0_scratch13.sem)
        ∗ (bigSep Finset.univ fun j => zeroed c (semAt cc0_scratch10 j).sem) ∗ (bigSep Finset.univ fun j => zeroed c (semAt cc0_scratch11 j).sem)
        ∗ (bigSep Finset.univ fun j => zeroed c (semAt cc0_scratch14 j).sem)) := by
  unfold Pipeline.ownSems0
  rw [bigSep_univ_sum, bigSep_univ_sum, bigSep_univ_sum, bigSep_univ_eq_bigSepL [(0 : Fin 3), 1, 2] (by decide) (by decide)]
  rfl

/-- The buffers the body reads where they are, and the ones it writes there. -/
def HB : Finset (Ref sig .tc) := {main_v1, main_arg1, main_arg2}
def RB : Finset (Ref sig .tc) := {main_v2_0, main_v2_1, main_v2_2}
theorem HB_sub : HB ⊆ Pipeline.restRefs sig spec0 := by decide
theorem RB_sub : RB ⊆ Pipeline.restRefs sig spec0 \ HB := by decide

theorem read_eq (c : Dev nD) :
    (bigSep HB (fun b => ((c : Thread nD τ).loc b) ↦{fullShare} V m c b) : sProp 𝕄)
      = iprop(own c (Memref.whole main_v1) (inX m c) ∗ own c (Memref.whole main_arg1) (inW m c) ∗ own c (Memref.whole main_arg2) (inS m c)) := by
  rw [BI.bigSep_eq_bigSepL_of_eq [main_v1, main_arg1, main_arg2] (by decide) (by decide)]
  simp only [own, owns_whole]; rfl

/-- The written buffers at the end. -/
def Gout (c : Dev nD) : (b : Ref sig .tc) → Buf (Elt F) ((c : Thread nD τ).loc b) :=
  Function.update (Function.update (Function.update (V m c) main_v2_0 (outY m c)) main_v2_1 (outC m c)) main_v2_2 (outS m c)

theorem Gout_0 (c : Dev nD) : Gout m c main_v2_0 = outY m c := by
  unfold Gout
  rw [Function.update_of_ne (show main_v2_0 ≠ main_v2_2 by decide), Function.update_of_ne (show main_v2_0 ≠ main_v2_1 by decide), Function.update_self]
theorem Gout_1 (c : Dev nD) : Gout m c main_v2_1 = outC m c := by
  unfold Gout
  rw [Function.update_of_ne (show main_v2_1 ≠ main_v2_2 by decide), Function.update_self]
theorem Gout_2 (c : Dev nD) : Gout m c main_v2_2 = outS m c := by
  unfold Gout
  rw [Function.update_self]

theorem routed_eq (c : Dev nD) (W : (b : Ref sig .tc) → Buf (Elt F) ((c : Thread nD τ).loc b)) :
    (Pipeline.routed RB c W : sProp 𝕄)
      = iprop(own c (Memref.whole main_v2_0) (W main_v2_0) ∗ own c (Memref.whole main_v2_1) (W main_v2_1) ∗ own c (Memref.whole main_v2_2) (W main_v2_2)) := by
  unfold Pipeline.routed
  rw [BI.bigSep_eq_bigSepL_of_eq [main_v2_0, main_v2_1, main_v2_2] (by decide) (by decide)]
  simp only [own, owns_whole]; rfl

theorem scratch_eq (c : Dev nD) :
    (Pipeline.scopedRest (Ix := Unit) (Name := ℕ) (U := Pipeline.UD sig nD τ) (Lvl := ℕ) (Val := Elt F) spec0 c : sProp 𝕄)
      = iprop((∃ f, own (F := F) c (Memref.whole cc0_scratch0) f) ∗ (∃ f, own (F := F) c (Memref.whole cc0_scratch1) f) ∗ (∃ f, own (F := F) c (Memref.whole cc0_scratch2) f)
        ∗ (∃ f, own (F := F) c (Memref.whole cc0_scratch3) f) ∗ (∃ f, own (F := F) c (Memref.whole cc0_scratch4) f) ∗ (∃ f, own (F := F) c (Memref.whole cc0_scratch5) f)
        ∗ (∃ f, own (F := F) c (Memref.whole cc0_scratch6) f) ∗ (∃ f, own (F := F) c (Memref.whole cc0_scratch7) f) ∗ (∃ f, own (F := F) c (Memref.whole cc0_scratch8) f)) := by
  rw [scopedRest0_eq]
  simp only [own, owns_whole]

/-- The launch's resources beside the windows, the written buffers at `W`. -/
theorem phi_eq (c : Dev nD) (W : (c : Dev nD) → (b : Ref sig .tc) → Buf (Elt F) ((c : Thread nD τ).loc b)) :
    (Pipeline.ΦDRG osem spec0 HB RB (V m) W c : sProp 𝕄)
      = iprop(((∃ f, own (F := F) c (Memref.whole cc0_scratch0) f) ∗ (∃ f, own (F := F) c (Memref.whole cc0_scratch1) f) ∗ (∃ f, own (F := F) c (Memref.whole cc0_scratch2) f)
        ∗ (∃ f, own (F := F) c (Memref.whole cc0_scratch3) f) ∗ (∃ f, own (F := F) c (Memref.whole cc0_scratch4) f) ∗ (∃ f, own (F := F) c (Memref.whole cc0_scratch5) f)
        ∗ (∃ f, own (F := F) c (Memref.whole cc0_scratch6) f) ∗ (∃ f, own (F := F) c (Memref.whole cc0_scratch7) f) ∗ (∃ f, own (F := F) c (Memref.whole cc0_scratch8) f))
        ∗ (∃ r, prngReg c r)
        ∗ ((zeroed c cc0_scratch9.sem ∗ zeroed c cc0_scratch12.sem ∗ zeroed c cc0_scratch13.sem)
          ∗ (bigSep Finset.univ fun j => zeroed c (semAt cc0_scratch10 j).sem) ∗ (bigSep Finset.univ fun j => zeroed c (semAt cc0_scratch11 j).sem)
          ∗ (bigSep Finset.univ fun j => zeroed c (semAt cc0_scratch14 j).sem))
        ∗ (own c (Memref.whole main_v1) (inX m c) ∗ own c (Memref.whole main_arg1) (inW m c) ∗ own c (Memref.whole main_arg2) (inS m c))
        ∗ (own c (Memref.whole main_v2_0) (W c main_v2_0) ∗ own c (Memref.whole main_v2_1) (W c main_v2_1) ∗ own c (Memref.whole main_v2_2) (W c main_v2_2))) := by
  rw [Pipeline.ΦDRG_eq, scratch_eq, ownSems_eq, read_eq, routed_eq]

/-! ## The proof data and the body -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outG m c
  Φ t := if t.val = 0 then Pipeline.ΦDRG osem spec0 HB RB (V m) (V m) c else Pipeline.ΦDRG osem spec0 HB RB (V m) (Gout m) c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = outG m c := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body is the program at its arguments. -/
theorem body_eq (t : Fin cfg0.N) : bodyAt0 (F := F) t = prog (F := F) (args t).a0 (args t).a1 (args t).h1 (args t).a2 (args t).h2 (args t).a3 (args t).h3 (args t).a4 (args t).h4 (args t).a5 (args t).h5 (args t).a6 (args t).h6 (args t).a7 (args t).a8 (args t).h8 (args t).a9 (args t).h9 (args t).a10 (args t).h10 (args t).a11 (args t).h11
          (args t).a12 (args t).h12 (args t).a13 (args t).h13 (args t).a14 (args t).h14 (args t).a15 (args t).a16 (args t).h16 (args t).a17 (args t).a18 (args t).a19 (args t).a20 (args t).a21 (args t).a22 :=
  kernel_eq_prog ..

/-- The body, started on the references whole. -/
theorem body_spec (c : Dev nD) (t : Fin cfg0.N) (Q : PUnit → sProp 𝕄) :
    iprop(Mem c (args t) (inG m c) (inX m c) (inW m c) (inS m c) (iprop(∃ V, own (F := F) c (args t).a4 V)) (iprop(∃ V, own (F := F) c (args t).a5 V))
        (iprop(∃ V, own (F := F) c (args t).a6 V)) (iprop(∃ V, own (F := F) c (args t).a7 V))
      ∗ (Mem c (args t) (inG m c) (inX m c) (inW m c) (inS m c) (own c (args t).a4 (outY m c)) (own c (args t).a5 (outC m c))
          (own c (args t).a6 (outS m c)) (own c (args t).a7 (outG m c)) -∗ Q ⟨⟩))
      ⊢ WP c (bodyAt0 (F := F) t) Q := by
  rw [body_eq]
  exact whole_spec c (args t) (inG m c) (inX m c) (inW m c) (inS m c) Q

theorem sound_body (c : Dev nD) (t : Fin cfg0.N) :
    bodyPre m c t ⊢ wp frame (wpE (defs₀ (F := F)) Variants.none c none) Set.univ (bodyAt0 t) (fun _ => bodyPost m c t) := by
  obtain rfl := fin_N0 t
  have hpre : bodyPre m c t0_0 ⊢ iprop(Mem c (args t0_0) (inG m c) (inX m c) (inW m c) (inS m c) (iprop(∃ V, own (F := F) c (args t0_0).a4 V)) (iprop(∃ V, own (F := F) c (args t0_0).a5 V))
        (iprop(∃ V, own (F := F) c (args t0_0).a6 V)) (iprop(∃ V, own (F := F) c (args t0_0).a7 V)) ∗ (∃ r, prngReg c r)) := by
    unfold bodyPre Mem
    rw [show (dats m 0 c).Φ t0_0.castSucc = Pipeline.ΦDRG osem spec0 HB RB (V m) (V m) c from rfl, phi_eq]
    simp only [before_0]
    unfold Dat.owesAt Pipeline.owesWithin
    rw [show (dats m 0 c).owed t0_0.castSucc = 0 from rfl]
    iintro ⟨⟨⟨HS0, HS1, HS2, HS3, HS4, HS5, HS6, HS7, HS8⟩, Hg, ⟨⟨H17, H20, H21⟩, H18, H19, H22⟩, ⟨H1, H2, H3⟩, ⟨H4, H5, H6⟩⟩, ⟨%W, -, HW⟩, ⟨%d0, H0⟩, ⟨%d1, H7⟩⟩
    isplitr [Hg]
    swap; · iexact Hg
    isplitl [H0]; · iexact H0
    isplitl [H1]; · iexact H1
    isplitl [H2]; · iexact H2
    isplitl [H3]; · iexact H3
    isplitl [H4]
    · iexists _; iexact H4
    isplitl [H5]
    · iexists _; iexact H5
    isplitl [H6]
    · iexists _; iexact H6
    isplitl [H7]
    · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [H17]; · iexact H17
    isplitl [H20]; · iexact H20
    isplitl [H21]; · iexact H21
    isplitl [H18]; · iexact H18
    isplitl [H19]; · iexact H19
    isplitl [H22]; · iexact H22
    iexists W; iexact HW
  have hpost : iprop(Mem c (args t0_0) (inG m c) (inX m c) (inW m c) (inS m c) (own c (args t0_0).a4 (outY m c)) (own c (args t0_0).a5 (outC m c))
          (own c (args t0_0).a6 (outS m c)) (own c (args t0_0).a7 (outG m c)) ∗ (∃ r, prngReg c r)) ⊢ bodyPost m c t0_0 := by
    unfold bodyPost Mem
    rw [show (dats m 0 c).Φ t0_0.succ = Pipeline.ΦDRG osem spec0 HB RB (V m) (Gout m) c from rfl, phi_eq, Gout_0, Gout_1, Gout_2, after_0, after_1]
    unfold Dat.owesAt Pipeline.owesWithin
    rw [show (dats m 0 c).owed t0_0.succ = 0 from rfl]
    iintro ⟨⟨H0, H1, H2, H3, H4, H5, H6, H7, HS0, HS1, HS2, HS3, HS4, HS5, HS6, HS7, HS8, H17, H20, H21, H18, H19, H22, ⟨%W, HW⟩⟩, Hg⟩
    isplitr [HW H0 H7]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      isplitl [Hg]; · iexact Hg
      isplitl [H17 H20 H21 H18 H19 H22]
      · isplitl [H17 H20 H21]
        · isplitl [H17]; · iexact H17
          isplitl [H20]; · iexact H20
          iexact H21
        isplitl [H18]; · iexact H18
        isplitl [H19]; · iexact H19
        iexact H22
      isplitl [H1 H2 H3]
      · isplitl [H1]; · iexact H1
        isplitl [H2]; · iexact H2
        iexact H3
      isplitl [H4]; · iexact H4
      isplitl [H5]; · iexact H5
      iexact H6
    isplitl [HW]
    · iexists W; isplitr; · ipureintro; exact fun _ _ => Or.inl trivial
      iexact HW
    isplitl [H0]; · iexact H0
    iexact H7
  iintro H
  ihave H := hpre $$ H
  icases H with ⟨HM, Hg⟩
  iapply (body_spec m c t0_0 _)
  isplitl [HM]; · iexact HM
  iintro HM
  iapply hpost
  isplitl [HM]; · iexact HM
  iexact Hg

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 RB (V m) (Gout m) r ∧ r.2.sem = fun _ => 0) :=
  Pipeline.θ_run_frame_dmaRG (Q' := _) cfgs (dats m) (0 : Fin 1) launch0 osem defs₀ Variants.none ownSemFacts HB RB HB_sub RB_sub m ρ main
    (hbody := fun c => (body_obligation m c).loose) (hshare := fun c => (dats m 0 c).share_full fun _ => rfl)
    (howed := fun _ _ => rfl) (V := V m) (hmain := hmain m) (hA := A_eq m) (G := Gout m)
    (hin := fun _ => .rfl) (hout := fun _ => .rfl)

/-- The last result, through its window. -/
theorem global_eq (c : Dev nD) : (dats m 0 c).arrAt 1 cfg0.N = outG m c :=
  (dats m 0 c).arrAt_eq_of_after_last 1 t0_0 (by decide +kernel) (outG m c) fun j => by rw [after_1]; rfl

/-- The run: the four results as stated, the arguments as they were, every counter at zero. -/
theorem results : θ_run defs (onTc (τ := τ) (main (F := F))) ⟨m, fun _ => 0, ρ⟩ (fun r => (∀ c : Dev nD,
      (r.2.mem ((c.tc : Thread nD τ).loc main_v2_0) = outY m c
        ∧ r.2.mem ((c.tc : Thread nD τ).loc main_v2_1) = outC m c
        ∧ r.2.mem ((c.tc : Thread nD τ).loc main_v2_2) = outS m c
        ∧ r.2.mem ((c.tc : Thread nD τ).loc main_v2_3) = outG m c)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)))
      ∧ r.2.sem = fun _ => 0) :=
  (θ_run defs _ _).mono (fun _ h => ⟨fun c => ⟨⟨(h.1.written c (show main_v2_0 ∈ RB by decide)).trans (Gout_0 m c),
      (h.1.written c (show main_v2_1 ∈ RB by decide)).trans (Gout_1 m c),
      (h.1.written c (show main_v2_2 ∈ RB by decide)).trans (Gout_2 m c),
      ((h.1.toR c).1 1).trans (global_eq m c)⟩,
    ((h.1.toR c).2 main_arg0 (Finset.mem_sdiff.mpr ⟨Pipeline.mem_restRefs_of main_arg0 (by decide) (by decide), by decide⟩)).trans (V_main_arg0 m c),
    ((h.1.toR c).2 main_arg1 (Finset.mem_sdiff.mpr ⟨Pipeline.mem_restRefs_of main_arg1 (by decide) (by decide), by decide⟩)).trans (V_main_arg1 m c),
    ((h.1.toR c).2 main_arg2 (Finset.mem_sdiff.mpr ⟨Pipeline.mem_restRefs_of main_arg2 (by decide) (by decide), by decide⟩)).trans (V_main_arg2 m c),
    ((h.1.toR c).2 main_arg3 (Finset.mem_sdiff.mpr ⟨Pipeline.mem_restRefs_of main_arg3 (by decide) (by decide), by decide⟩)).trans (V_main_arg3 m c)⟩, h.2⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (results m ρ)

end Cert.Proof.KernelIdeal
-- ==== Proof.BitsFrame.lean ====
/- The program at the machine's own number formats: the module of `Cert.Kernel` and that of `Cert.KernelIdeal` are one
   text, so the run proved of the second at any reading of the floats is the run of the first. -/
module

public import proofs.«01_k».proof.Proof.Launch
public import proofs.«01_k».proof.Proof.Gen.Kernel

@[expose] public section

noncomputable section

namespace Cert.Proof.Kernel

open Idealize.ShloMosaic Idealize.ShloMosaic.TcCoe Idealize.ShloMosaic.Tactic
open Idealize.SL Idealize.SL.Sem

/-- The first module's frame, at the machine's formats. -/
def FrameOfKernel : Prop := ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

/-- The second's, at the same formats. -/
def FrameOfIdeal : Prop := ∀ (m : (ℓ : Loc Cert.KernelIdeal.nD Cert.KernelIdeal.τ Cert.KernelIdeal.sig) → Buf (Elt Bits) ℓ) (ρ : Dev Cert.KernelIdeal.nD → PrngReg),
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frames_same : FrameOfKernel = FrameOfIdeal := by sl_kernel_rfl

theorem frame : FrameOfKernel := frames_same ▸ fun m ρ => Cert.Proof.KernelIdeal.frame m ρ

end Cert.Proof.Kernel
-- ==== Proof.RefRead.lean ====
/- What the reference's four results hold at the end of its run, as the values its one call stores. -/
module

public import proofs.«01_k».proof.Proof.Gen.ReferenceIdeal.Frame
public import proofs.«01_k».proof.Proof.Gen.ReferenceIdeal.Value
public import Idealize.ShloMosaic.Lib.Pipeline.FrameValue
public import Idealize.ShloMosaic.Lib.Pipeline.ValueKit
public import Idealize.ShloMosaic.Lib.Pipeline.ReadBack

@[expose] public section

noncomputable section

namespace Cert.Proof.ReferenceIdeal

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-! ## The values the call stores -/

section
variable (x : FVec F S128x4096 .bf16)

/-- The four-bit codes. -/
def codesR : IVec S128x2048x2 32 := k0_pay9 (k0_pay5 x) (k0_pay6 x) (k0_pay7 x) (k0_pay8 x)

/-- The left operand. -/
def aR : FVec F S128x4096 .bf16 :=
  k0_pay18 (k0_pay4 x) (k0_pay12 (codesR x)) (k0_pay13 (codesR x)) (k0_pay14 (codesR x)) (k0_pay15 (codesR x)) (k0_pay16 (codesR x))
    (k0_pay17 (codesR x)) (Scalar.ofBits .bf16 0x3F00#16) (Scalar.ofBits .bf16 0x0000#16)

/-- The weights of the even columns. -/
def evenR (w : IVec S4096x7168 8) (s : FVec F S256x14336 .fp8e4m3) : FVec F S4096x7168 .bf16 :=
  k0_pay30 (k0_pay22 s) (k0_pay23 (F := F) w) (k0_pay24 (F := F) w) (k0_pay25 (F := F) w) (k0_pay26 (F := F) w) (k0_pay27 w) k0_pay28 k0_pay29

/-- The rows by the two halves of the weights, and the global scales. -/
def yR (w : IVec S4096x7168 8) (s : FVec F S256x14336 .fp8e4m3) (g : F .f32) : FVec F S128x14336 .bf16 :=
  k0_pay38 (k0_pay3 x) (aR x) (evenR w s) (k0_pay32 (k0_pay20 s)) (k0_pay33 (k0_pay19 (F := F) w)) (k0_pay34 (k0_pay19 (F := F) w))
    (k0_pay35 (k0_pay19 (F := F) w)) (k0_pay36 (k0_pay19 (F := F) w)) (k0_pay37 (k0_pay19 (F := F) w)) (Scalar.ofBits .bf16 0x4040#16)
    (Scalar.ofBits .bf16 0x4000#16) g

end

/-! ## The results -/

section
variable (m : (ℓ : Loc nD τ sig) → Buf (Elt F) ℓ) (ρ : Dev nD → PrngReg)

theorem arr_global (c : Dev nD) : (dats m 0 c).arrAt 7 cfg0.N = fun _ => k0_pay3 (iblk m c 0 t0_0) :=
  (dats m 0 c).arrAt_eq_of_after_last 7 t0_0 (by decide +kernel) _ fun j => by rw [after0_7]; frame_out; simp only [read_unread_whole]; rfl

theorem arr_scale (c : Dev nD) : (dats m 0 c).arrAt 6 cfg0.N = k0_pay4 (iblk m c 0 t0_0) :=
  (dats m 0 c).arrAt_eq_of_after_last 6 t0_0 (by decide +kernel) _ fun j => by rw [after0_6]; frame_out; simp only [read_unread_whole]; rfl

theorem arr_codes (c : Dev nD) : (dats m 0 c).arrAt 5 cfg0.N = k0_pay39 (k0_pay10 (codesR (iblk m c 0 t0_0))) :=
  (dats m 0 c).arrAt_eq_of_after_last 5 t0_0 (by decide +kernel) _ fun j => by rw [after0_5]; frame_out; simp only [read_unread_whole]; rfl

/-- The one entry of a one-entry array. -/
def only : S1x1.Idx := fun | 0 => ⟨0, Nat.one_pos⟩ | 1 => ⟨0, Nat.one_pos⟩

theorem arr_y (c : Dev nD) (g : F .f32) (hg : (iblk m c 3 t0_0 : FVec F S1x1 .f32) only = g) :
    (dats m 0 c).arrAt 4 cfg0.N = yR (iblk m c 0 t0_0) (iblk m c 1 t0_0) (iblk m c 2 t0_0) g :=
  (dats m 0 c).arrAt_eq_of_after_last 4 t0_0 (by decide +kernel) _ fun j => by
    rw [after0_4]; subst hg
    unfold outsAt0
    dsimp only
    unfold out0_A_4
    rw [View.read_writes_junk_eq_canon]
    unfold kernelRun0_A
    dsimp only
    frame_out
    sl_unfold_words
    simp only [View.ld_unit_lit, View.readAt_eq_ld, Memref.IsWhole.read_unread, read_unread_whole]
    rfl

end

end Cert.Proof.ReferenceIdeal
-- ==== Proof.Scalars.lean ====
/- What both programs compute with one number at a time: the code of a number, the value of a code, the scale of a
   group, the global scale. -/
module

public import Idealize.ShloMosaic.Lib.Pointwise
public import Idealize.ShloMosaic.PureOps.Ideal
public import Idealize.ShloMosaic.Lib.IdealHost

@[expose] public section

noncomputable section

namespace Cert.Proof.Value

open Idealize.ShloMosaic

section
variable {F : FTy → Type} [FloatOps F]

/-- A constant, as both programs write it. -/
abbrev lt (b : BitVec 32) : F .f32 := Scalar.ofBits .f32 b

/-- One where the condition holds. -/
def step (c : BitVec 1) : BitVec 32 := Scalar.select c 1#32 0#32

/-- How many of the seven thresholds are passed, and eight more for a negative number. -/
def tally (c1 c2 c3 c4 c5 c6 c7 c8 : BitVec 1) : BitVec 32 :=
  let n := IntOp.addi (IntOp.addi (IntOp.addi (IntOp.addi (IntOp.addi (IntOp.addi (step c1) (step c2)) (step c3)) (step c4))
    (step c5)) (step c6)) (step c7)
  Scalar.select c8 (IntOp.addi n 8#32) n

/-- The four-bit code of a number `v` of magnitude `a`. -/
def codeAbs (v a : F .f32) : BitVec 32 :=
  tally (FloatOps.cmpf .ogt a (lt 0x3E800000#32)) (FloatOps.cmpf .oge a (lt 0x3F400000#32))
    (FloatOps.cmpf .ogt a (lt 0x3FA00000#32)) (FloatOps.cmpf .oge a (lt 0x3FE00000#32))
    (FloatOps.cmpf .ogt a (lt 0x40200000#32)) (FloatOps.cmpf .oge a (lt 0x40600000#32))
    (FloatOps.cmpf .ogt a (lt 0x40A00000#32)) (FloatOps.cmpf .olt v (lt 0x00000000#32))

/-- The four-bit code of a number. -/
def code1 (v : F .f32) : BitVec 32 := codeAbs v (FloatOps.absf v)

/-- Whether a bit of a code is set. -/
def bit (c k : BitVec 32) : BitVec 1 := IntOp.cmpi .ne (IntOp.andi c k) 0#32

/-- One of eight values by three conditions, or zero less that value by a fourth. -/
def pick {φ : FTy} (b0 b1 b2 b3 : BitVec 1) (v7 v6 v5 v4 v3 v2 v1 v0 z : F φ) : F φ :=
  let m := Scalar.select b2 (Scalar.select b1 (Scalar.select b0 v7 v6) (Scalar.select b0 v5 v4))
    (Scalar.select b1 (Scalar.select b0 v3 v2) (Scalar.select b0 v1 v0))
  Scalar.select b3 (FloatOps.subf z m) m

/-- The value of a code. -/
def val1 (c : BitVec 32) : F .f32 :=
  pick (bit c 1#32) (bit c 2#32) (bit c 4#32) (bit c 8#32) (lt 0x40C00000#32) (lt 0x40800000#32) (lt 0x40400000#32) (lt 0x40000000#32)
    (lt 0x3FC00000#32) (lt 0x3F800000#32) (lt 0x3F000000#32) (lt 0x00000000#32) (lt 0x00000000#32)

/-- The value of a code, in the shorter format. -/
def short1 (c : BitVec 32) : F .bf16 :=
  pick (bit c 1#32) (bit c 2#32) (bit c 4#32) (bit c 8#32) (Scalar.ofBits .bf16 0x40C0#16) (Scalar.ofBits .bf16 0x4080#16)
    (Scalar.ofBits .bf16 0x4040#16) (Scalar.ofBits .bf16 0x4000#16) (Scalar.ofBits .bf16 0x3FC0#16) (Scalar.ofBits .bf16 0x3F80#16)
    (Scalar.ofBits .bf16 0x3F00#16) (Scalar.ofBits .bf16 0x0000#16) (Scalar.ofBits .bf16 0x0000#16)

/-- The global scale, from the greatest magnitude. -/
def glob1 (a : F .f32) : F .f32 :=
  Scalar.select (Scalar.cmpf .ogt a (lt 0x00000000#32)) (Scalar.divf a (lt 0x45280000#32)) (lt 0x3F800000#32)

/-- The scale of a group, from its greatest magnitude, before it is stored. -/
def scale1 (g a : F .f32) : F .f32 :=
  FloatOps.minimumf (lt 0x43E00000#32) (FloatOps.maximumf (lt 0x00000000#32)
    (FloatOps.divf (FloatOps.divf (FloatOps.mulf a (lt 0x3F800800#32)) (lt 0x40C00000#32)) g))

/-- What a group's numbers are divided by. -/
def den1 (g s : F .f32) : F .f32 :=
  FloatOps.mulf (Scalar.select (FloatOps.cmpf .oeq s (lt 0x00000000#32)) (lt 0x3F800000#32) s) g

end

/-- A constant as an extended real. -/
abbrev lit (b : BitVec 32) : EReal := FloatOps.ofBits (F := Ideal) .f32 b

/-- The absolute value. -/
abbrev mag (x : EReal) : EReal := FloatOps.absf (F := Ideal) (φ := .f32) x

/-! ## What the quantised rows are -/

section
variable (x : (⟨2, ![128, 4096]⟩ : Shape).Idx → EReal)

/-- The greatest magnitude of all. -/
def amax : EReal := Finset.univ.fold max ⊥ fun i => mag (x i)

/-- Entry `q` of group `g`. -/
def inGroup (g : Fin 256) (q : Fin 16) : Fin 4096 := ⟨g.val * 16 + q.val, by omega⟩

/-- The greatest magnitude of a group. -/
def gmax (r : Fin 128) (g : Fin 256) : EReal := Finset.univ.fold max ⊥ fun q : Fin 16 => mag (x (ix2 r (inGroup g q)))

/-- The group an entry belongs to. -/
def groupOf (k : Fin 4096) : Fin 256 := ⟨k.val / 16, by omega⟩

/-- The global scale. -/
def gOf : EReal := glob1 (F := Ideal) (amax x)

/-- The scale of a group. -/
def scOf (r : Fin 128) (g : Fin 256) : EReal := scale1 (F := Ideal) (gOf x) (gmax x r g)

/-- The code of an entry. -/
def cdOf (r : Fin 128) (k : Fin 4096) : BitVec 32 :=
  code1 (F := Ideal) (FloatOps.divf (F := Ideal) (φ := .f32) (x (ix2 r k)) (den1 (F := Ideal) (gOf x) (scOf x r (groupOf k))))

/-- The value an entry is stood for by. -/
def opOf (r : Fin 128) (k : Fin 4096) : EReal := val1 (F := Ideal) (cdOf x r k) * scOf x r (groupOf k)

end

/-! ## Codes have four bits -/

theorem tally_lt : ∀ c1 c2 c3 c4 c5 c6 c7 c8 : BitVec 1, (tally c1 c2 c3 c4 c5 c6 c7 c8).toNat < 16 := by decide +kernel

theorem code1_lt (v : EReal) : (code1 (F := Ideal) v).toNat < 16 := tally_lt _ _ _ _ _ _ _ _

/-- The value of a code is that of its low four bits. -/
theorem bit_low (c : BitVec 32) : bit (c &&& 15#32) 1#32 = bit c 1#32 ∧ bit (c &&& 15#32) 2#32 = bit c 2#32
    ∧ bit (c &&& 15#32) 4#32 = bit c 4#32 ∧ bit (c &&& 15#32) 8#32 = bit c 8#32 := by
  have h (k : BitVec 32) (hk : 15#32 &&& k = k) : bit (c &&& 15#32) k = bit c k := by
    unfold bit IntOp.andi
    rw [BitVec.and_assoc, hk]
  exact ⟨h _ (by decide), h _ (by decide), h _ (by decide), h _ (by decide)⟩

theorem val1_low (c : BitVec 32) : val1 (F := Ideal) (c &&& 15#32) = val1 (F := Ideal) c := by
  obtain ⟨h1, h2, h4, h8⟩ := bit_low c
  unfold val1
  rw [h1, h2, h4, h8]

/-! ## The constants as real numbers -/

theorem lit_quarter : lit 0x3E800000#32 = (((1/4) : ℝ) : EReal) := by
  simp [Ideal.ofBits, Ideal.ieee, -EReal.coe_mul]; norm_num
theorem lit_threeq : lit 0x3F400000#32 = (((3/4) : ℝ) : EReal) := by
  simp [Ideal.ofBits, Ideal.ieee, -EReal.coe_mul]; norm_num
theorem lit_fiveq : lit 0x3FA00000#32 = (((5/4) : ℝ) : EReal) := by
  simp [Ideal.ofBits, Ideal.ieee, -EReal.coe_mul]; norm_num
theorem lit_sevenq : lit 0x3FE00000#32 = (((7/4) : ℝ) : EReal) := by
  simp [Ideal.ofBits, Ideal.ieee, -EReal.coe_mul]; norm_num
theorem lit_fiveh : lit 0x40200000#32 = (((5/2) : ℝ) : EReal) := by
  simp [Ideal.ofBits, Ideal.ieee, -EReal.coe_mul]; norm_num
theorem lit_sevenh : lit 0x40600000#32 = (((7/2) : ℝ) : EReal) := by
  simp [Ideal.ofBits, Ideal.ieee, -EReal.coe_mul]; norm_num
theorem lit_five : lit 0x40A00000#32 = ((5 : ℝ) : EReal) := by
  simp [Ideal.ofBits, Ideal.ieee, -EReal.coe_mul]; norm_num
theorem lit_six : lit 0x40C00000#32 = ((6 : ℝ) : EReal) := by
  simp [Ideal.ofBits, Ideal.ieee, -EReal.coe_mul]; norm_num
theorem lit_negsix : lit 0xC0C00000#32 = (((-6) : ℝ) : EReal) := by
  simp [Ideal.ofBits, Ideal.ieee, -EReal.coe_neg, -EReal.coe_mul]; norm_num
theorem lit_big : lit 0x45280000#32 = ((2688 : ℝ) : EReal) := by
  simp [Ideal.ofBits, Ideal.ieee, -EReal.coe_mul]; norm_num

/-! ## The values of the codes in the shorter format -/

theorem short_six : FloatOps.ofBits (F := Ideal) .bf16 0x40C0#16 = lit 0x40C00000#32 := by
  rw [show lit 0x40C00000#32 = ((6 : ℝ) : EReal) by simp [Ideal.ofBits, Ideal.ieee, -EReal.coe_mul]; norm_num]
  simp [Ideal.ofBits, Ideal.ieee, -EReal.coe_mul]; norm_num
theorem short_four : FloatOps.ofBits (F := Ideal) .bf16 0x4080#16 = lit 0x40800000#32 := by
  rw [show lit 0x40800000#32 = ((4 : ℝ) : EReal) by simp [Ideal.ofBits, Ideal.ieee, -EReal.coe_mul]; norm_num]
  simp [Ideal.ofBits, Ideal.ieee, -EReal.coe_mul]; norm_num
theorem short_three : FloatOps.ofBits (F := Ideal) .bf16 0x4040#16 = lit 0x40400000#32 := by
  rw [show lit 0x40400000#32 = ((3 : ℝ) : EReal) by simp [Ideal.ofBits, Ideal.ieee, -EReal.coe_mul]; norm_num]
  simp [Ideal.ofBits, Ideal.ieee, -EReal.coe_mul]; norm_num
theorem short_two : FloatOps.ofBits (F := Ideal) .bf16 0x4000#16 = lit 0x40000000#32 := by
  rw [show lit 0x40000000#32 = ((2 : ℝ) : EReal) by simp [Ideal.ofBits, Ideal.ieee, -EReal.coe_mul]; norm_num]
  simp [Ideal.ofBits, Ideal.ieee, -EReal.coe_mul]; norm_num
theorem short_oneh : FloatOps.ofBits (F := Ideal) .bf16 0x3FC0#16 = lit 0x3FC00000#32 := by
  rw [show lit 0x3FC00000#32 = (((3/2) : ℝ) : EReal) by simp [Ideal.ofBits, Ideal.ieee, -EReal.coe_mul]; norm_num]
  simp [Ideal.ofBits, Ideal.ieee, -EReal.coe_mul]; norm_num
theorem short_half : FloatOps.ofBits (F := Ideal) .bf16 0x3F00#16 = lit 0x3F000000#32 := by
  rw [show lit 0x3F000000#32 = (((1/2) : ℝ) : EReal) by simp [Ideal.ofBits, Ideal.ieee, -EReal.coe_mul]; norm_num]
  simp [Ideal.ofBits, Ideal.ieee, -EReal.coe_mul]; norm_num
theorem short_one : FloatOps.ofBits (F := Ideal) .bf16 0x3F80#16 = lit 0x3F800000#32 := by
  simp only [Ideal.ofBits_def, Ideal.ofBits_one_bf16, Ideal.ofBits_one_f32]
theorem short_zero : FloatOps.ofBits (F := Ideal) .bf16 0x0000#16 = lit 0x00000000#32 := by
  simp only [Ideal.ofBits_def, Ideal.ofBits_zero_bf16, Ideal.ofBits_zero_f32]

theorem short1_eq (c : BitVec 32) : short1 (F := Ideal) c = val1 (F := Ideal) c := by
  have key : ∀ (b0 b1 b2 b3 : BitVec 1) (v7 v6 v5 v4 v3 v2 v1 v0 : Ideal .bf16) (w7 w6 w5 w4 w3 w2 w1 w0 : Ideal .f32),
      v7 = w7 → v6 = w6 → v5 = w5 → v4 = w4 → v3 = w3 → v2 = w2 → v1 = w1 → v0 = w0 →
      pick b0 b1 b2 b3 v7 v6 v5 v4 v3 v2 v1 v0 v0 = pick b0 b1 b2 b3 w7 w6 w5 w4 w3 w2 w1 w0 w0 := by
    intro b0 b1 b2 b3 v7 v6 v5 v4 v3 v2 v1 v0 w7 w6 w5 w4 w3 w2 w1 w0 h7 h6 h5 h4 h3 h2 h1 h0
    subst h7 h6 h5 h4 h3 h2 h1 h0
    rfl
  exact key _ _ _ _ _ _ _ _ _ _ _ _ _ _ _ _ _ _ _ _ short_six short_four short_three short_two short_oneh short_one short_half
    short_zero

theorem lit_lowest : lit 0xFF800000#32 = ⊥ := by simp [Ideal.ofBits, Ideal.ieee]

end Cert.Proof.Value
-- ==== Proof.RefSpec.lean ====
/- The reference's quantised rows, read at an index. -/
module

public import proofs.«01_k».proof.Proof.RefRead
public import proofs.«01_k».proof.Proof.Scalars

@[expose] public section

set_option maxRecDepth 16384

noncomputable section

namespace Cert.Proof.Value

open Cert.ReferenceIdeal Cert.ReferenceIdeal.Gen Cert.Proof.ReferenceIdeal
open Idealize.ShloMosaic

section
variable {F : FTy → Type} [FloatOps F]

/-! ## Entry by entry -/

/-- The greatest of all, as the reference finds it. -/
abbrev greatest (v : FVec F S128x4096 .f32) : F .f32 := extractAt ![0, 0, 0] (shapeCast S1x1x1 (multiReduction (F := F) (φ := .f32) .maximumf [1, 2] S1
    (shapeCast S1x128x4096 v shapeCasts_S128x4096_S1x128x4096)
      0xFF800000#32 reduces_S1x128x4096_S1 (.inl rfl) rfl) shapeCasts_S1_S1x1x1) inpos_S1x1x1_p0_0_0

/-- The greatest of each group, as the reference finds it. -/
abbrev greatests (v : FVec F S128x4096 .f32) : FVec F S128x256 .f32 := multiReduction (F := F) (φ := .f32) .maximumf [2] S128x256
    (shapeCast S128x256x16 v shapeCasts_S128x4096_S128x256x16)
      0xFF800000#32 reduces_S128x256x16_S128x256 (.inl rfl) rfl

theorem pay3_gen (x : FVec F S128x4096 .bf16) : k0_pay3 x = glob1 (greatest (k0_pay2 x)) := by
  unfold k0_pay3
  generalize k0_pay2 x = v
  rfl

theorem pay4_gen (x : FVec F S128x4096 .bf16) (i : S128x256.Idx) :
    k0_pay4 x i = FloatOps.truncf .fp8e4m3 bitsLt_fp8e4m3_f32 (scale1 (k0_pay3 x) (greatests (k0_pay2 x) i)) := by
  unfold k0_pay4
  generalize k0_pay3 x = g
  generalize k0_pay2 x = v
  rfl

/-- What each group is divided by. -/
def dens (x : FVec F S128x4096 .bf16) : FVec F S128x256 .f32 := fun j =>
  den1 (k0_pay3 x) (FloatOps.extf .f32 bitsLt_fp8e4m3_f32 (k0_pay4 x j))

theorem pay5_gen (x : FVec F S128x4096 .bf16) (i : S128x256x16.Idx) : k0_pay5 x i = FloatOps.divf
    (shapeCast S128x256x16 (k0_pay1 x) shapeCasts_S128x4096_S128x256x16 i)
    (broadcastTo S128x256x16 (shapeCast S128x256x1 (dens x) shapeCasts_S128x256_S128x256x1) broadcasts_S128x256x1_S128x256x16 i) := by
  unfold k0_pay5 dens
  generalize k0_pay3 x = g
  generalize k0_pay4 x = s
  generalize k0_pay1 x = v
  rfl

/-- The codes, entry by entry. -/
def codeAll (v : FVec F S128x256x16 .f32) : IVec S128x256x16 32 := fun i => code1 (v i)

theorem codesR_gen (x : FVec F S128x4096 .bf16) : codesR x = shapeCast S128x2048x2 (shapeCast S128x4096 (codeAll (k0_pay5 x))
    shapeCasts_S128x256x16_S128x4096) shapeCasts_S128x4096_S128x2048x2 := by
  unfold codesR k0_pay7 k0_pay8 k0_pay6
  generalize k0_pay5 x = v
  rfl

end

/-! ## Greatest magnitudes -/

/-- Two greatest values agree when they have the same bounds. -/
theorem fold_max_congr {α β : Type} [Fintype α] [Fintype β] (f : α → EReal) (g : β → EReal) (s : Finset α) (t : Finset β)
    (h : ∀ b : EReal, (∀ i ∈ s, f i ≤ b) ↔ ∀ j ∈ t, g j ≤ b) : s.fold max ⊥ f = t.fold max ⊥ g :=
  eq_of_forall_ge_iff fun b => by
    rw [Finset.fold_max_le, Finset.fold_max_le]
    simp only [bot_le, true_and]
    exact h b

variable (x : FVec Ideal S128x4096 .bf16)

theorem wide_at (i : S128x4096.Idx) : k0_pay1 (F := Ideal) x i = x i := by
  unfold k0_pay1
  rw [show ∀ (v : FVec Ideal S128x4096 .bf16) i, extf .f32 (shapeCast S128x4096 v shapeCasts_S128x4096_S128x4096) bitsLt_bf16_f32 i
    = shapeCast S128x4096 v shapeCasts_S128x4096_S128x4096 i from fun _ _ => rfl]
  idx_vars i
  pointwise

theorem mags_at (i : S128x4096.Idx) : k0_pay2 (F := Ideal) x i = mag (x i) := by
  unfold k0_pay2
  rw [← wide_at x i]
  rfl

theorem greatest_eq (v : FVec Ideal S128x4096 .f32) : greatest v = Finset.univ.fold max ⊥ v := by
  have h1 : ∀ a b : S1.Idx, a = b := fun a b => funext fun k => by
    fin_cases k
    exact Subsingleton.elim (α := Fin 1) _ _
  unfold greatest extractAt
  generalize hv : shapeCast S1x128x4096 v shapeCasts_S128x4096_S1x128x4096 = w
  refine (multiReduction_maximumf_eq_fold _ _ _ _ _ _).trans ?_
  rw [show (FloatOps.ofBits (F := Ideal) .f32 0xFF800000#32 : EReal) = ⊥ from lit_lowest]
  refine fold_max_congr _ _ _ _ fun b => ?_
  subst hv
  constructor
  · intro h j _
    have := h ((Shape.reshapeEquiv shapeCasts_S128x4096_S1x128x4096).symm j) (Finset.mem_filter.2 ⟨Finset.mem_univ _, h1 _ _⟩)
    rwa [show shapeCast S1x128x4096 v shapeCasts_S128x4096_S1x128x4096 ((Shape.reshapeEquiv shapeCasts_S128x4096_S1x128x4096).symm j) = v j from
      congrArg v (Equiv.apply_symm_apply _ _)] at this
  · intro h i _
    exact h _ (Finset.mem_univ _)

theorem pay3_eq : k0_pay3 (F := Ideal) x = gOf x := by
  rw [pay3_gen, greatest_eq, show k0_pay2 (F := Ideal) x = fun i => mag (x i) from funext (mags_at x)]
  rfl

theorem greatests_at (v : FVec Ideal S128x4096 .f32) (r : Fin 128) (g : Fin 256) :
    greatests v (ix2 r g) = Finset.univ.fold max ⊥ fun q : Fin 16 => v (ix2 r (inGroup g q)) := by
  pointwise
  rw [show Ideal.ofBits .f32 0xFF800000#32 = ⊥ from lit_lowest]
  rfl

theorem pay4_at (r : Fin 128) (g : Fin 256) : k0_pay4 (F := Ideal) x (ix2 r g) = scOf x r g := by
  rw [pay4_gen, pay3_eq, greatests_at, show k0_pay2 (F := Ideal) x = fun i => mag (x i) from funext (mags_at x)]
  rfl

theorem byGroup_at (v : FVec Ideal S128x4096 .f32) (r : Fin 128) (g : Fin 256) (q : Fin 16) :
    shapeCast S128x256x16 v shapeCasts_S128x4096_S128x256x16 (ix3 r g q) = v (ix2 r (inGroup g q)) := by
  pointwise
  rfl

theorem spread_at (v : FVec Ideal S128x256 .f32) (r : Fin 128) (g : Fin 256) (q : Fin 16) :
    broadcastTo S128x256x16 (shapeCast S128x256x1 v shapeCasts_S128x256_S128x256x1) broadcasts_S128x256x1_S128x256x16 (ix3 r g q)
      = v (ix2 r g) := by
  pointwise

theorem dens_at (r : Fin 128) (g : Fin 256) : dens x (ix2 r g) = den1 (F := Ideal) (gOf x) (scOf x r g) := by
  unfold dens
  rw [pay3_eq, pay4_at]
  rfl

theorem pay5_at (r : Fin 128) (g : Fin 256) (q : Fin 16) : k0_pay5 (F := Ideal) x (ix3 r g q)
    = FloatOps.divf (F := Ideal) (φ := .f32) (x (ix2 r (inGroup g q))) (den1 (F := Ideal) (gOf x) (scOf x r g)) := by
  rw [pay5_gen, byGroup_at, spread_at, dens_at, wide_at]

/-- Entry `p` of pair `m`. -/
def inPair (m : Fin 2048) (p : Fin 2) : Fin 4096 := ⟨m.val * 2 + p.val, by omega⟩

/-- The place of an entry in its group. -/
def inOf (k : Fin 4096) : Fin 16 := ⟨k.val % 16, by omega⟩

theorem pairs_at (v : IVec S128x256x16 32) (r : Fin 128) (m : Fin 2048) (p : Fin 2) :
    shapeCast S128x2048x2 (shapeCast S128x4096 v shapeCasts_S128x256x16_S128x4096) shapeCasts_S128x4096_S128x2048x2 (ix3 r m p)
      = v (ix3 r (groupOf (inPair m p)) (inOf (inPair m p))) := by
  pointwise
  congr 2 <;> (apply Fin.ext; simp only [groupOf, inOf, inPair]; omega)

theorem inGroup_of (k : Fin 4096) : inGroup (groupOf k) (inOf k) = k := by
  apply Fin.ext
  simp only [inGroup, groupOf, inOf]
  omega

theorem codesR_at (r : Fin 128) (m : Fin 2048) (p : Fin 2) : codesR (F := Ideal) x (ix3 r m p) = cdOf x r (inPair m p) := by
  rw [codesR_gen, pairs_at]
  unfold codeAll
  rw [pay5_at, inGroup_of]
  rfl

end Cert.Proof.Value
-- ==== Proof.RefOps.lean ====
/- The reference's packed codes, operands and rows, read at an index. -/
module

public import proofs.«01_k».proof.Proof.RefSpec

@[expose] public section

set_option maxRecDepth 16384

noncomputable section

namespace Cert.Proof.Value

open Cert.ReferenceIdeal Cert.ReferenceIdeal.Gen Cert.Proof.ReferenceIdeal
open Idealize.ShloMosaic

/-! ## Two codes in one word -/

/-- Two codes, the second four bits up. -/
def both (a b : BitVec 32) : BitVec 32 := IntOp.ori a (IntOp.shli .vector b 4#32)

theorem both_parts (a b : BitVec 32) (ha : a.toNat < 16) (hb : b.toNat < 16) :
    IntOp.andi (both a b) 15#32 = a ∧ IntOp.shrsi .vector (both a b) 4#32 = b := by
  have h : ∀ a b : Fin 16, IntOp.andi (both (BitVec.ofNat 32 a.val) (BitVec.ofNat 32 b.val)) 15#32 = BitVec.ofNat 32 a.val ∧
      IntOp.shrsi .vector (both (BitVec.ofNat 32 a.val) (BitVec.ofNat 32 b.val)) 4#32 = BitVec.ofNat 32 b.val := by decide +kernel
  have e (c : BitVec 32) : BitVec.ofNat 32 c.toNat = c := by simp
  have := h ⟨a.toNat, ha⟩ ⟨b.toNat, hb⟩
  simpa only [e] using this

theorem pack_at (v : IVec S128x2048x2 32) (r : Fin 128) (m : Fin 2048) :
    k0_pay10 v (ix2 r m) = both (v (ix3 r m 0)) (v (ix3 r m 1)) := by
  unfold k0_pay10
  rw [show ∀ (a b : IVec S128x2048 32) i, ori a (shli b (broadcast S128x2048 4#32)) i = both (a i) (b i) from fun _ _ _ => rfl]
  pointwise

theorem codes_at (x : FVec Ideal S128x4096 .bf16) (r : Fin 128) (m : Fin 2048) : k0_pay39 (k0_pay10 (codesR (F := Ideal) x)) (ix2 r m)
    = BitVec.setWidth 8 (both (cdOf x r (inPair m 0)) (cdOf x r (inPair m 1))) := by
  rw [← codesR_at, ← codesR_at, ← pack_at]
  rfl

/-- The pair of an entry, and its place in it. -/
def pairOf (k : Fin 4096) : Fin 2048 := ⟨k.val / 2, by omega⟩
def sideOf (k : Fin 4096) : Fin 2 := ⟨k.val % 2, by omega⟩

theorem unpack_at (v : IVec S128x2048x2 32) (hv : ∀ i, (v i).toNat < 16) (r : Fin 128) (g : Fin 256) (q : Fin 16) :
    k0_pay11 v (ix3 r g q) = v (ix3 r (pairOf (inGroup g q)) (sideOf (inGroup g q))) := by
  have key : ∀ (a b : IVec S128x2048 32), shapeCast S128x256x16 (concatenate S128x2048x2 2 [⟨S128x2048x1, shapeCast S128x2048x1 a shapeCasts_S128x2048_S128x2048x1⟩,
      ⟨S128x2048x1, shapeCast S128x2048x1 b shapeCasts_S128x2048_S128x2048x1⟩] concatenates_S128x2048x1_S128x2048x1_S128x2048x2_d2)
      shapeCasts_S128x2048x2_S128x256x16 (ix3 r g q)
      = if (inGroup g q).val % 2 = 0 then a (ix2 r (pairOf (inGroup g q))) else b (ix2 r (pairOf (inGroup g q))) := by
    intro a b
    pointwise
    have e : (⟨g.val * 8 + q.val / 2, by omega⟩ : Fin 2048) = pairOf (inGroup g q) := Fin.ext (by simp only [pairOf, inGroup]; omega)
    have c : q.val % 2 < 1 ↔ (inGroup g q).val % 2 = 0 := by simp only [inGroup]; omega
    by_cases h : q.val % 2 < 1
    · rw [dif_pos h, if_pos (c.1 h)]
      exact congrArg (fun t => a (ix2 r t)) e
    · rw [dif_neg h, if_neg fun h' => h (c.2 h')]
      exact congrArg (fun t => b (ix2 r t)) e
  unfold k0_pay11
  rw [key]
  rw [show ∀ (a : IVec S128x2048 32) i, andi a (broadcast S128x2048 15#32) i = IntOp.andi (a i) 15#32 from fun _ _ => rfl,
    show ∀ (a : IVec S128x2048 32) i, shrsi a (broadcast S128x2048 4#32) i = IntOp.shrsi .vector (a i) 4#32 from fun _ _ => rfl, pack_at,
    (both_parts _ _ (hv _) (hv _)).1, (both_parts _ _ (hv _) (hv _)).2]
  split
  · rename_i h
    rw [show sideOf (inGroup g q) = 0 from Fin.ext h]
  · rename_i h
    rw [show sideOf (inGroup g q) = 1 from Fin.ext (by simp only [sideOf]; omega)]

/-! ## The operands -/

section
variable {F : FTy → Type} [FloatOps F]

/-- The left operand, from the codes. -/
theorem aR_gen (x : FVec F S128x4096 .bf16) : aR x = shapeCast S128x4096 (fun i => FloatOps.mulf (short1 (k0_pay11 (codesR x) i))
    (broadcastTo S128x256x16 (shapeCast S128x256x1 (extf .bf16 (k0_pay4 x) bitsLt_fp8e4m3_bf16) shapeCasts_S128x256_S128x256x1)
      broadcasts_S128x256x1_S128x256x16 i)) shapeCasts_S128x256x16_S128x4096 := by
  unfold aR k0_pay17 k0_pay16 k0_pay15 k0_pay14 k0_pay13 k0_pay12
  generalize k0_pay11 (codesR x) = c
  generalize k0_pay4 x = s
  rfl

/-- Half of the right operand, from its codes and scales. -/
def halfW (n : IVec S4096x7168 32) (s : FVec F S256x7168 .fp8e4m3) : FVec F S4096x7168 .bf16 :=
  shapeCast S4096x7168 (fun i => FloatOps.mulf (shapeCast S256x16x7168 (fun i => short1 (n i)) shapeCasts_S4096x7168_S256x16x7168 i)
    (broadcastTo S256x16x7168 (shapeCast S256x1x7168 (extf .bf16 s bitsLt_fp8e4m3_bf16) shapeCasts_S256x7168_S256x1x7168)
      broadcasts_S256x1x7168_S256x16x7168 i)) shapeCasts_S256x16x7168_S4096x7168

theorem evenR_gen (w : IVec S4096x7168 8) (s : FVec F S256x14336 .fp8e4m3) :
    evenR w s = halfW (k0_pay21 (F := F) w) (k0_pay22 s) := by
  unfold evenR halfW k0_pay27 k0_pay26 k0_pay25 k0_pay24 k0_pay23
  generalize k0_pay21 (F := F) w = n
  generalize k0_pay22 s = s
  rfl

theorem yR_gen (x : FVec F S128x4096 .bf16) (w : IVec S4096x7168 8) (s : FVec F S256x14336 .fp8e4m3) (g : F .f32) (i : S128x14336.Idx) :
    yR x w s g i = FloatOps.truncf .bf16 bitsLt_bf16_f32 (FloatOps.mulf (FloatOps.mulf (shapeCast S128x14336 (concatenate S128x7168x2 2
      [⟨S128x7168x1, shapeCast S128x7168x1 (matmul dot_S128x4096_S4096x7168_S128x7168_1_0_0_1_n_n none (aR x)
          (halfW (k0_pay21 (F := F) w) (k0_pay22 s)) (constant S128x7168 .f32 0x00000000#32)) shapeCasts_S128x7168_S128x7168x1⟩,
       ⟨S128x7168x1, shapeCast S128x7168x1 (matmul dot_S128x4096_S4096x7168_S128x7168_1_0_0_1_n_n none (aR x)
          (halfW (k0_pay31 (k0_pay19 (F := F) w)) (k0_pay32 (k0_pay20 s))) (constant S128x7168 .f32 0x00000000#32)) shapeCasts_S128x7168_S128x7168x1⟩]
      concatenates_S128x7168x1_S128x7168x1_S128x7168x2_d2) shapeCasts_S128x7168x2_S128x14336 i) (k0_pay3 x)) g) := by
  unfold yR
  rw [evenR_gen]
  unfold k0_pay37 k0_pay36 k0_pay35 k0_pay34 k0_pay33
  generalize halfW (k0_pay21 (F := F) w) (k0_pay22 s) = e
  generalize k0_pay31 (k0_pay19 (F := F) w) = n
  generalize k0_pay32 (k0_pay20 s) = s
  generalize aR x = a
  generalize k0_pay3 x = g
  rfl

end

variable (x : FVec Ideal S128x4096 .bf16) (w : IVec S4096x7168 8) (s : FVec Ideal S256x14336 .fp8e4m3) (g : EReal)

/-- A row of sixteens, laid flat. -/
theorem flat_at (v : FVec Ideal S128x256x16 .bf16) (r : Fin 128) (k : Fin 4096) :
    shapeCast S128x4096 v shapeCasts_S128x256x16_S128x4096 (ix2 r k) = v (ix3 r (groupOf k) (inOf k)) := by
  pointwise
  rfl

theorem inPair_of (k : Fin 4096) : inPair (pairOf k) (sideOf k) = k := by
  apply Fin.ext
  simp only [inPair, pairOf, sideOf]
  omega

theorem spread_short_at (v : FVec Ideal S128x256 .bf16) (r : Fin 128) (g : Fin 256) (q : Fin 16) :
    broadcastTo S128x256x16 (shapeCast S128x256x1 v shapeCasts_S128x256_S128x256x1) broadcasts_S128x256x1_S128x256x16 (ix3 r g q)
      = v (ix2 r g) := by
  pointwise

theorem aR_at (r : Fin 128) (k : Fin 4096) : aR (F := Ideal) x (ix2 r k) = opOf x r k := by
  rw [aR_gen, flat_at, spread_short_at, unpack_at _ (fun i => by idx_vars i; rw [codesR_at]; exact code1_lt _), inGroup_of, codesR_at, inPair_of, short1_eq,
    show ∀ (v : FVec Ideal S128x256 .fp8e4m3) i, extf .bf16 v bitsLt_fp8e4m3_bf16 i = v i from fun _ _ => rfl, pay4_at]
  rfl

theorem halfW_at (n : IVec S4096x7168 32) (t : FVec Ideal S256x7168 .fp8e4m3) (k : Fin 4096) (j : Fin 7168) :
    halfW n t (ix2 k j) = val1 (F := Ideal) (n (ix2 k j)) * t (ix2 (groupOf k) j) := by
  rw [← short1_eq]
  unfold halfW
  have e1 (v : FVec Ideal S256x16x7168 .bf16) : shapeCast S4096x7168 v shapeCasts_S256x16x7168_S4096x7168 (ix2 k j) = v (ix3 (groupOf k) (inOf k) j) := by
    pointwise
    rfl
  have e2 (v : FVec Ideal S4096x7168 .bf16) : shapeCast S256x16x7168 v shapeCasts_S4096x7168_S256x16x7168 (ix3 (groupOf k) (inOf k) j) = v (ix2 k j) := by
    pointwise
    congr 2
    exact inGroup_of k
  have e3 (v : FVec Ideal S256x7168 .bf16) : broadcastTo S256x16x7168 (shapeCast S256x1x7168 v shapeCasts_S256x7168_S256x1x7168)
      broadcasts_S256x1x7168_S256x16x7168 (ix3 (groupOf k) (inOf k) j) = v (ix2 (groupOf k) j) := by
    pointwise
  rw [e1, e2, e3]
  rfl

/-- The code of one of the two columns a byte holds. -/
def nib (p : Fin 2) (b : BitVec 8) : BitVec 32 :=
  if p = 0 then IntOp.andi (BitVec.setWidth 32 b) 15#32 else IntOp.shrsi .vector (BitVec.setWidth 32 b) 4#32

/-- Column `p` of pair `j`. -/
def colPair (j : Fin 7168) (p : Fin 2) : Fin 14336 := ⟨j.val * 2 + p.val, by omega⟩
def colOf (n : Fin 14336) : Fin 7168 := ⟨n.val / 2, by omega⟩
def colSide (n : Fin 14336) : Fin 2 := ⟨n.val % 2, by omega⟩

/-- An entry of the right operand. -/
def wtOf (k : Fin 4096) (j : Fin 7168) (p : Fin 2) : EReal :=
  val1 (F := Ideal) (nib p (w (ix2 k j))) * s (ix2 (groupOf k) (colPair j p))

theorem even_at (k : Fin 4096) (j : Fin 7168) : halfW (F := Ideal) (k0_pay21 (F := Ideal) w) (k0_pay22 s) (ix2 k j) = wtOf w s k j 0 := by
  have e : k0_pay22 s (ix2 (groupOf k) j) = s (ix2 (groupOf k) (colPair j 0)) := by
    unfold k0_pay22 k0_pay20
    pointwise
    rfl
  rw [halfW_at, e]
  rfl

theorem odd_at (k : Fin 4096) (j : Fin 7168) :
    halfW (F := Ideal) (k0_pay31 (k0_pay19 (F := Ideal) w)) (k0_pay32 (k0_pay20 s)) (ix2 k j) = wtOf w s k j 1 := by
  have e : k0_pay32 (k0_pay20 s) (ix2 (groupOf k) j) = s (ix2 (groupOf k) (colPair j 1)) := by
    unfold k0_pay32 k0_pay20
    pointwise
    rfl
  rw [halfW_at, e]
  rfl

/-- A row by a column. -/
def dotOf (r : Fin 128) (j : Fin 7168) (p : Fin 2) : EReal := ∑ k : Fin 4096, opOf x r k * wtOf w s k j p

theorem product_at (a : FVec Ideal S128x4096 .bf16) (b : FVec Ideal S4096x7168 .bf16) (r : Fin 128) (j : Fin 7168) :
    matmul dot_S128x4096_S4096x7168_S128x7168_1_0_0_1_n_n none a b (constant S128x7168 .f32 0x00000000#32) (ix2 r j)
      = ∑ k : Fin 4096, a (ix2 r k) * b (ix2 k j) := by
  pointwise

theorem zip_at (a b : FVec Ideal S128x7168 .f32) (r : Fin 128) (j : Fin 7168) (p : Fin 2) :
    shapeCast S128x14336 (concatenate S128x7168x2 2 [⟨S128x7168x1, shapeCast S128x7168x1 a shapeCasts_S128x7168_S128x7168x1⟩,
      ⟨S128x7168x1, shapeCast S128x7168x1 b shapeCasts_S128x7168_S128x7168x1⟩]
      concatenates_S128x7168x1_S128x7168x1_S128x7168x2_d2) shapeCasts_S128x7168x2_S128x14336 (ix2 r (colPair j p))
      = if p = 0 then a (ix2 r j) else b (ix2 r j) := by
  pointwise
  have e : (⟨(colPair j p).val / 2, by omega⟩ : Fin 7168) = j := Fin.ext (by simp only [colPair]; omega)
  have c : (colPair j p).val % 2 < 1 ↔ p = 0 := by simp only [colPair, Fin.ext_iff, Fin.val_zero]; omega
  by_cases h : (colPair j p).val % 2 < 1
  · rw [dif_pos h, if_pos (c.1 h)]
    exact congrArg (fun t => a (ix2 r t)) e
  · rw [dif_neg h, if_neg fun h' => h (c.2 h')]
    exact congrArg (fun t => b (ix2 r t)) e

theorem yR_at (r : Fin 128) (j : Fin 7168) (p : Fin 2) :
    yR (F := Ideal) x w s g (ix2 r (colPair j p)) = dotOf x w s r j p * gOf x * g := by
  rw [yR_gen, zip_at, product_at, product_at, pay3_eq]
  simp only [aR_at, even_at, odd_at]
  fin_cases p
  · rfl
  · rfl

end Cert.Proof.Value
-- ==== Proof.KerLanes.lean ====
/- The kernel's lane operations, read at an index. -/
module

public import proofs.«01_k».proof.Proof.Settled
public import proofs.«01_k».proof.Proof.RefOps

@[expose] public section

set_option maxRecDepth 16384

noncomputable section

namespace Cert.Proof.Value

open Cert.KernelIdeal Cert.Proof.KernelIdeal
open Idealize.ShloMosaic
open Shapes1.Facts₀ Shapes2.Facts₀ K0.Facts₀ Facts₀ Facts

/-! ## Gathers -/

/-- The lane an index word names: a negative word counts from the end. -/
def wrapped (b : BitVec 32) : BitVec 32 := Scalar.select (IntOp.cmpi .slt b 0#32) (IntOp.addi b 128#32) b
def laneAt (b : BitVec 32) : Fin 128 := ⟨(wrapped b).toNat % 128, Nat.mod_lt _ (by decide)⟩

section
variable {α : Type}

theorem wrap_at {s s' : Shape} (h : s.ShapeCasts s') (h' : s'.ShapeCasts s) (idx : IVec s 32) (i : s.Idx) :
    wrapIdx s' h h' idx i = wrapped (idx i) := by
  unfold wrapIdx
  rw [show ∀ (v : IVec s 32), shapeCast s (shapeCast s' v h) h' = v from fun v => by
    funext i
    unfold shapeCast
    rw [Shape.reshapeEquiv_reshapeEquiv, Shape.reshapeEquiv_self]]
  rfl

theorem gather128_at (v : S128x128.Idx → α) (idx : IVec S128x128 32) (r l : Fin 128) :
    gather128 v idx (ix2 r l) = v (ix2 r (laneAt (idx (ix2 r l)))) := by
  unfold gather128 dynamicGather
  congr 1
  funext b
  fin_cases b
  · rfl
  · apply Fin.ext
    show (wrapIdx _ _ _ idx (ix2 r l)).toNat % 128 = _
    rw [wrap_at]
    rfl

theorem gather256_at (v : S256x128.Idx → α) (idx : IVec S256x128 32) (r : Fin 256) (l : Fin 128) :
    gather256 v idx (ix2 r l) = v (ix2 r (laneAt (idx (ix2 r l)))) := by
  unfold gather256 dynamicGather
  congr 1
  funext b
  fin_cases b
  · rfl
  · apply Fin.ext
    show (wrapIdx _ _ _ idx (ix2 r l)).toNat % 128 = _
    rw [wrap_at]
    rfl

theorem gather32_at (v : S32x128.Idx → α) (idx : IVec S32x128 32) (r : Fin 32) (l : Fin 128) :
    gather32 v idx (ix2 r l) = v (ix2 r (laneAt (idx (ix2 r l)))) := by
  unfold gather32 dynamicGather
  congr 1
  funext b
  fin_cases b
  · rfl
  · apply Fin.ext
    show (wrapIdx _ _ _ idx (ix2 r l)).toNat % 128 = _
    rw [wrap_at]
    rfl

end

/-! ## Lane numbers -/

/-- A lane's number as a word. -/
abbrev word (l : Fin 128) : BitVec 32 := BitVec.ofNat 32 l.val

theorem lane128_at (r l : Fin 128) : lane128 (ix2 r l) = word l := by
  unfold lane128 iota
  simp [List.foldl]

theorem lane256_at (r : Fin 256) (l : Fin 128) : lane256 (ix2 r l) = word l := by
  unfold lane256 iota
  simp [List.foldl]

theorem lane32_at (r : Fin 32) (l : Fin 128) : lane32 (ix2 r l) = word l := by
  unfold lane32 iota
  simp [List.foldl]

/-- A lane's number divided, as the kernel divides it. -/
def wordDiv (d n : BitVec 32) : BitVec 32 :=
  let q := IntOp.divsi .vector n d
  let sgn := IntOp.subi ((IntOp.cmpi .sgt n 0#32).setWidth 32) ((IntOp.cmpi .slt n 0#32).setWidth 32)
  let sgnd := Scalar.subi (Scalar.extui (Scalar.cmpi .sgt d 0#32)) (Scalar.extui (Scalar.cmpi .slt d 0#32))
  Scalar.select (IntOp.andi (IntOp.cmpi .ne sgn sgnd) (IntOp.cmpi .ne (IntOp.remsi .vector n d) 0#32)) (IntOp.subi q 1#32) q

theorem laneDiv_at (d : BitVec 32) (r l : Fin 128) : laneDiv d (ix2 r l) = wordDiv d (word l) := by
  rw [← lane128_at r l]
  rfl

theorem div8 : ∀ l : Fin 128, wordDiv 8#32 (word l) = BitVec.ofNat 32 (l.val / 8) := by decide +kernel
theorem div16 : ∀ l : Fin 128, wordDiv 16#32 (word l) = BitVec.ofNat 32 (l.val / 16) := by decide +kernel

theorem laneAt_small : ∀ n : Fin 128, laneAt (BitVec.ofNat 32 n.val) = n := by decide +kernel

/-! ## Greatest magnitudes -/

/-- The lane whose number differs in the bits of `b`. -/
def flip (b : BitVec 32) (l : Fin 128) : Fin 128 := laneAt (IntOp.xori (word l) b)

theorem exchange_at (b : BitVec 32) (x : FVec Ideal S128x128 .bf16) (r l : Fin 128) :
    exchange b x (ix2 r l) = max (x (ix2 r l)) (x (ix2 r (flip b l))) := by
  have e : gather128 (extf .f32 x bitsLt_bf16_f32) (xori lane128 (broadcast S128x128 b)) (ix2 r l) = x (ix2 r (flip b l)) := by
    rw [gather128_at]
    show x (ix2 r (laneAt (IntOp.xori (lane128 (ix2 r l)) b))) = _
    rw [lane128_at]
    rfl
  rw [← e]
  rfl

/-- Lane `q` of the sixteen of group `m`. -/
def lane16 (m : Fin 8) (q : Fin 16) : Fin 128 := ⟨m.val * 16 + q.val, by omega⟩

theorem flips : ∀ m : Fin 8, ∀ q : Fin 16, flip 1#32 (lane16 m q) = lane16 m ⟨q.val ^^^ 1, by revert q; decide⟩ ∧
    flip 2#32 (lane16 m q) = lane16 m ⟨q.val ^^^ 2, by revert q; decide⟩ ∧
    flip 4#32 (lane16 m q) = lane16 m ⟨q.val ^^^ 4, by revert q; decide⟩ ∧
    flip 8#32 (lane16 m q) = lane16 m ⟨q.val ^^^ 8, by revert q; decide⟩ := by decide +kernel

theorem groupMax_at (x : FVec Ideal S128x128 .bf16) (r : Fin 128) (m : Fin 8) :
    groupMax x (ix2 r (lane16 m 0)) = Finset.univ.fold max ⊥ fun q : Fin 16 => x (ix2 r (lane16 m q)) := by
  refine eq_of_forall_ge_iff fun t => ?_
  rw [Finset.fold_max_le]
  unfold groupMax
  simp only [exchange_at, (flips m _).1, (flips m _).2.1, (flips m _).2.2.1, (flips m _).2.2.2, max_le_iff, bot_le, true_and,
    Finset.mem_univ, forall_const]
  generalize hf : (fun q => x (ix2 r (lane16 m q))) = f
  have hf' (q : Fin 16) : x (ix2 r (lane16 m q)) = f q := congrFun hf q
  simp only [hf']
  constructor
  · intro h q
    simp only [and_assoc] at h
    obtain ⟨h0, h1, h2, h3, h4, h5, h6, h7, h8, h9, h10, h11, h12, h13, h14, h15⟩ := h
    fin_cases q <;> assumption
  · intro h
    simp only [h, and_self]

/-! ## A half's groups -/

theorem word_eq (a b : Nat) (ha : a < 128) (hb : b < 128) : BitVec.ofNat 32 a = BitVec.ofNat 32 b ↔ a = b := by
  constructor
  · intro h
    have := congrArg BitVec.toNat h
    simp only [BitVec.toNat_ofNat] at this
    omega
  · rintro rfl
    rfl

theorem seven : ∀ l : Fin 128, laneAt (IntOp.muli (IntOp.andi (word l) 7#32) 16#32) = lane16 ⟨l.val % 8, by omega⟩ 0 := by decide +kernel

theorem putMax_at (i : Nat) (hi : i < 16) (x : FVec Ideal S128x128 .bf16) (acc : FVec Ideal S128x128 .f32) (r l : Fin 128) :
    putMax i x acc (ix2 r l) = if l.val / 8 = i then groupMax (absf x) (ix2 r (lane16 ⟨l.val % 8, by omega⟩ 0)) else acc (ix2 r l) := by
  have e : gather128 (extf .f32 (groupMax (absf x)) bitsLt_bf16_f32)
      (muli (andi lane128 (broadcast S128x128 7#32)) (broadcast S128x128 16#32)) (ix2 r l)
      = groupMax (absf x) (ix2 r (lane16 ⟨l.val % 8, by omega⟩ 0)) := by
    rw [gather128_at]
    show groupMax (absf x) (ix2 r (laneAt (IntOp.muli (IntOp.andi (lane128 (ix2 r l)) 7#32) 16#32))) = _
    rw [lane128_at, seven]
  have c : cmpi .eq (laneDiv 8#32) (broadcast S128x128 (BitVec.ofNat 32 i)) (ix2 r l) = BitVec.ofBool (decide (l.val / 8 = i)) := by
    show IntOp.cmpi .eq (laneDiv 8#32 (ix2 r l)) (BitVec.ofNat 32 i) = _
    rw [laneDiv_at, div8]
    unfold IntOp.cmpi
    have := word_eq (l.val / 8) i (by omega) (by omega)
    by_cases h : l.val / 8 = i
    · simp [h]
    · have h' : BitVec.ofNat 32 (l.val / 8) ≠ BitVec.ofNat 32 i := fun h' => h (this.1 h')
      rw [decide_eq_false h]
      exact congrArg BitVec.ofBool (beq_eq_false_iff_ne.2 h')
  unfold putMax
  show Scalar.select (cmpi .eq (laneDiv 8#32) (broadcast S128x128 (BitVec.ofNat 32 i)) (ix2 r l)) (gather128 _ _ (ix2 r l)) (acc (ix2 r l)) = _
  rw [c, e]
  by_cases h : l.val / 8 = i
  · rw [if_pos h]
    simp [h, Scalar.select]
  · rw [if_neg h]
    simp [h, Scalar.select]

theorem halfMax_at (x : Nat → FVec Ideal S128x128 .bf16) (r l : Fin 128) : ∀ n, n ≤ 16 → l.val / 8 < n →
    halfMax x n (ix2 r l) = groupMax (absf (x (l.val / 8))) (ix2 r (lane16 ⟨l.val % 8, by omega⟩ 0))
  | 0, _, h => absurd h (Nat.not_lt_zero _)
  | n + 1, hn, h => by
    rw [halfMax, putMax_at n (by omega)]
    by_cases e : l.val / 8 = n
    · rw [if_pos e, e]
    · rw [if_neg e]
      exact halfMax_at x r l n (by omega) (by omega)

/-! ## The chunks -/

section
variable {F : FTy → Type} [FloatOps F]

theorem nth_rest (d : FVec F S128x128 .bf16) (X : FVec F S128x4096 .bf16) : ∀ (n : Nat) (h : n ≤ 32) (i : Nat) (hi : i < n),
    nth d (restX X n h) i = chunkX X ⟨32 - n + i, by omega⟩
  | 0, _, _, hi => absurd hi (Nat.not_lt_zero _)
  | n + 1, h, 0, _ => by
    rw [restX, nth]
    exact congrArg (chunkX X) (Fin.ext (by show 31 - n = 32 - (n + 1) + 0; omega))
  | n + 1, h, i + 1, hi => by
    rw [restX, nth, nth_rest d X n _ i (by omega)]
    exact congrArg (chunkX X) (Fin.ext (by show 32 - n + i = 32 - (n + 1) + (i + 1); omega))

theorem halfX_eq (X : FVec F S128x4096 .bf16) (h : Fin 2) (i : Nat) (hi : i < 16) :
    halfX X h i = chunkX X ⟨16 * h.val + i, by omega⟩ := by
  unfold halfX halfOf
  suffices ∀ j (hj : j < 32), nth (chunkX X 0) (chunkX X 0 :: restX X 31 (by decide)) j = chunkX X ⟨j, hj⟩ from this _ _
  intro j hj
  rcases j with _ | j
  · rw [nth]
    rfl
  · rw [nth, nth_rest _ _ _ _ _ (by omega)]
    exact congrArg (chunkX X) (Fin.ext (by show 32 - 31 + j = j + 1; omega))

end

variable (X : FVec Ideal S128x4096 .bf16)

theorem chunk_at (c : Fin 32) (r l : Fin 128) : chunkX X c (ix2 r l) = X (ix2 r ⟨128 * c.val + l.val, by omega⟩) := by
  unfold chunkX
  congr 1
  funext b
  apply Fin.ext
  match b with
  | 0 => exact rCols_row _ _
  | 1 => exact rCols_col _ _

/-- Group `l` of half `h`. -/
def groupIn (h : Fin 2) (l : Fin 128) : Fin 256 := ⟨128 * h.val + l.val, by omega⟩

theorem halfMax_eq (h : Fin 2) (r l : Fin 128) : halfMax (halfX X h) 16 (ix2 r l) = gmax X r (groupIn h l) := by
  rw [halfMax_at _ _ _ _ (by omega) (by omega), groupMax_at, halfX_eq _ _ _ (by omega)]
  unfold gmax
  refine congrArg (fun f => Finset.univ.fold max ⊥ f) (funext fun q => ?_)
  show mag (chunkX X _ (ix2 r (lane16 _ q))) = _
  rw [chunk_at]
  congr 3
  apply Fin.ext
  simp only [lane16, inGroup, groupIn]
  omega

end Cert.Proof.Value
-- ==== Proof.KerCodes.lean ====
/- The kernel's scales, codes and left operand are those of the statement. -/
module

public import proofs.«01_k».proof.Proof.KerLanes

@[expose] public section

set_option maxRecDepth 16384

noncomputable section

namespace Cert.Proof.Value

open Cert.KernelIdeal Cert.Proof.KernelIdeal
open Idealize.ShloMosaic
open Shapes1.Facts₀ Shapes2.Facts₀ K0.Facts₀ Facts₀ Facts

/-! ## Entry by entry -/

section
variable {F : FTy → Type} [FloatOps F]

/-- The greatest of a tile. -/
abbrev tileMax (v : FVec F S128x128 .f32) : F .f32 := extractAt ![0, 0, 0] (shapeCast S1x1x1 (multiReduction (F := F) (φ := .f32) .maximumf [1, 2] S1
    (shapeCast S1x128x128 v shapeCasts_S128x128_S1x128x128) 0xFF800000#32
    reduces_S1x128x128_S1 (.inl rfl) rfl) shapeCasts_S1_S1x1x1) inpos_S1x1x1_p0_0_0

/-- The lane-wise greatest magnitudes of the chunks. -/
def magMax (x0 : FVec F S128x128 .bf16) (xs : List (FVec F S128x128 .bf16)) : FVec F S128x128 .bf16 :=
  xs.foldl (fun m c => maximumf m (absf c)) (absf x0)

theorem xglobal_gen (x0 : FVec F S128x128 .bf16) (xs : List (FVec F S128x128 .bf16)) :
    xglobal x0 xs = glob1 (tileMax (extf .f32 (magMax x0 xs) bitsLt_bf16_f32)) := by
  unfold xglobal
  rw [show xs.foldl (fun m c => maximumf m (absf c)) (absf x0) = magMax x0 xs from rfl]
  generalize magMax x0 xs = m
  rfl

theorem scaleOf_gen (xg : F .f32) (a : FVec F S128x128 .f32) (i : S128x128.Idx) :
    scaleOf xg a i = FloatOps.truncf .fp8e4m3 bitsLt_fp8e4m3_f32 (scale1 xg (a i)) := rfl

theorem rdenom_gen (xg : F .f32) (sf : FVec F S128x128 .f32) (i : S128x128.Idx) :
    rdenom xg sf i = FloatOps.divf (lt 0x3F800000#32) (den1 xg (sf i)) := rfl

/-- A number held to the range of the format. -/
def clip1 (v : F .f32) : F .f32 :=
  Scalar.select (FloatOps.cmpf .oeq v (lt 0x00000000#32)) (lt 0x00000000#32)
    (FloatOps.minimumf (lt 0x40C00000#32) (FloatOps.maximumf (lt 0xC0C00000#32) v))

/-- The same count, from a zero. -/
def tally0 (c1 c2 c3 c4 c5 c6 c7 c8 : BitVec 1) : BitVec 32 :=
  let n := IntOp.addi (IntOp.addi (IntOp.addi (IntOp.addi (IntOp.addi (IntOp.addi (IntOp.addi 0#32 (step c1)) (step c2)) (step c3)) (step c4))
    (step c5)) (step c6)) (step c7)
  Scalar.select c8 (IntOp.addi n 8#32) n

theorem tally0_eq (c1 c2 c3 c4 c5 c6 c7 c8 : BitVec 1) : tally0 c1 c2 c3 c4 c5 c6 c7 c8 = tally c1 c2 c3 c4 c5 c6 c7 c8 := by
  unfold tally0 tally
  rw [show IntOp.addi 0#32 (step c1) = step c1 from BitVec.zero_add _]

theorem code_gen (v : FVec F S128x128 .f32) (i : S128x128.Idx) : code v i = code1 (v i) := by
  unfold code1 codeAbs
  rw [← tally0_eq]
  rfl

theorem chunkCode_gen (i : Nat) (xg : F .f32) (sf : FVec F S128x128 .f32) (x : FVec F S128x128 .bf16) (j : S128x128.Idx) :
    chunkCode i xg sf x j = code1 (clip1 (FloatOps.mulf (FloatOps.extf .f32 bitsLt_bf16_f32 (x j)) (gather128 (rdenom xg sf) (groupLane i) j))) := by
  unfold chunkCode
  generalize gather128 (rdenom xg sf) (groupLane i) = d
  rw [code_gen]
  rfl

theorem value_gen {s : Shape} (c : IVec s 32) (i : s.Idx) : value (F := F) c i = FloatOps.truncf .bf16 bitsLt_bf16_f32 (val1 (c i)) := rfl

theorem chunkA_gen (i : Nat) (xg : F .f32) (sf : FVec F S128x128 .f32) (x : FVec F S128x128 .bf16) (j : S128x128.Idx) :
    chunkA i xg sf x j = FloatOps.mulf (FloatOps.truncf .bf16 bitsLt_bf16_f32 (val1 (chunkCode i xg sf x j)))
      (FloatOps.truncf .bf16 bitsLt_bf16_f32 (gather128 sf (groupLane i) j)) := by
  unfold chunkA
  rw [← value_gen]
  rfl

end

/-! ## Holding a number to the range does not change its code -/

theorem cmp_gt (a b : EReal) : FloatOps.cmpf (F := Ideal) (φ := .f32) .ogt a b = BitVec.ofBool (decide (b < a)) := rfl
theorem cmp_ge (a b : EReal) : FloatOps.cmpf (F := Ideal) (φ := .f32) .oge a b = BitVec.ofBool (decide (b ≤ a)) := rfl
theorem cmp_lt (a b : EReal) : FloatOps.cmpf (F := Ideal) (φ := .f32) .olt a b = BitVec.ofBool (decide (a < b)) := rfl
theorem cmp_eq (a b : EReal) : FloatOps.cmpf (F := Ideal) (φ := .f32) .oeq a b = BitVec.ofBool (decide (a = b)) := rfl

theorem lit_zero : lit 0x00000000#32 = 0 := by
  simp [Ideal.ofBits, Ideal.ieee, -EReal.coe_mul]
theorem lit_one : lit 0x3F800000#32 = 1 := by
  simp [Ideal.ofBits, Ideal.ieee, -EReal.coe_mul]; norm_num

/-- A number held between `-6` and `6`. -/
abbrev held (v : EReal) : EReal := min (((6 : ℝ) : EReal)) (max (((-6 : ℝ) : EReal)) v)

theorem clip1_eq (v : EReal) : clip1 (F := Ideal) v = held v := by
  unfold clip1
  rw [cmp_eq, show lt (F := Ideal) 0x00000000#32 = (0 : EReal) from lit_zero, show lt (F := Ideal) 0x40C00000#32 = ((6 : ℝ) : EReal) from lit_six,
    show lt (F := Ideal) 0xC0C00000#32 = ((-6 : ℝ) : EReal) from lit_negsix]
  by_cases h : v = 0
  · subst h
    simp only [decide_true, Scalar.select]
    symm
    show min _ _ = (0 : EReal)
    rw [max_eq_right (by exact_mod_cast (by norm_num : (-6 : ℝ) ≤ 0)), min_eq_right (by exact_mod_cast (by norm_num : (0 : ℝ) ≤ 6))]
  · rw [decide_eq_false h]
    rfl

theorem held_gt (t : ℝ) (h0 : 0 < t) (h6 : t < 6) (v : EReal) : ((t : EReal) < max (held v) (-held v)) ↔ (t : EReal) < max v (-v) := by
  have a1 : (t : EReal) < ((6 : ℝ) : EReal) := by exact_mod_cast h6
  have a2 : ¬ (t : EReal) < ((-6 : ℝ) : EReal) := by rw [EReal.coe_lt_coe_iff]; linarith
  have a3 : ¬ (((6 : ℝ) : EReal) < ((-t : ℝ) : EReal)) := by rw [EReal.coe_lt_coe_iff]; linarith
  have a4 : ((-6 : ℝ) : EReal) < ((-t : ℝ) : EReal) := by rw [EReal.coe_lt_coe_iff]; linarith
  have n (w : EReal) : (t : EReal) < -w ↔ w < ((-t : ℝ) : EReal) := by rw [EReal.lt_neg_comm, EReal.coe_neg]
  rw [lt_max_iff, lt_max_iff, n, n]
  simp only [held, lt_min_iff, lt_max_iff, min_lt_iff, max_lt_iff, a1, a2, a3, a4, true_and, false_or]

theorem held_ge (t : ℝ) (h0 : 0 < t) (h6 : t < 6) (v : EReal) : ((t : EReal) ≤ max (held v) (-held v)) ↔ (t : EReal) ≤ max v (-v) := by
  have a1 : (t : EReal) ≤ ((6 : ℝ) : EReal) := by exact_mod_cast h6.le
  have a2 : ¬ (t : EReal) ≤ ((-6 : ℝ) : EReal) := by rw [EReal.coe_le_coe_iff]; linarith
  have a3 : ¬ (((6 : ℝ) : EReal) ≤ ((-t : ℝ) : EReal)) := by rw [EReal.coe_le_coe_iff]; linarith
  have a4 : ((-6 : ℝ) : EReal) ≤ ((-t : ℝ) : EReal) := by rw [EReal.coe_le_coe_iff]; linarith
  have n (w : EReal) : (t : EReal) ≤ -w ↔ w ≤ ((-t : ℝ) : EReal) := by rw [← EReal.neg_le_neg_iff, neg_neg, EReal.coe_neg]
  rw [le_max_iff, le_max_iff, n, n]
  simp only [held, le_min_iff, le_max_iff, min_le_iff, max_le_iff, a1, a2, a3, a4, true_and, false_or]

theorem held_neg (v : EReal) : held v < 0 ↔ v < 0 := by
  have a1 : ¬ ((6 : ℝ) : EReal) < 0 := by rw [← EReal.coe_zero, EReal.coe_lt_coe_iff]; norm_num
  have a2 : ((-6 : ℝ) : EReal) < 0 := by rw [← EReal.coe_zero, EReal.coe_lt_coe_iff]; norm_num
  simp only [held, min_lt_iff, max_lt_iff, a1, a2, true_and, false_or]

theorem code_held (v : EReal) : code1 (F := Ideal) (held v) = code1 (F := Ideal) v := by
  have e (w : EReal) : code1 (F := Ideal) w = tally
      (BitVec.ofBool (decide (((1/4 : ℝ) : EReal) < max w (-w)))) (BitVec.ofBool (decide (((3/4 : ℝ) : EReal) ≤ max w (-w))))
      (BitVec.ofBool (decide (((5/4 : ℝ) : EReal) < max w (-w)))) (BitVec.ofBool (decide (((7/4 : ℝ) : EReal) ≤ max w (-w))))
      (BitVec.ofBool (decide (((5/2 : ℝ) : EReal) < max w (-w)))) (BitVec.ofBool (decide (((7/2 : ℝ) : EReal) ≤ max w (-w))))
      (BitVec.ofBool (decide (((5 : ℝ) : EReal) < max w (-w)))) (BitVec.ofBool (decide (w < 0))) := by
    rw [← lit_quarter, ← lit_threeq, ← lit_fiveq, ← lit_sevenq, ← lit_fiveh, ← lit_sevenh, ← lit_five, ← lit_zero]
    rfl
  rw [e, e]
  simp only [held_gt (1/4) (by norm_num) (by norm_num), held_ge (3/4) (by norm_num) (by norm_num), held_gt (5/4) (by norm_num) (by norm_num),
    held_ge (7/4) (by norm_num) (by norm_num), held_gt (5/2) (by norm_num) (by norm_num), held_ge (7/2) (by norm_num) (by norm_num),
    held_gt 5 (by norm_num) (by norm_num), held_neg]

/-! ## What a group is divided by is not zero -/

theorem glob_ne (a : EReal) : glob1 (F := Ideal) a ≠ (0 : EReal) := by
  unfold glob1
  rw [show ∀ b : EReal, Scalar.cmpf (F := Ideal) .ogt a b = BitVec.ofBool (decide (b < a)) from fun _ => rfl,
    show lt (F := Ideal) 0x00000000#32 = (0 : EReal) from lit_zero, show lt (F := Ideal) 0x3F800000#32 = (1 : EReal) from lit_one]
  by_cases h : 0 < a
  · rw [decide_eq_true h]
    show Ideal.div a (lit 0x45280000#32) ≠ 0
    rw [lit_big]
    unfold Ideal.div
    rw [if_neg (by exact_mod_cast (by norm_num : (2688 : ℝ) ≠ 0)), ← EReal.coe_inv]
    exact mul_ne_zero h.ne' (by exact_mod_cast (by norm_num : (2688 : ℝ)⁻¹ ≠ 0))
  · rw [decide_eq_false h]
    exact one_ne_zero

theorem den_ne (a s : EReal) : den1 (F := Ideal) (glob1 (F := Ideal) a) s ≠ (0 : EReal) := by
  unfold den1
  rw [cmp_eq, show lt (F := Ideal) 0x00000000#32 = (0 : EReal) from lit_zero, show lt (F := Ideal) 0x3F800000#32 = (1 : EReal) from lit_one]
  show (Scalar.select _ (1 : EReal) s) * _ ≠ 0
  refine mul_ne_zero ?_ (glob_ne a)
  by_cases h : s = 0
  · rw [decide_eq_true h]
    exact one_ne_zero
  · rw [decide_eq_false h]
    exact h

theorem mul_recip (x d : EReal) (h : d ≠ 0) : x * Ideal.div (lit 0x3F800000#32) d = Ideal.div x d := by
  unfold Ideal.div
  rw [if_neg h, if_neg h, lit_one, one_mul]

/-! ## The global scale -/

section
variable (X : FVec Ideal S128x4096 .bf16)

theorem tileMax_eq (v : FVec Ideal S128x128 .f32) : tileMax v = Finset.univ.fold max ⊥ v := by
  have h1 : ∀ a b : S1.Idx, a = b := fun a b => funext fun k => by
    fin_cases k
    exact Subsingleton.elim (α := Fin 1) _ _
  unfold tileMax extractAt
  generalize hv : shapeCast S1x128x128 v shapeCasts_S128x128_S1x128x128 = w
  refine (multiReduction_maximumf_eq_fold _ _ _ _ _ _).trans ?_
  rw [show (FloatOps.ofBits (F := Ideal) .f32 0xFF800000#32 : EReal) = ⊥ from lit_lowest]
  refine fold_max_congr _ _ _ _ fun b => ?_
  subst hv
  constructor
  · intro h j _
    have := h ((Shape.reshapeEquiv shapeCasts_S128x128_S1x128x128).symm j) (Finset.mem_filter.2 ⟨Finset.mem_univ _, h1 _ _⟩)
    rwa [show shapeCast S1x128x128 v shapeCasts_S128x128_S1x128x128 ((Shape.reshapeEquiv shapeCasts_S128x128_S1x128x128).symm j) = v j from
      congrArg v (Equiv.apply_symm_apply _ _)] at this
  · intro h i _
    exact h _ (Finset.mem_univ _)

theorem magMax_le (t : EReal) (i : S128x128.Idx) : ∀ (xs : List (FVec Ideal S128x128 .bf16)) (a : FVec Ideal S128x128 .bf16),
    (xs.foldl (fun m c => maximumf m (absf c)) a i ≤ t) ↔ a i ≤ t ∧ ∀ c ∈ xs, mag (c i) ≤ t
  | [], a => by simp
  | c :: xs, a => by
    rw [List.foldl_cons, magMax_le t i xs]
    rw [show (maximumf a (absf c) i ≤ t) ↔ (a i ≤ t ∧ mag (c i) ≤ t) from max_le_iff]
    simp only [List.mem_cons, forall_eq_or_imp, and_assoc]

theorem rest_all (P : FVec Ideal S128x128 .bf16 → Prop) : ∀ (n : Nat) (h : n ≤ 32),
    (∀ c ∈ restX X n h, P c) ↔ ∀ i : Fin 32, 32 - n ≤ i.val → P (chunkX X i)
  | 0, h => by
    rw [restX]
    exact ⟨fun _ i hi => absurd i.isLt (by omega), fun _ c hc => absurd hc (by simp)⟩
  | n + 1, h => by
    rw [restX, List.forall_mem_cons, rest_all P n]
    constructor
    · rintro ⟨h0, h1⟩ i hi
      by_cases e : i.val = 31 - n
      · rwa [show i = ⟨31 - n, by omega⟩ from Fin.ext e]
      · exact h1 i (by omega)
    · intro h'
      exact ⟨h' _ (by show 32 - (n + 1) ≤ 31 - n; omega), fun i hi => h' i (by omega)⟩

theorem xg_eq : xgOf X = gOf X := by
  unfold xgOf gOf amax
  rw [xglobal_gen, tileMax_eq]
  refine congrArg (glob1 (F := Ideal)) (fold_max_congr _ _ _ _ fun t => ?_)
  have key (i : S128x128.Idx) : (magMax (chunkX X 0) (restX X 31 (by decide)) i ≤ t) ↔ ∀ c : Fin 32, mag (chunkX X c i) ≤ t := by
    unfold magMax
    rw [magMax_le, rest_all]
    constructor
    · rintro ⟨h0, h1⟩ c
      by_cases e : c.val = 0
      · rw [show c = 0 from Fin.ext e]
        exact h0
      · exact h1 c (by omega)
    · intro h
      exact ⟨h 0, fun c _ => h c⟩
  constructor
  · intro h j _
    have := (key _).1 (h (inStrip (n := 4096) j) (Finset.mem_univ _))
      ⟨(j 1).val / 128, Nat.div_lt_of_lt_mul (show (j 1).val < 128 * 32 from (j 1).isLt)⟩
    unfold chunkX at this
    rwa [rCols_inStrip] at this
  · intro h i _
    exact (key i).2 fun c => h _ (Finset.mem_univ _)

/-! ## The scales, the codes and the left operand -/

theorem halfScale_at (h : Fin 2) (r l : Fin 128) : halfScale (xgOf X) (halfX X h) (ix2 r l) = scOf X r (groupIn h l) := by
  unfold halfScale
  rw [scaleOf_gen, halfMax_eq, xg_eq]
  rfl

theorem halfScaleF_at (h : Fin 2) (r l : Fin 128) : halfScaleF (xgOf X) (halfX X h) (ix2 r l) = scOf X r (groupIn h l) :=
  halfScale_at X h r l

theorem sOf_at (r : Fin 128) (g : Fin 256) : sOf X (ix2 r g) = scOf X r g := by
  have e : inStrip (n := 256) (ix2 r g) = ix2 r ⟨g.val % 128, Nat.mod_lt _ (by decide)⟩ := by
    funext b
    fin_cases b <;> rfl
  unfold sOf
  rw [e, halfScale_at]
  congr 1
  apply Fin.ext
  exact Nat.div_add_mod _ _

theorem groupLane_at (i : Nat) (hi : i < 16) (r l : Fin 128) : laneAt (groupLane i (ix2 r l)) = ⟨8 * i + l.val / 16, by omega⟩ := by
  have e : groupLane i (ix2 r l) = BitVec.ofNat 32 (8 * i + l.val / 16) := by
    show IntOp.addi (BitVec.ofNat 32 (8 * i)) (laneDiv 16#32 (ix2 r l)) = _
    rw [laneDiv_at, div16]
    exact (BitVec.ofNat_add ..).symm
  rw [e]
  exact laneAt_small ⟨8 * i + l.val / 16, by omega⟩

/-- Entry `l` of chunk `i` of half `h`. -/
def entryIn (h : Fin 2) (i : Nat) (hi : i < 16) (l : Fin 128) : Fin 4096 := ⟨128 * (16 * h.val + i) + l.val, by omega⟩

theorem group_entry (h : Fin 2) (i : Nat) (hi : i < 16) (l : Fin 128) :
    groupIn h ⟨8 * i + l.val / 16, by omega⟩ = groupOf (entryIn h i hi l) := by
  apply Fin.ext
  simp only [groupIn, groupOf, entryIn]
  omega

theorem chunkCode_at (h : Fin 2) (i : Nat) (hi : i < 16) (r l : Fin 128) :
    chunkCode i (xgOf X) (halfScaleF (xgOf X) (halfX X h)) (halfX X h i) (ix2 r l) = cdOf X r (entryIn h i hi l) := by
  rw [chunkCode_gen, clip1_eq, code_held, gather128_at, groupLane_at i hi, rdenom_gen, halfScaleF_at, group_entry h i hi, xg_eq, halfX_eq X h i hi]
  unfold cdOf
  refine congrArg (code1 (F := Ideal)) ?_
  show chunkX X _ (ix2 r l) * Ideal.div (lit 0x3F800000#32) _ = Ideal.div _ _
  rw [chunk_at]
  exact mul_recip _ _ (den_ne _ _)

theorem chunkA_at (h : Fin 2) (i : Nat) (hi : i < 16) (r l : Fin 128) :
    chunkA i (xgOf X) (halfScaleF (xgOf X) (halfX X h)) (halfX X h i) (ix2 r l) = opOf X r (entryIn h i hi l) := by
  rw [chunkA_gen, chunkCode_at X h i hi, gather128_at, groupLane_at i hi, halfScaleF_at, group_entry h i hi]
  rfl

theorem strip_at (r : Fin 128) (k : Fin 4096) : inStrip (n := 4096) (ix2 r k) = ix2 r ⟨k.val % 128, Nat.mod_lt _ (by decide)⟩ := by
  funext b
  fin_cases b <;> rfl

theorem entry_of (k : Fin 4096) : entryIn ⟨k.val / 128 / 16, by omega⟩ (k.val / 128 % 16) (by omega) ⟨k.val % 128, by omega⟩ = k := by
  apply Fin.ext
  simp only [entryIn]
  omega

theorem aOf_at (r : Fin 128) (k : Fin 4096) : aOf X (ix2 r k) = opOf X r k := by
  unfold aOf
  rw [strip_at]
  refine (chunkA_at X ⟨k.val / 128 / 16, by omega⟩ (k.val / 128 % 16) (by omega) r _).trans ?_
  rw [entry_of]

theorem cOf_at (r : Fin 128) (k : Fin 4096) : cOf X (ix2 r k) = BitVec.setWidth 8 (cdOf X r k) := by
  unfold cOf
  rw [strip_at]
  refine (congrArg (BitVec.setWidth 8) (chunkCode_at X ⟨k.val / 128 / 16, by omega⟩ (k.val / 128 % 16) (by omega) r _)).trans ?_
  rw [entry_of]

end

end Cert.Proof.Value
-- ==== Proof.KerPack.lean ====
/- The kernel's packed codes, and the codes of the columns a byte holds, word by word. -/
module

public import proofs.«01_k».proof.Proof.KerCodes
public import Idealize.ShloMosaic.Lib.BitcastFour

@[expose] public section

set_option maxRecDepth 16384

noncomputable section

namespace Cert.Proof.Value

open Cert.KernelIdeal Cert.Proof.KernelIdeal
open Idealize.ShloMosaic
open Shapes1.Facts₀ Shapes2.Facts₀ K0.Facts₀ Facts₀ Facts

/-! ## Four bytes to a word -/

theorem words_bit {R r n : Nat} (x : (⟨2, ![R, n]⟩ : Shape).Idx → BitVec 8) (h : (⟨2, ![R, n]⟩ : Shape).Bitcasts 8 ⟨2, ![r, n]⟩ 32)
    (a : Fin r) (l : Fin n) (q : Nat) (hq : q < 32) (p : Fin R) (hp : p.val = 4 * a.val + q / 8) :
    (bitcast ⟨2, ![r, n]⟩ 32 x h (ix2 a l)).getLsbD q = (x (ix2 p l)).getLsbD (q % 8) :=
  bitcast_8_32_getLsbD_ix2 x h a l q hq p hp

theorem bytes_bit {R r n : Nat} (x : (⟨2, ![r, n]⟩ : Shape).Idx → BitVec 32) (h : (⟨2, ![r, n]⟩ : Shape).Bitcasts 32 ⟨2, ![R, n]⟩ 8)
    (p : Fin R) (l : Fin n) (q : Nat) (hq : q < 8) (a : Fin r) (ha : a.val = p.val / 4) :
    (bitcast ⟨2, ![R, n]⟩ 8 x h (ix2 p l)).getLsbD q = (x (ix2 a l)).getLsbD (8 * (p.val % 4) + q) := by
  rw [bitcast_getLsbD x h _ q hq (by decide)]
  have e1 : (Shape.row ⟨2, ![R, n]⟩ (ix2 p l) * 8 + q) / 32 = a.val := by
    show (p.val * 8 + q) / 32 = a.val
    omega
  have e2 : (Shape.row ⟨2, ![R, n]⟩ (ix2 p l) * 8 + q) % 32 = 8 * (p.val % 4) + q := by
    show (p.val * 8 + q) % 32 = 8 * (p.val % 4) + q
    omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-! ## Every second lane -/

theorem second_lane : ∀ l : Fin 128, ∀ p : Fin 2,
    laneAt (IntOp.addi (IntOp.andi (IntOp.muli 2#32 (word l)) 127#32) (BitVec.ofNat 32 p.val)) = ⟨(2 * l.val + p.val) % 128, by omega⟩ := by
  decide +kernel

theorem first_half : ∀ l : Fin 128, IntOp.cmpi .slt (word l) 64#32 = BitVec.ofBool (decide (l.val < 64)) := by decide +kernel

/-- Lane `p` of pair `l`. -/
def lanePair (l : Fin 128) (p : Fin 2) : Fin 256 := ⟨2 * l.val + p.val, by omega⟩

theorem deinterW_at (w : IVec S32x256 32) (p : Fin 2) (a : Fin 32) (l : Fin 128) :
    deinterW w (BitVec.ofNat 32 p.val) (ix2 a l) = w (ix2 a (lanePair l p)) := by
  have e (v : IVec S32x128 32) : gather32 v (addi (andi (muli (broadcast S32x128 2#32) lane32) (broadcast S32x128 127#32))
      (broadcast S32x128 (BitVec.ofNat 32 p.val))) (ix2 a l) = v (ix2 a ⟨(2 * l.val + p.val) % 128, by omega⟩) := by
    rw [gather32_at]
    show v (ix2 a (laneAt (IntOp.addi (IntOp.andi (IntOp.muli 2#32 (lane32 (ix2 a l))) 127#32) (BitVec.ofNat 32 p.val)))) = _
    rw [lane32_at, second_lane]
  have c : cmpi .slt lane32 (broadcast S32x128 64#32) (ix2 a l) = BitVec.ofBool (decide (l.val < 64)) := by
    show IntOp.cmpi .slt (lane32 (ix2 a l)) 64#32 = _
    rw [lane32_at, first_half]
  unfold deinterW
  show Scalar.select (cmpi .slt lane32 (broadcast S32x128 64#32) (ix2 a l)) (gather32 _ _ (ix2 a l)) (gather32 _ _ (ix2 a l)) = _
  rw [c, e, e]
  have s0 : extractStridedSlice S32x128 ![0, 0] w slices_S32x256_o0_0_S32x128 (ix2 a ⟨(2 * l.val + p.val) % 128, by omega⟩)
      = w (ix2 a ⟨(2 * l.val + p.val) % 128, by omega⟩) := by
    pointwise
  have s1 : extractStridedSlice S32x128 ![0, 128] w slices_S32x256_o0_128_S32x128 (ix2 a ⟨(2 * l.val + p.val) % 128, by omega⟩)
      = w (ix2 a ⟨128 + (2 * l.val + p.val) % 128, by omega⟩) := by
    pointwise
  by_cases h : l.val < 64
  · rw [decide_eq_true h, s0]
    exact congrArg (fun t => w (ix2 a t)) (Fin.ext (by simp only [lanePair]; omega))
  · rw [decide_eq_false h, s1]
    exact congrArg (fun t => w (ix2 a t)) (Fin.ext (by simp only [lanePair]; omega))

/-! ## Packing -/

theorem mask_bit : ∀ n : Fin 32, (252645135#32).getLsbD n.val = decide (n.val % 8 < 4) := by decide +kernel

theorem packed_at (c : IVec S128x256 8) (r l : Fin 128) :
    packed c (ix2 r l) = (c (ix2 r (lanePair l 0)) &&& 15#8) ||| ((c (ix2 r (lanePair l 1)) &&& 15#8) <<< 4) := by
  apply BitVec.eq_of_getLsbD_eq
  intro q hq
  have hr := r.isLt
  unfold packed
  refine (bytes_bit (r := 32) _ bitcasts_S32x128_w32_S128x128_w8 r l q hq ⟨r.val / 4, by omega⟩ rfl).trans ?_
  generalize hw : (bitcast S32x256 32 c bitcasts_S128x256_w8_S32x256_w32 : IVec S32x256 32) = w
  show (IntOp.ori (IntOp.andi (deinterW w (BitVec.ofNat 32 (0 : Fin 2).val) _) 252645135#32)
    (IntOp.shli .vector (IntOp.andi (deinterW w (BitVec.ofNat 32 (1 : Fin 2).val) _) 252645135#32) 4#32)).getLsbD _ = _
  rw [deinterW_at, deinterW_at]
  have b (p : Fin 2) (i : Nat) (hi : i < 8) : (w (ix2 ⟨r.val / 4, by omega⟩ (lanePair l p))).getLsbD (8 * (r.val % 4) + i)
      = (c (ix2 r (lanePair l p))).getLsbD i := by
    rw [← hw]
    refine (words_bit (R := 128) c bitcasts_S128x256_w8_S32x256_w32 _ _ _ (by omega) r (by show r.val = 4 * (r.val / 4) + _; omega)).trans ?_
    congr 1
    omega
  have m (i : Nat) (hi : i < 32) : (252645135#32).getLsbD i = decide (i % 8 < 4) := mask_bit ⟨i, hi⟩
  have m15 : ∀ i : Fin 8, (15#8).getLsbD i.val = decide (i.val < 4) := by decide
  unfold IntOp.ori IntOp.andi IntOp.shli
  rw [if_pos (by decide)]
  simp only [BitVec.getLsbD_or, BitVec.getLsbD_and, BitVec.shiftLeft_eq', BitVec.getLsbD_shiftLeft]
  have z : (252645135#32).getLsbD (8 * (r.val % 4) + q - 4) = decide ((8 * (r.val % 4) + q - 4) % 8 < 4) := m _ (by omega)
  rw [b 0 q hq, m (8 * (r.val % 4) + q) (by omega), show (15#8).getLsbD q = decide (q < 4) from m15 ⟨q, hq⟩,
    show (15#8).getLsbD (q - 4) = decide (q - 4 < 4) from m15 ⟨q - 4, by omega⟩, show (4#32).toNat = 4 from rfl, z,
    show (8 * (r.val % 4) + q) % 8 = q by omega]
  by_cases h : q < 4
  · by_cases h0 : 8 * (r.val % 4) + q < 4
    · simp only [h, h0, decide_true, Bool.not_true, Bool.and_false, Bool.false_and, Bool.and_true]
    · simp only [h, show ¬ (8 * (r.val % 4) + q - 4) % 8 < 4 by omega, decide_true, decide_false, Bool.not_true, Bool.and_false, Bool.false_and]
  · have hb := b 1 (q - 4) (by omega)
    rw [show 8 * (r.val % 4) + q - 4 = 8 * (r.val % 4) + (q - 4) by omega, hb]
    simp only [h, show (8 * (r.val % 4) + (q - 4)) % 8 < 4 by omega, show ¬ 8 * (r.val % 4) + q < 4 by omega, show q - 4 < 4 by omega,
      show 8 * (r.val % 4) + q < 32 by omega, hq, decide_true, decide_false, Bool.and_false, Bool.false_or, Bool.and_true, Bool.true_and]

theorem both_low : ∀ a b : Fin 16, (BitVec.setWidth 8 (BitVec.ofNat 32 a.val) &&& 15#8) ||| ((BitVec.setWidth 8 (BitVec.ofNat 32 b.val) &&& 15#8) <<< 4)
    = BitVec.setWidth 8 (both (BitVec.ofNat 32 a.val) (BitVec.ofNat 32 b.val)) := by decide +kernel

theorem pOf_at (X : FVec Ideal S128x4096 .bf16) (r : Fin 128) (m : Fin 2048) :
    pOf (cOf X) (ix2 r m) = BitVec.setWidth 8 (both (cdOf X r (inPair m 0)) (cdOf X r (inPair m 1))) := by
  have hi : inStrip (n := 2048) (ix2 r m) = ix2 r ⟨m.val % 128, by omega⟩ := by
    funext b
    fin_cases b <;> rfl
  have hc (p : Fin 2) : cOf X ((rPair ⟨m.val / 128, by omega⟩).emb (ix2 r (lanePair ⟨m.val % 128, by omega⟩ p)))
      = BitVec.setWidth 8 (cdOf X r (inPair m p)) := by
    rw [← cOf_at]
    congr 1
    funext b
    apply Fin.ext
    match b with
    | 0 => show 0 + 1 * r.val = r.val; omega
    | 1 => show 256 * (m.val / 128) + 1 * (2 * (m.val % 128) + p.val) = m.val * 2 + p.val; omega
  unfold pOf
  rw [hi]
  refine (packed_at _ r _).trans ?_
  have h0 := code1_lt (FloatOps.divf (F := Ideal) (φ := .f32) (X (ix2 r (inPair m 0))) (den1 (F := Ideal) (gOf X) (scOf X r (groupOf (inPair m 0)))))
  have h1 := code1_lt (FloatOps.divf (F := Ideal) (φ := .f32) (X (ix2 r (inPair m 1))) (den1 (F := Ideal) (gOf X) (scOf X r (groupOf (inPair m 1)))))
  have e (c : BitVec 32) : BitVec.ofNat 32 c.toNat = c := by simp
  have := both_low ⟨_, h0⟩ ⟨_, h1⟩
  simp only [e] at this
  refine Eq.trans ?_ this
  rw [show ∀ a b c d : BitVec 8, a = c → b = d → (a &&& 15#8) ||| ((b &&& 15#8) <<< 4) = (c &&& 15#8) ||| ((d &&& 15#8) <<< 4) from
    fun a b c d h h' => by rw [h, h']]
  · exact hc 0
  · exact hc 1

/-! ## The codes a byte holds -/

theorem highNibble_bit (w : IVec S256x256 8) (k m : Fin 256) (i : Nat) (hi : i < 4) :
    (highNibble w (ix2 k m)).getLsbD i = (w (ix2 k m)).getLsbD (i + 4) := by
  unfold highNibble
  have hk := k.isLt
  refine (bytes_bit (r := 64) _ bitcasts_S64x256_w32_S256x256_w8 k m i (by omega) ⟨k.val / 4, by omega⟩ rfl).trans ?_
  show (IntOp.shrui .vector (bitcast S64x256 32 w bitcasts_S256x256_w8_S64x256_w32 (ix2 ⟨k.val / 4, by omega⟩ m)) 4#32).getLsbD _ = _
  unfold IntOp.shrui
  rw [if_pos (by decide), BitVec.ushiftRight_eq', BitVec.getLsbD_ushiftRight]
  refine (words_bit (R := 256) w bitcasts_S256x256_w8_S64x256_w32 _ _ _ (by show 4 + _ < 32; omega) k (by show k.val = 4 * (k.val / 4) + (4 + (8 * (k.val % 4) + i)) / 8; omega)).trans ?_
  congr 1
  show (4 + (8 * (k.val % 4) + i)) % 8 = i + 4
  omega

theorem high_low : ∀ b : BitVec 8, (IntOp.shrsi .vector (BitVec.setWidth 32 b) 4#32) = BitVec.setWidth 32 (b >>> 4) := by decide +kernel

theorem val1_high (w : IVec S256x256 8) (k m : Fin 256) :
    val1 (F := Ideal) (BitVec.setWidth 32 (highNibble w (ix2 k m))) = val1 (F := Ideal) (nib 1 (w (ix2 k m))) := by
  rw [← val1_low, ← val1_low (nib 1 _)]
  refine congrArg (val1 (F := Ideal)) ?_
  rw [show nib 1 (w (ix2 k m)) = BitVec.setWidth 32 (w (ix2 k m) >>> 4) from high_low _]
  apply BitVec.eq_of_getLsbD_eq
  intro i hi
  have m15 : ∀ i : Fin 32, (15#32).getLsbD i.val = decide (i.val < 4) := by decide
  rw [BitVec.getLsbD_and, BitVec.getLsbD_and, show (15#32).getLsbD i = decide (i < 4) from m15 ⟨i, hi⟩]
  by_cases h : i < 4
  · rw [BitVec.getLsbD_setWidth, BitVec.getLsbD_setWidth, highNibble_bit _ _ _ _ h, BitVec.getLsbD_ushiftRight, Nat.add_comm]
  · rw [decide_eq_false h, Bool.and_false, Bool.and_false]

theorem val1_lowNib (b : BitVec 8) : val1 (F := Ideal) (BitVec.setWidth 32 b) = val1 (F := Ideal) (nib 0 b) :=
  (val1_low _).symm

end Cert.Proof.Value
-- ==== Proof.KerTile.lean ====
/- The kernel's tiles of weights, read at an index. -/
module

public import proofs.«01_k».proof.Proof.Regroup
public import proofs.«01_k».proof.Proof.KerPack

@[expose] public section

set_option maxRecDepth 16384

noncomputable section

namespace Cert.Proof.Value

open Cert.KernelIdeal Cert.Proof.KernelIdeal
open Idealize.ShloMosaic
open Shapes1.Facts₀ Shapes2.Facts₀ K0.Facts₀ Facts₀ Facts

/-! ## The scales of every second column -/

/-- Column `p` of pair `m` of a block. -/
def blockCol (m : Fin 256) (p : Fin 2) : Fin 512 := ⟨2 * m.val + p.val, by omega⟩

theorem deinter_at (w : FVec Ideal S256x512 .f32) (p : Fin 2) (g m : Fin 256) :
    deinter w (BitVec.ofNat 32 p.val) (ix2 g m) = w (ix2 g (blockCol m p)) := by
  have e (v : FVec Ideal S256x128 .f32) (l : Fin 128) : gather256 v (addi (andi (muli (broadcast S256x128 2#32) lane256) (broadcast S256x128 127#32))
      (broadcast S256x128 (BitVec.ofNat 32 p.val))) (ix2 g l) = v (ix2 g ⟨(2 * l.val + p.val) % 128, by omega⟩) := by
    rw [gather256_at]
    show v (ix2 g (laneAt (IntOp.addi (IntOp.andi (IntOp.muli 2#32 (lane256 (ix2 g l))) 127#32) (BitVec.ofNat 32 p.val)))) = _
    rw [lane256_at, second_lane]
  have c (l : Fin 128) : cmpi .slt lane256 (broadcast S256x128 64#32) (ix2 g l) = BitVec.ofBool (decide (l.val < 64)) := by
    show IntOp.cmpi .slt (lane256 (ix2 g l)) 64#32 = _
    rw [lane256_at, first_half]
  have t (a b : FVec Ideal S256x128 .f32) (l : Fin 128) : select (cmpi .slt lane256 (broadcast S256x128 64#32))
      (gather256 a (addi (andi (muli (broadcast S256x128 2#32) lane256) (broadcast S256x128 127#32)) (broadcast S256x128 (BitVec.ofNat 32 p.val))))
      (gather256 b (addi (andi (muli (broadcast S256x128 2#32) lane256) (broadcast S256x128 127#32)) (broadcast S256x128 (BitVec.ofNat 32 p.val)))) (ix2 g l)
      = if l.val < 64 then a (ix2 g ⟨(2 * l.val + p.val) % 128, by omega⟩) else b (ix2 g ⟨(2 * l.val + p.val) % 128, by omega⟩) := by
    show Scalar.select (cmpi .slt lane256 (broadcast S256x128 64#32) (ix2 g l)) (gather256 _ _ (ix2 g l)) (gather256 _ _ (ix2 g l)) = _
    rw [c, e, e]
    by_cases h : l.val < 64
    · rw [decide_eq_true h, if_pos h]
      rfl
    · rw [decide_eq_false h, if_neg h]
      rfl
  have s (o : Nat) (h : S256x512.Slices ![0, o] S256x128) (ho : o + 128 ≤ 512) (l : Fin 128) :
      extractStridedSlice S256x128 ![0, o] w h (ix2 g l) = w (ix2 g ⟨o + l.val, by omega⟩) := by
    unfold extractStridedSlice
    congr 1
    funext b
    apply Fin.ext
    match b with
    | 0 => show 0 + g.val = g.val; omega
    | 1 => rfl
  have j (a b : FVec Ideal S256x128 .f32) : concatenate S256x256 1 [⟨S256x128, a⟩, ⟨S256x128, b⟩] concatenates_S256x128_S256x128_S256x256_d1 (ix2 g m)
      = if h : m.val < 128 then a (ix2 g ⟨m.val, h⟩) else b (ix2 g ⟨m.val - 128, by omega⟩) := by
    pointwise
  unfold deinter
  rw [j]
  by_cases h : m.val < 128
  · rw [dif_pos h, t]
    by_cases h' : m.val < 64
    · rw [if_pos h', s _ _ (by omega)]
      exact congrArg (fun t => w (ix2 g t)) (Fin.ext (by simp only [blockCol]; omega))
    · rw [if_neg h', s _ _ (by omega)]
      exact congrArg (fun t => w (ix2 g t)) (Fin.ext (by simp only [blockCol]; omega))
  · rw [dif_neg h, t]
    by_cases h' : m.val - 128 < 64
    · rw [if_pos h', s _ _ (by omega)]
      exact congrArg (fun t => w (ix2 g t)) (Fin.ext (by simp only [blockCol]; omega))
    · rw [if_neg h', s _ _ (by omega)]
      exact congrArg (fun t => w (ix2 g t)) (Fin.ext (by simp only [blockCol]; omega))

/-- Page `p` of the expanded scales. -/
theorem page_emb (p : Fin 2) (g m : Fin 256) : (rExp p).emb (ix3 (0 : Fin 1) g m) = ix3 p g m := by
  funext b
  apply Fin.ext
  match b with
  | 0 => show p.val + 1 * 0 = p.val; omega
  | 1 => show 0 + 1 * g.val = g.val; omega
  | 2 => show 0 + 1 * m.val = m.val; omega

theorem page_off (g m : Fin 256) : ¬ ∃ x, (rExp 1).emb x = ix3 (0 : Fin 2) g m := by
  rintro ⟨x, hx⟩
  have h0 := congrArg (fun i : S2x256x256.Idx => (i 0).val) hx
  have h1 : 1 + 1 * (x 0).val = 0 := h0
  omega

theorem expanded_at (S : FVec Ideal S256x512 .f32) (p : Fin 2) (g m : Fin 256) : expanded S (ix3 p g m) = S (ix2 g (blockCol m p)) := by
  have l (v : FVec Ideal S256x256 .f32) : shapeCast S1x256x256 v shapeCasts_S256x256_S1x256x256 (ix3 0 g m) = v (ix2 g m) := by
    pointwise
  unfold expanded expOf
  fin_cases p
  · refine (upd_off (F := Ideal) (e := .f32) (rExp 1) _ _ (page_off g m)).trans ?_
    refine (congrArg _ (page_emb 0 g m).symm).trans ?_
    refine (upd_emb (F := Ideal) (e := .f32) (rExp 0) _ _ _).trans ?_
    rw [l]
    exact deinter_at S 0 g m
  · refine (congrArg _ (page_emb 1 g m).symm).trans ?_
    refine (upd_emb (F := Ideal) (e := .f32) (rExp 1) _ _ _).trans ?_
    rw [l]
    exact deinter_at S 1 g m

/-! ## A tile -/

/-- The row of a group of sixteen, and the group. -/
def rowIn (k : Fin 256) : Fin 16 := ⟨k.val % 16, by omega⟩
def rowGroup (k : Fin 256) : Fin 16 := ⟨k.val / 16, by omega⟩

theorem stack_at (f : Nat → FVec Ideal S16x256 .bf16) (k m : Fin 256) : stackRows f (ix2 k m) = f (rowGroup k).val (ix2 (rowIn k) m) := by
  unfold stackRows
  exact concatenate_ofFn_apply (t := S256x256) (s₁ := S16x256) 0 (N := 16) (fun n => f n.val)
    concatenates_S16x256_S16x256_S16x256_S16x256_S16x256_S16x256_S16x256_S16x256_S16x256_S16x256_S16x256_S16x256_S16x256_S16x256_S16x256_S16x256_S256x256_d0
    rfl 16 rfl (ix2 k m) (rowGroup k) rfl (ix2 (rowIn k) m) rfl fun b hb => by
      match b with
      | 0 => exact absurd rfl hb
      | 1 => rfl

theorem nth_rows (d : FVec Ideal S16x256 .bf16) (E : FVec Ideal S2x256x256 .f32) (p : Fin 2) (k : Fin 16) (q : FVec Ideal S256x256 .bf16) :
    ∀ (n : Nat) (h : n ≤ 16) (i : Nat) (hi : i < n), nth d (rowsOf E p k q n h) i
      = scaleRows q ⟨16 - n + i, by omega⟩ (rowVec E p k ⟨16 - n + i, by omega⟩)
  | 0, _, _, hi => absurd hi (Nat.not_lt_zero _)
  | n + 1, h, 0, _ => by
    rw [rowsOf, nth]
    have e : (⟨15 - n, by omega⟩ : Fin 16) = ⟨16 - (n + 1) + 0, by omega⟩ := Fin.ext (by show 15 - n = 16 - (n + 1) + 0; omega)
    rw [e]
  | n + 1, h, i + 1, hi => by
    rw [rowsOf, nth, nth_rows d E p k q n _ i (by omega)]
    have e : (⟨16 - n + i, by omega⟩ : Fin 16) = ⟨16 - (n + 1) + (i + 1), by omega⟩ := Fin.ext (by show 16 - n + i = 16 - (n + 1) + (i + 1); omega)
    rw [e]

theorem rowVec_at (E : FVec Ideal S2x256x256 .f32) (p : Fin 2) (k g : Fin 16) (m : Fin 256) :
    rowVec E p k g (ix3 0 0 m) = E (ix3 p ⟨16 * k.val + g.val, by omega⟩ m) := by
  unfold rowVec
  congr 1
  funext b
  apply Fin.ext
  match b with
  | 0 => show p.val + 1 * 0 = p.val; omega
  | 1 => show 16 * k.val + g.val + 1 * 0 = 16 * k.val + g.val; omega
  | 2 => show 0 + 1 * m.val = m.val; omega

theorem scaleRows_at (q : FVec Ideal S256x256 .bf16) (g a : Fin 16) (v : FVec Ideal S1x1x256 .f32) (m : Fin 256) :
    scaleRows q g v (ix2 a m) = q (ix2 ⟨16 * g.val + a.val, by omega⟩ m) * v (ix3 0 0 m) := by
  have e1 : extractStridedSlice S16x256 ![16 * g.val, 0] q (slices_group g) (ix2 a m) = q (ix2 ⟨16 * g.val + a.val, by omega⟩ m) := by
    unfold extractStridedSlice
    congr 1
    funext b
    apply Fin.ext
    match b with
    | 0 => rfl
    | 1 => show 0 + m.val = m.val; omega
  have e2 : broadcastTo S16x256 (shapeCast S1x256 (shapeCast S1x256 v shapeCasts_S1x1x256_S1x256) shapeCasts_S1x256_S1x256) broadcasts_S1x256_S16x256 (ix2 a m)
      = v (ix3 0 0 m) := by
    pointwise
  rw [← e1, ← e2]
  rfl

theorem tile_at (E : FVec Ideal S2x256x256 .f32) (p : Fin 2) (n : Fin 16) (w : IVec S256x256 8) (k m : Fin 256) :
    tileOf E p n w (ix2 k m) = val1 (F := Ideal) (BitVec.setWidth 32 (w (ix2 k m))) * E (ix3 p ⟨16 * n.val + k.val / 16, by omega⟩ m) := by
  unfold tileOf
  rw [stack_at, nth_rows _ _ _ _ _ _ _ _ (by have := (rowGroup k).isLt; omega), scaleRows_at, rowVec_at]
  have e1 : (⟨16 * (16 - 16 + (rowGroup k).val) + (rowIn k).val, by simp only [rowGroup, rowIn]; omega⟩ : Fin 256) = k := Fin.ext (by
    show 16 * (16 - 16 + k.val / 16) + k.val % 16 = k.val; omega)
  have e2 : (⟨16 * n.val + (16 - 16 + (rowGroup k).val), by simp only [rowGroup]; omega⟩ : Fin 256) = ⟨16 * n.val + k.val / 16, by omega⟩ := Fin.ext (by
    show 16 * n.val + (16 - 16 + k.val / 16) = 16 * n.val + k.val / 16; omega)
  rw [e1, e2]
  rfl

theorem nibbles_at (W : IVec S4096x256 8) (p : Fin 2) (n : Fin 16) (k m : Fin 256) :
    val1 (F := Ideal) (BitVec.setWidth 32 (nibbles W p n (ix2 k m))) = val1 (F := Ideal) (nib p (W (ix2 ⟨256 * n.val + k.val, by omega⟩ m))) := by
  have e : (rK n).emb (ix2 k m) = ix2 ⟨256 * n.val + k.val, by omega⟩ m := by
    funext b
    apply Fin.ext
    match b with
    | 0 => show 256 * n.val + 1 * k.val = 256 * n.val + k.val; omega
    | 1 => show 0 + 1 * m.val = m.val; omega
  rw [← e]
  unfold nibbles
  fin_cases p
  · exact val1_lowNib _
  · exact val1_high (fun y => W ((rK n).emb y)) k m

end Cert.Proof.Value
-- ==== Proof.KerProduct.lean ====
/- The kernel's product, read at an index. -/
module

public import proofs.«01_k».proof.Proof.KerTile
public import proofs.«01_k».proof.Proof.RefOps

@[expose] public section

set_option maxRecDepth 16384

noncomputable section

namespace Cert.Proof.Value

open Cert.KernelIdeal Cert.Proof.KernelIdeal
open Idealize.ShloMosaic
open Shapes1.Facts₀ Shapes2.Facts₀ K0.Facts₀ Facts₀ Facts

/-! ## The sum over the contracted axis, chunk by chunk -/

theorem passOne_at (tile : FVec Ideal S256x256 .bf16) (a : FVec Ideal S128x256 .bf16) (r : Fin 128) (m : Fin 256) :
    passOne tile a (ix2 r m) = ∑ k : Fin 256, a (ix2 r k) * tile (ix2 k m) := by
  show (∑ kk : (DotDims.plain 128 256 256).contr.Idx, a ((DotDims.plain 128 256 256).lhsIdx (ix2 r m) kk) * tile ((DotDims.plain 128 256 256).rhsIdx (ix2 r m) kk)) = _
  rw [(DotDims.plain 128 256 256).sum_contr₁ (a := 1) rfl (K := 256) rfl]
  refine Finset.sum_congr rfl fun k _ => ?_
  have e1 : (DotDims.plain 128 256 256).lhsIdx (ix2 r m) ((DotDims.plain 128 256 256).contrIdx₁ (a := 1) rfl (K := 256) rfl k) = ix2 r k := by
    funext b
    fin_cases b <;> rfl
  have e2 : (DotDims.plain 128 256 256).rhsIdx (ix2 r m) ((DotDims.plain 128 256 256).contrIdx₁ (a := 1) rfl (K := 256) rfl k) = ix2 k m := by
    funext b
    fin_cases b <;> rfl
  rw [e1, e2]

theorem accSum_at (P : Nat → FVec Ideal S128x256 .f32) (i : S128x256.Idx) :
    ∀ n, accSum P (n + 1) i = ∑ k ∈ Finset.range (n + 1), P k i
  | 0 => by rw [Finset.sum_range_one]; rfl
  | n + 1 => by rw [Finset.sum_range_succ, ← accSum_at P i n]; rfl

/-- Place `k` of chunk `n` of the contracted axis. -/
def inChunk (n : Fin 16) (k : Fin 256) : Fin 4096 := ⟨256 * n.val + k.val, by omega⟩

theorem sum_chunks (f : Fin 4096 → EReal) : (∑ n : Fin 16, ∑ k : Fin 256, f (inChunk n k)) = ∑ k : Fin 4096, f k := by
  rw [← Fintype.sum_prod_type' (f := fun n k => f (inChunk n k))]
  refine Fintype.sum_equiv (finProdFinEquiv (m := 16) (n := 256)) _ _ fun x => congrArg f (Fin.ext ?_)
  show 256 * x.1.val + x.2.val = x.2.val + 256 * x.1.val
  omega

theorem chunkProduct_at (a : FVec Ideal S128x4096 .bf16) (E : FVec Ideal S2x256x256 .f32) (W : IVec S4096x256 8) (p : Fin 2) (n : Fin 16)
    (r : Fin 128) (m : Fin 256) :
    productOf a E W p n.val (ix2 r m) = ∑ k : Fin 256, a (ix2 r (inChunk n k))
      * (val1 (F := Ideal) (nib p (W (ix2 (inChunk n k) m))) * E (ix3 p (groupOf (inChunk n k)) m)) := by
  unfold productOf
  rw [dif_pos n.isLt, passOne_at]
  refine Finset.sum_congr rfl fun k _ => ?_
  rw [tile_at, nibbles_at]
  have e1 : (rPairA n).emb (ix2 r k) = ix2 r (inChunk n k) := by
    funext b
    apply Fin.ext
    match b with
    | 0 => show 0 + 1 * r.val = r.val; omega
    | 1 => show 256 * n.val + 1 * k.val = 256 * n.val + k.val; omega
  have e2 : (⟨16 * n.val + k.val / 16, by omega⟩ : Fin 256) = groupOf (inChunk n k) := Fin.ext (by
    show 16 * n.val + k.val / 16 = (256 * n.val + k.val) / 16; omega)
  show a ((rPairA n).emb (ix2 r k)) * _ = _
  rw [e1]
  exact congrArg (fun t => a (ix2 r (inChunk n k)) * (val1 (F := Ideal) (nib p (W (ix2 (inChunk n k) m))) * E (ix3 p t m))) e2

theorem acc_at (a : FVec Ideal S128x4096 .bf16) (E : FVec Ideal S2x256x256 .f32) (W : IVec S4096x256 8) (p : Fin 2) (r : Fin 128) (m : Fin 256) :
    accSum (productOf a E W p) 16 (ix2 r m) = ∑ k : Fin 4096, a (ix2 r k) * (val1 (F := Ideal) (nib p (W (ix2 k m))) * E (ix3 p (groupOf k) m)) := by
  rw [accSum_at, Finset.sum_range, ← sum_chunks]
  exact Finset.sum_congr rfl fun n _ => chunkProduct_at a E W p n r m

/-! ## The columns put back in order -/

theorem even_lane : ∀ l : Fin 128, IntOp.cmpi .eq (IntOp.andi (word l) 1#32) 0#32 = BitVec.ofBool (decide (l.val % 2 = 0)) := by decide

theorem half_lane : ∀ (h : Fin 2) (l : Fin 128), laneAt (IntOp.addi (IntOp.shrsi .vector (word l) 1#32) (BitVec.ofNat 32 (64 * h.val)))
    = ⟨64 * h.val + l.val / 2, by omega⟩ := by decide

theorem quarter_at (e o : FVec Ideal S128x128 .f32) (h : Fin 2) (r l : Fin 128) :
    quarter e o (BitVec.ofNat 32 (64 * h.val)) (ix2 r l)
      = if l.val % 2 = 0 then e (ix2 r ⟨64 * h.val + l.val / 2, by omega⟩) else o (ix2 r ⟨64 * h.val + l.val / 2, by omega⟩) := by
  have g (v : FVec Ideal S128x128 .f32) : gather128 v (addi (shrsi lane128 (broadcast S128x128 1#32)) (broadcast S128x128 (BitVec.ofNat 32 (64 * h.val)))) (ix2 r l)
      = v (ix2 r ⟨64 * h.val + l.val / 2, by omega⟩) := by
    rw [gather128_at]
    show v (ix2 r (laneAt (IntOp.addi (IntOp.shrsi .vector (lane128 (ix2 r l)) 1#32) (BitVec.ofNat 32 (64 * h.val))))) = _
    rw [lane128_at, half_lane]
  have c : cmpi .eq (andi lane128 (broadcast S128x128 1#32)) (broadcast S128x128 0#32) (ix2 r l) = BitVec.ofBool (decide (l.val % 2 = 0)) := by
    show IntOp.cmpi .eq (IntOp.andi (lane128 (ix2 r l)) 1#32) 0#32 = _
    rw [lane128_at, even_lane]
  unfold quarter
  show Scalar.select (cmpi .eq (andi lane128 (broadcast S128x128 1#32)) (broadcast S128x128 0#32) (ix2 r l)) (gather128 e _ (ix2 r l)) (gather128 o _ (ix2 r l)) = _
  rw [c, g, g]
  by_cases h : l.val % 2 = 0
  · rw [decide_eq_true h, if_pos h]
    rfl
  · rw [decide_eq_false h, if_neg h]
    rfl

/-- One of four pieces. -/
def pick4 (a b c d : FVec Ideal S128x128 .f32) : Fin 4 → FVec Ideal S128x128 .f32
  | 0 => a
  | 1 => b
  | 2 => c
  | 3 => d

/-- Column `p` of pair `m`: from `e` if even, from `o` if odd. -/
theorem inter_at (e o : FVec Ideal S128x256 .f32) (r : Fin 128) (m : Fin 256) (p : Fin 2) :
    inter e o (ix2 r (blockCol m p)) = if p.val = 0 then e (ix2 r m) else o (ix2 r m) := by
  have s (v : FVec Ideal S128x256 .f32) (d : Nat) (h : S128x256.Slices ![0, d] S128x128) (hd : d + 128 ≤ 256) (l : Fin 128) :
      extractStridedSlice S128x128 ![0, d] v h (ix2 r l) = v (ix2 r ⟨d + l.val, by omega⟩) := by
    unfold extractStridedSlice
    congr 1
    funext b
    apply Fin.ext
    match b with
    | 0 => show 0 + r.val = r.val; omega
    | 1 => rfl
  have j (a b c d : FVec Ideal S128x128 .f32) (n : Fin 512) :
      concatenate S128x512 1 [⟨S128x128, a⟩, ⟨S128x128, b⟩, ⟨S128x128, c⟩, ⟨S128x128, d⟩] concatenates_S128x128_S128x128_S128x128_S128x128_S128x512_d1 (ix2 r n)
      = pick4 a b c d ⟨n.val / 128, by omega⟩ (ix2 r ⟨n.val % 128, by omega⟩) :=
    concatenate_ofFn_apply (t := S128x512) (s₁ := S128x128) 1 (N := 4) (pick4 a b c d)
      concatenates_S128x128_S128x128_S128x128_S128x128_S128x512_d1 rfl 128 rfl (ix2 r n) ⟨n.val / 128, by omega⟩ rfl (ix2 r ⟨n.val % 128, by omega⟩) rfl
      fun b hb => by
        match b with
        | 0 => rfl
        | 1 => exact absurd rfl hb
  have q (t : Fin 2) (h : Fin 2) (ht : S128x256.Slices ![0, 128 * t.val] S128x128) (l : Fin 128) (hm : m.val = 128 * t.val + 64 * h.val + l.val / 2) (hp : l.val % 2 = p.val) :
      quarter (extractStridedSlice S128x128 ![0, 128 * t.val] e ht) (extractStridedSlice S128x128 ![0, 128 * t.val] o ht) (BitVec.ofNat 32 (64 * h.val)) (ix2 r l)
        = if p.val = 0 then e (ix2 r m) else o (ix2 r m) := by
    rw [quarter_at, s _ _ _ (by omega), s _ _ _ (by omega), hp]
    have em : (⟨128 * t.val + (64 * h.val + l.val / 2), by omega⟩ : Fin 256) = m := Fin.ext (by show 128 * t.val + (64 * h.val + l.val / 2) = m.val; omega)
    rw [em]
  unfold inter
  refine (j _ _ _ _ _).trans ?_
  have hn : (blockCol m p).val = 2 * m.val + p.val := rfl
  generalize hl : (⟨(blockCol m p).val % 128, by omega⟩ : Fin 128) = l
  have hl' : l.val = (2 * m.val + p.val) % 128 := by rw [← hl]; exact congrArg (· % 128) hn
  generalize hk : (⟨(blockCol m p).val / 128, by omega⟩ : Fin 4) = k
  have hk' : k.val = (2 * m.val + p.val) / 128 := by rw [← hk]; exact congrArg (· / 128) hn
  have hm : m.val = 64 * k.val + l.val / 2 := by omega
  have hp : l.val % 2 = p.val := by omega
  match k, hm with
  | 0, hm => exact q 0 0 _ l (by simpa using hm) hp
  | 1, hm => exact q 0 1 _ l (by simpa using hm) hp
  | 2, hm => exact q 1 0 _ l (by simpa using hm) hp
  | 3, hm => exact q 1 1 _ l (by simpa using hm) hp

/-! ## The result -/

theorem block_at (xg wg : EReal) (a : FVec Ideal S128x4096 .bf16) (E : FVec Ideal S2x256x256 .f32) (W : IVec S4096x256 8) (r : Fin 128) (m : Fin 256)
    (p : Fin 2) : blockOf (F := Ideal) xg wg a E W (ix2 r (blockCol m p))
      = (∑ k : Fin 4096, a (ix2 r k) * (val1 (F := Ideal) (nib p (W (ix2 k m))) * E (ix3 p (groupOf k) m))) * xg * wg := by
  rw [← acc_at]
  unfold blockOf
  rw [inter_at]
  fin_cases p <;> rfl

/-- The block a pair of columns is in, and the pair within it. -/
def blockIn (j : Fin 7168) : Fin 28 := ⟨j.val / 256, by omega⟩
def pairIn (j : Fin 7168) : Fin 256 := ⟨j.val % 256, by omega⟩

theorem y_at (xg wg : EReal) (a : FVec Ideal S128x4096 .bf16) (W : IVec S4096x7168 8) (S : FVec Ideal S256x14336 .fp8e4m3)
    (r : Fin 128) (j : Fin 7168) (p : Fin 2) :
    yOf (F := Ideal) xg wg a W S (ix2 r (colPair j p)) = (∑ k : Fin 4096, a (ix2 r k) * wtOf W S k j p) * xg * wg := by
  have e : yOf (F := Ideal) xg wg a W S (ix2 r (colPair j p)) = blkY (F := Ideal) xg wg a W S (blockIn j) (ix2 r (blockCol (pairIn j) p)) := by
    unfold yOf
    have e1 : (⟨(colPair j p).val / 512, by have := (colPair j p).isLt; omega⟩ : Fin 28) = blockIn j := Fin.ext (by
      show (j.val * 2 + p.val) / 512 = j.val / 256; omega)
    have e2 : (fun | 0 => ⟨r.val, r.isLt⟩ | 1 => ⟨(colPair j p).val % 512, Nat.mod_lt _ (by decide)⟩ : S128x512.Idx) = ix2 r (blockCol (pairIn j) p) := by
      funext b
      apply Fin.ext
      match b with
      | 0 => rfl
      | 1 => show (j.val * 2 + p.val) % 512 = 2 * (j.val % 256) + p.val; omega
    exact congrArg₂ (fun b i => blkY (F := Ideal) xg wg a W S b i) e1 e2
  rw [e]
  unfold blkY
  rw [block_at]
  refine congrArg (fun t => t * xg * wg) (Finset.sum_congr rfl fun k _ => ?_)
  rw [expanded_at]
  have e1 : (rWs (blockIn j)).emb (ix2 k (pairIn j)) = ix2 k j := by
    funext b
    apply Fin.ext
    match b with
    | 0 => show 0 + 1 * k.val = k.val; omega
    | 1 => show 256 * (j.val / 256) + 1 * (j.val % 256) = j.val; omega
  have e2 : (rSs (blockIn j)).emb (ix2 (groupOf k) (blockCol (pairIn j) p)) = ix2 (groupOf k) (colPair j p) := by
    funext b
    apply Fin.ext
    match b with
    | 0 => show 0 + 1 * (groupOf k).val = (groupOf k).val; omega
    | 1 => show 512 * (j.val / 256) + 1 * (2 * (j.val % 256) + p.val) = j.val * 2 + p.val; omega
  unfold wtOf
  rw [← e1, ← e2]
  rfl

end Cert.Proof.Value
-- ==== Proof.Value.lean ====
/- The kernel's four results and the reference's are the same arrays. -/
module

public import proofs.«01_k».proof.Proof.KerProduct
public import proofs.«01_k».proof.Proof.Launch
public import Idealize.ShloMosaic.Lib.Claim

@[expose] public section

set_option maxRecDepth 16384

noncomputable section

namespace Cert.Proof.Value

open Idealize.ShloMosaic Idealize.ShloMosaic.TcCoe
open Idealize.SL.Sem

/-! ## The arguments as each program's call finds them -/

section
open Cert.KernelIdeal Cert.KernelIdeal.Gen Cert.Proof.KernelIdeal

variable (m : (ℓ : Loc nD τ sig) → Buf (Elt Ideal) ℓ) (c : Dev nD)

theorem inX_eq : inX m c = shapeCast S128x4096 (m ((c.tc : Thread nD τ).loc main_arg0) : FVec Ideal S1x128x4096 .bf16)
    Shapes1.Facts₀.shapeCasts_S1x128x4096_S128x4096 := by
  unfold inX V
  simp only [StableHlo.after_cons, StableHlo.after_nil]
  rw [StableHlo.reshape_result, StableHlo.reshape_result_ne]
  rotate_left
  · decide
  rfl

theorem inG_eq : inG m c origin = (m ((c.tc : Thread nD τ).loc main_arg3) : FVec Ideal S_ .f32) (fun a => a.elim0) := by
  have h : V m c main_v0 = fun i => shapeCast S1x1 (m ((c.tc : Thread nD τ).loc main_arg3) : FVec Ideal S_ .f32) Shapes1.Facts₀.shapeCasts_S_S1x1 i := by
    unfold V
    simp only [StableHlo.after_cons, StableHlo.after_nil]
    rw [StableHlo.reshape_result_ne, StableHlo.reshape_result]
    · rfl
    · decide
  unfold inG iblk
  show V m c main_v0 _ = _
  rw [h]
  exact congrArg (m ((c.tc : Thread nD τ).loc main_arg3) : FVec Ideal S_ .f32) (funext fun a => a.elim0)

end

section
open Cert.ReferenceIdeal Cert.ReferenceIdeal.Gen Cert.Proof.ReferenceIdeal

variable (m : (ℓ : Loc nD τ sig) → Buf (Elt Ideal) ℓ) (c : Dev nD)

theorem refX_eq : (iblk m c 0 t0_0 : FVec Ideal S128x4096 .bf16) = shapeCast S128x4096 (m ((c.tc : Thread nD τ).loc main_arg0) : FVec Ideal S1x128x4096 .bf16)
    Facts₀.shapeCasts_S1x128x4096_S128x4096 := by
  have h : V m c main_v0 = fun i => shapeCast S128x4096 (m ((c.tc : Thread nD τ).loc main_arg0) : FVec Ideal S1x128x4096 .bf16) Facts₀.shapeCasts_S1x128x4096_S128x4096 i := by
    unfold V
    simp only [StableHlo.after_cons, StableHlo.after_nil]
    rw [StableHlo.reshape_result_ne, StableHlo.reshape_result]
    · rfl
    · decide
  have h' : (iblk m c 0 t0_0 : FVec Ideal S128x4096 .bf16) = V m c main_v0 := by
    have z : ∀ a, win0_0.index t0_0 a = 0 := fun a => rfl
    funext i
    blk_ext [iblk, z]
  rw [h', h]

theorem refW_eq : (iblk m c 1 t0_0 : IVec S4096x7168 8) = m ((c.tc : Thread nD τ).loc main_arg1) := by
  rw [← V_main_arg1 m c]
  have z : ∀ a, win0_1.index t0_0 a = 0 := fun a => rfl
  funext i
  blk_ext [iblk, z]

theorem refS_eq : (iblk m c 2 t0_0 : FVec Ideal S256x14336 .fp8e4m3) = m ((c.tc : Thread nD τ).loc main_arg2) := by
  rw [← V_main_arg2 m c]
  have z : ∀ a, win0_2.index t0_0 a = 0 := fun a => rfl
  funext i
  blk_ext [iblk, z]

theorem refG_eq : (iblk m c 3 t0_0 : FVec Ideal S1x1 .f32) only = (m ((c.tc : Thread nD τ).loc main_arg3) : FVec Ideal S_ .f32) (fun a => a.elim0) := by
  have h : V m c main_v1 = fun i => shapeCast S1x1 (m ((c.tc : Thread nD τ).loc main_arg3) : FVec Ideal S_ .f32) Facts₀.shapeCasts_S_S1x1 i := by
    unfold V
    simp only [StableHlo.after_cons, StableHlo.after_nil]
    rw [StableHlo.reshape_result, StableHlo.reshape_result_ne]
    · rfl
    · decide
  unfold iblk
  show V m c main_v1 _ = _
  rw [h]
  exact congrArg (m ((c.tc : Thread nD τ).loc main_arg3) : FVec Ideal S_ .f32) (funext fun a => a.elim0)

end

/-! ## The results -/

section
open Cert.KernelIdeal Cert.Proof.KernelIdeal Cert.Proof.ReferenceIdeal

variable (x : FVec Ideal S128x4096 .bf16)

/-- An entry of a matrix, by row and column. -/
theorem ext2 {α : Type} {a b : Nat} {f g : (⟨2, ![a, b]⟩ : Shape).Idx → α} (h : ∀ (i : Fin a) (j : Fin b), f (ix2 i j) = g (ix2 i j)) : f = g := by
  funext i
  have e : i = ix2 (i 0) (i 1) := by
    funext b
    match b with
    | 0 => rfl
    | 1 => rfl
  rw [e]
  exact h _ _

theorem global_same : xgOf x = Cert.ReferenceIdeal.Gen.k0_pay3 (F := Ideal) x := (xg_eq x).trans (pay3_eq x).symm

theorem scale_same : sOf x = Cert.ReferenceIdeal.Gen.k0_pay4 (F := Ideal) x :=
  ext2 fun r g => (sOf_at x r g).trans (pay4_at x r g).symm

theorem codes_same : pOf (cOf x) = Cert.ReferenceIdeal.Gen.k0_pay39 (Cert.ReferenceIdeal.Gen.k0_pay10 (codesR (F := Ideal) x)) :=
  ext2 fun r m => (pOf_at x r m).trans (codes_at x r m).symm

theorem y_same (W : IVec S4096x7168 8) (S : FVec Ideal S256x14336 .fp8e4m3) (g : EReal) :
    yOf (F := Ideal) (xgOf x) g (aOf x) W S = yR (F := Ideal) x W S g :=
  ext2 fun r n => by
    have e : n = colPair ⟨n.val / 2, by omega⟩ ⟨n.val % 2, by omega⟩ := Fin.ext (by show n.val = n.val / 2 * 2 + n.val % 2; omega)
    rw [e, y_at]
    refine Eq.trans ?_ (yR_at x W S g r _ _).symm
    rw [xg_eq]
    unfold dotOf
    refine congrArg (fun t => t * gOf x * g) (Finset.sum_congr rfl fun k _ => ?_)
    rw [aOf_at]

end

end Cert.Proof.Value
-- ==== Proof.lean ====
module

public import proofs.«01_k».proof.Defs
public import proofs.«01_k».proof.Proof.Launch
public import proofs.«01_k».proof.Proof.BitsFrame
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.SL.Sem

/-- The kernel and the reference end with equal results, at the extended reals. -/
theorem algebraic : Cert.algebraic_KernelIdeal_ReferenceIdeal := by
  intro m g m' g' _ same
  refine ⟨fun c => Cert.Proof.KernelIdeal.outY m c, fun c => Cert.Proof.KernelIdeal.outC m c, fun c => Cert.Proof.KernelIdeal.outS m c,
    fun c => Cert.Proof.KernelIdeal.outG m c, ?_, ?_⟩
  · exact (θ_run Cert.KernelIdeal.defs _ _).mono (fun r h c => ⟨(h.1 c).1.1, (h.1 c).1.2.1, (h.1 c).1.2.2.1, (h.1 c).1.2.2.2, (h.1 c).2⟩)
      (Cert.Proof.KernelIdeal.results m g)
  · refine (θ_run Cert.ReferenceIdeal.defs _ _).mono (fun r h c => ?_) (Cert.ReferenceIdeal.Value.run_blocks m' g')
    obtain ⟨h0, h1, h2, h3, h4⟩ := h c
    obtain ⟨a0, a1, a2, a3⟩ := same c
    have ex : Cert.ReferenceIdeal.Gen.iblk m' c 0 Cert.ReferenceIdeal.Gen.t0_0 = Cert.Proof.KernelIdeal.inX m c := by
      rw [Value.inX_eq, ← a0]
      exact Value.refX_eq m' c
    have ew : Cert.ReferenceIdeal.Gen.iblk m' c 1 Cert.ReferenceIdeal.Gen.t0_0 = Cert.Proof.KernelIdeal.inW m c :=
      (Value.refW_eq m' c).trans (a1.trans (Cert.KernelIdeal.Gen.V_main_arg1 m c).symm)
    have es : Cert.ReferenceIdeal.Gen.iblk m' c 2 Cert.ReferenceIdeal.Gen.t0_0 = Cert.Proof.KernelIdeal.inS m c :=
      (Value.refS_eq m' c).trans (a2.trans (Cert.KernelIdeal.Gen.V_main_arg2 m c).symm)
    have eg : (Cert.ReferenceIdeal.Gen.iblk m' c 3 Cert.ReferenceIdeal.Gen.t0_0 : FVec Ideal Cert.ReferenceIdeal.S1x1 .f32) Cert.Proof.ReferenceIdeal.only
        = Cert.Proof.KernelIdeal.inG m c Cert.Proof.KernelIdeal.origin := by
      rw [Value.inG_eq, ← a3]
      exact Value.refG_eq m' c
    refine ⟨?_, ?_, ?_, ?_, h4⟩
    · refine h0.trans ((Cert.Proof.ReferenceIdeal.arr_y m' c _ eg).trans ?_)
      rw [ex, ew, es]
      exact (Value.y_same _ _ _ _).symm
    · refine h1.trans ((Cert.Proof.ReferenceIdeal.arr_codes m' c).trans ?_)
      rw [ex]
      exact (Value.codes_same _).symm
    · refine h2.trans ((Cert.Proof.ReferenceIdeal.arr_scale m' c).trans ?_)
      rw [ex]
      exact (Value.scale_same _).symm
    · refine h3.trans ((Cert.Proof.ReferenceIdeal.arr_global m' c).trans ?_)
      rw [ex]
      exact funext fun _ => (Value.global_same _).symm

theorem claim : Cert.Claim :=
  ⟨Cert.Kernel.Gen.facts, Cert.KernelIdeal.Gen.facts, Cert.ReferenceIdeal.Gen.facts,
    fun m ρ _ => Cert.Proof.Kernel.frame m ρ,
    fun m ρ _ => Cert.Proof.KernelIdeal.frame m ρ,
    fun m ρ _ => Cert.ReferenceIdeal.Gen.frame m ρ,
    trivial, algebraic⟩

end Cert.Proof

end
